-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_within_capacity_KernelIdeal [hPre_within_capacity_KernelIdeal : Cert.Pre_within_capacity_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_within_capacity_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_within_capacity_ReferenceIdeal [hPre_within_capacity_ReferenceIdeal : Cert.Pre_within_capacity_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_within_capacity_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_within_capacity_KernelIdeal [hKernelIdeal : Cert.KernelIdeal.Facts] [hPre_within_capacity_KernelIdeal : Cert.Pre_within_capacity_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_within_capacity_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_within_capacity_ReferenceIdeal [hReferenceIdeal : Cert.ReferenceIdeal.Facts] [hPre_within_capacity_ReferenceIdeal : Cert.Pre_within_capacity_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_within_capacity_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_within_capacity_KernelIdeal [hKernelIdeal : Cert.KernelIdeal.Facts] [hReferenceIdeal : Cert.ReferenceIdeal.Facts] [hPre_within_capacity_KernelIdeal : Cert.Pre_within_capacity_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_within_capacity_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![8192, 256]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![512, 1]⟩ ⟨2, ![8192, 1]⟩ 0 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![4, 256, 512]⟩ ⟨3, ![64, 256, 512]⟩ 0 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 512]⟩ ⟨2, ![8192, 512]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v27) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_within_capacity_KernelIdeal : Cert.Pre_within_capacity_KernelIdeal.Facts) (hPre_within_capacity_ReferenceIdeal : Cert.Pre_within_capacity_ReferenceIdeal.Facts),
    quiescent_Kernel (hKernel := hKernel)
    ∧ quiescent_KernelIdeal (hKernelIdeal := hKernelIdeal)
    ∧ quiescent_KernelIdeal_pre_within_capacity_KernelIdeal (hKernelIdeal := hKernelIdeal) (hPre_within_capacity_KernelIdeal := hPre_within_capacity_KernelIdeal)
    ∧ quiescent_ReferenceIdeal (hReferenceIdeal := hReferenceIdeal)
    ∧ quiescent_ReferenceIdeal_pre_within_capacity_ReferenceIdeal (hReferenceIdeal := hReferenceIdeal) (hPre_within_capacity_ReferenceIdeal := hPre_within_capacity_ReferenceIdeal)
    ∧ preserves_Kernel_KernelIdeal
    ∧ algebraic_KernelIdeal_ReferenceIdeal_pre_within_capacity_KernelIdeal (hKernelIdeal := hKernelIdeal) (hReferenceIdeal := hReferenceIdeal) (hPre_within_capacity_KernelIdeal := hPre_within_capacity_KernelIdeal)
-- ==== Pre_within_capacity_KernelIdeal.lean ====
abbrev S512x256 : Shape := ⟨2, ![512, 256]⟩
abbrev S256x64 : Shape := ⟨2, ![256, 64]⟩
abbrev S512x1 : Shape := ⟨2, ![512, 1]⟩
abbrev S4x256x512 : Shape := ⟨3, ![4, 256, 512]⟩
abbrev S256x512 : Shape := ⟨2, ![256, 512]⟩
abbrev S_ : Shape := ⟨0, ![]⟩
abbrev S16 : Shape := ⟨1, ![16]⟩
abbrev S1x16 : Shape := ⟨2, ![1, 16]⟩
abbrev S512x16 : Shape := ⟨2, ![512, 16]⟩

class Facts : Prop where
  bcast_S_S512x1 : S_.BroadcastsInDim S512x1 (![] : Fin 0 → Fin S512x1.rank)
  bcast_S16_S1x16_1 : S16.BroadcastsInDim S1x16 (![1] : Fin 1 → Fin S1x16.rank)
  bcast_S512x1_S512x16_0_1 : S512x1.BroadcastsInDim S512x16 (![0, 1] : Fin 2 → Fin S512x16.rank)
  bcast_S1x16_S512x16_0_1 : S1x16.BroadcastsInDim S512x16 (![0, 1] : Fin 2 → Fin S512x16.rank)
  natLt_1_32 : 1 < 32
  reducesTo_S512x16_S16_d0 : S512x16.ReducesTo [0] S16
  h_S_ : 0 < S_.numel
  bcast_S_S1x16 : S_.BroadcastsInDim S1x16 (![] : Fin 0 → Fin S1x16.rank)

variable [Facts]

def fn_where {F : FTy → Type} [FloatOps F] (arg0 : IVec S512x1 1) (arg1 : IVec S512x1 32) (arg2 : IVec S512x1 32) : IVec S512x1 32 :=
  let v0 : IVec S512x1 32 := select arg0 arg1 arg2
  v0

def fn_floor_divide {F : FTy → Type} [FloatOps F] (arg0 : IVec S512x1 32) (arg1 : IVec S_ 32) : IVec S512x1 32 :=
  let v0 : IVec S_ 32 := id arg1
  let v1 : IVec S512x1 32 := broadcastInDim S512x1 ![] bcast_S_S512x1 v0
  let v2 : IVec S512x1 32 := Host.divsi arg0 v1
  let v3 : IVec S512x1 32 := signi arg0
  let v4 : IVec S_ 32 := signi v0
  let v5 : IVec S512x1 32 := broadcastInDim S512x1 ![] bcast_S_S512x1 v4
  let v6 : IVec S512x1 1 := cmpi .ne v3 v5
  let v7 : IVec S512x1 32 := broadcastInDim S512x1 ![] bcast_S_S512x1 v0
  let v8 : IVec S512x1 32 := Host.remsi arg0 v7
  let c : IVec S_ 32 := constantI S_ 32 0#32
  let v9 : IVec S512x1 32 := broadcastInDim S512x1 ![] bcast_S_S512x1 c
  let v10 : IVec S512x1 1 := cmpi .ne v8 v9
  let v11 : IVec S512x1 1 := andi v6 v10
  let c_0 : IVec S_ 32 := constantI S_ 32 1#32
  let v12 : IVec S512x1 32 := broadcastInDim S512x1 ![] bcast_S_S512x1 c_0
  let v13 : IVec S512x1 32 := subi v2 v12
  let v14 : IVec S512x1 32 := fn_where (F := F) v11 v13 v2
  v14

def fn {F : FTy → Type} [FloatOps F] (main_arg0 : FVec F S512x256 .bf16) (main_arg1 : FVec F S256x64 .bf16) (main_arg2 : IVec S512x1 32) (main_arg3 : FVec F S4x256x512 .bf16) (main_arg4 : FVec F S256x512 .bf16) : IVec S512x16 1 :=
  let main_c : IVec S_ 32 := constantI S_ 32 4#32
  let main_v0 : IVec S512x1 32 := fn_floor_divide (F := F) main_arg2 main_c
  let main_v1 : IVec S16 32 := iotaInDim S16 32 0
  let main_v2 : IVec S1x16 32 := broadcastInDim S1x16 ![1] bcast_S16_S1x16_1 main_v1
  let main_v3 : IVec S512x16 32 := broadcastInDim S512x16 ![0, 1] bcast_S512x1_S512x16_0_1 main_v0
  let main_v4 : IVec S512x16 32 := broadcastInDim S512x16 ![0, 1] bcast_S1x16_S512x16_0_1 main_v2
  let main_v5 : IVec S512x16 1 := cmpi .eq main_v3 main_v4
  let main_v6 : IVec S512x16 32 := (extui 32 · natLt_1_32) main_v5
  let main_c_0 : IVec S_ 32 := constantI S_ 32 0#32
  let main_v7 : IVec S16 32 := (fun x v => Host.reduce IntOp.addi x v reducesTo_S512x16_S16_d0 h_S_) main_v6 main_c_0
  let main_v8 : IVec S1x16 32 := broadcastInDim S1x16 ![1] bcast_S16_S1x16_1 main_v7
  let main_c_1 : IVec S_ 32 := constantI S_ 32 0#32
  let main_v9 : IVec S512x1 32 := broadcastInDim S512x1 ![] bcast_S_S512x1 main_c_1
  let main_v10 : IVec S512x1 1 := cmpi .sge main_arg2 main_v9
  let main_c_2 : IVec S_ 32 := constantI S_ 32 64#32
  let main_v11 : IVec S512x1 32 := broadcastInDim S512x1 ![] bcast_S_S512x1 main_c_2
  let main_v12 : IVec S512x1 1 := cmpi .slt main_arg2 main_v11
  let main_v13 : IVec S512x1 1 := andi main_v10 main_v12
  let main_c_3 : IVec S_ 32 := constantI S_ 32 96#32
  let main_v14 : IVec S1x16 32 := broadcastInDim S1x16 ![] bcast_S_S1x16 main_c_3
  let main_v15 : IVec S1x16 1 := cmpi .sle main_v8 main_v14
  let main_v16 : IVec S512x16 1 := broadcastInDim S512x16 ![0, 1] bcast_S512x1_S512x16_0_1 main_v13
  let main_v17 : IVec S512x16 1 := broadcastInDim S512x16 ![0, 1] bcast_S1x16_S512x16_0_1 main_v15
  let main_v18 : IVec S512x16 1 := andi main_v16 main_v17
  main_v18
-- ==== Pre_within_capacity_ReferenceIdeal.lean ====
abbrev S8192x256 : Shape := ⟨2, ![8192, 256]⟩
abbrev S256x64 : Shape := ⟨2, ![256, 64]⟩
abbrev S8192x1 : Shape := ⟨2, ![8192, 1]⟩
abbrev S64x256x512 : Shape := ⟨3, ![64, 256, 512]⟩
abbrev S256x512 : Shape := ⟨2, ![256, 512]⟩
abbrev S_ : Shape := ⟨0, ![]⟩
abbrev S16 : Shape := ⟨1, ![16]⟩
abbrev S1x16 : Shape := ⟨2, ![1, 16]⟩
abbrev S8192x16 : Shape := ⟨2, ![8192, 16]⟩

class Facts : Prop where
  bcast_S_S8192x1 : S_.BroadcastsInDim S8192x1 (![] : Fin 0 → Fin S8192x1.rank)
  bcast_S16_S1x16_1 : S16.BroadcastsInDim S1x16 (![1] : Fin 1 → Fin S1x16.rank)
  bcast_S8192x1_S8192x16_0_1 : S8192x1.BroadcastsInDim S8192x16 (![0, 1] : Fin 2 → Fin S8192x16.rank)
  bcast_S1x16_S8192x16_0_1 : S1x16.BroadcastsInDim S8192x16 (![0, 1] : Fin 2 → Fin S8192x16.rank)
  natLt_1_32 : 1 < 32
  reducesTo_S8192x16_S16_d0 : S8192x16.ReducesTo [0] S16
  h_S_ : 0 < S_.numel
  bcast_S_S1x16 : S_.BroadcastsInDim S1x16 (![] : Fin 0 → Fin S1x16.rank)

variable [Facts]

def fn_where {F : FTy → Type} [FloatOps F] (arg0 : IVec S8192x1 1) (arg1 : IVec S8192x1 32) (arg2 : IVec S8192x1 32) : IVec S8192x1 32 :=
  let v0 : IVec S8192x1 32 := select arg0 arg1 arg2
  v0

def fn_floor_divide {F : FTy → Type} [FloatOps F] (arg0 : IVec S8192x1 32) (arg1 : IVec S_ 32) : IVec S8192x1 32 :=
  let v0 : IVec S_ 32 := id arg1
  let v1 : IVec S8192x1 32 := broadcastInDim S8192x1 ![] bcast_S_S8192x1 v0
  let v2 : IVec S8192x1 32 := Host.divsi arg0 v1
  let v3 : IVec S8192x1 32 := signi arg0
  let v4 : IVec S_ 32 := signi v0
  let v5 : IVec S8192x1 32 := broadcastInDim S8192x1 ![] bcast_S_S8192x1 v4
  let v6 : IVec S8192x1 1 := cmpi .ne v3 v5
  let v7 : IVec S8192x1 32 := broadcastInDim S8192x1 ![] bcast_S_S8192x1 v0
  let v8 : IVec S8192x1 32 := Host.remsi arg0 v7
  let c : IVec S_ 32 := constantI S_ 32 0#32
  let v9 : IVec S8192x1 32 := broadcastInDim S8192x1 ![] bcast_S_S8192x1 c
  let v10 : IVec S8192x1 1 := cmpi .ne v8 v9
  let v11 : IVec S8192x1 1 := andi v6 v10
  let c_0 : IVec S_ 32 := constantI S_ 32 1#32
  let v12 : IVec S8192x1 32 := broadcastInDim S8192x1 ![] bcast_S_S8192x1 c_0
  let v13 : IVec S8192x1 32 := subi v2 v12
  let v14 : IVec S8192x1 32 := fn_where (F := F) v11 v13 v2
  v14

def fn {F : FTy → Type} [FloatOps F] (main_arg0 : FVec F S8192x256 .bf16) (main_arg1 : FVec F S256x64 .bf16) (main_arg2 : IVec S8192x1 32) (main_arg3 : FVec F S64x256x512 .bf16) (main_arg4 : FVec F S256x512 .bf16) : IVec S8192x16 1 :=
  let main_c : IVec S_ 32 := constantI S_ 32 4#32
  let main_v0 : IVec S8192x1 32 := fn_floor_divide (F := F) main_arg2 main_c
  let main_v1 : IVec S16 32 := iotaInDim S16 32 0
  let main_v2 : IVec S1x16 32 := broadcastInDim S1x16 ![1] bcast_S16_S1x16_1 main_v1
  let main_v3 : IVec S8192x16 32 := broadcastInDim S8192x16 ![0, 1] bcast_S8192x1_S8192x16_0_1 main_v0
  let main_v4 : IVec S8192x16 32 := broadcastInDim S8192x16 ![0, 1] bcast_S1x16_S8192x16_0_1 main_v2
  let main_v5 : IVec S8192x16 1 := cmpi .eq main_v3 main_v4
  let main_v6 : IVec S8192x16 32 := (extui 32 · natLt_1_32) main_v5
  let main_c_0 : IVec S_ 32 := constantI S_ 32 0#32
  let main_v7 : IVec S16 32 := (fun x v => Host.reduce IntOp.addi x v reducesTo_S8192x16_S16_d0 h_S_) main_v6 main_c_0
  let main_v8 : IVec S1x16 32 := broadcastInDim S1x16 ![1] bcast_S16_S1x16_1 main_v7
  let main_c_1 : IVec S_ 32 := constantI S_ 32 0#32
  let main_v9 : IVec S8192x1 32 := broadcastInDim S8192x1 ![] bcast_S_S8192x1 main_c_1
  let main_v10 : IVec S8192x1 1 := cmpi .sge main_arg2 main_v9
  let main_c_2 : IVec S_ 32 := constantI S_ 32 64#32
  let main_v11 : IVec S8192x1 32 := broadcastInDim S8192x1 ![] bcast_S_S8192x1 main_c_2
  let main_v12 : IVec S8192x1 1 := cmpi .slt main_arg2 main_v11
  let main_v13 : IVec S8192x1 1 := andi main_v10 main_v12
  let main_c_3 : IVec S_ 32 := constantI S_ 32 96#32
  let main_v14 : IVec S1x16 32 := broadcastInDim S1x16 ![] bcast_S_S1x16 main_c_3
  let main_v15 : IVec S1x16 1 := cmpi .sle main_v8 main_v14
  let main_v16 : IVec S8192x16 1 := broadcastInDim S8192x16 ![0, 1] bcast_S8192x1_S8192x16_0_1 main_v13
  let main_v17 : IVec S8192x16 1 := broadcastInDim S8192x16 ![0, 1] bcast_S1x16_S8192x16_0_1 main_v15
  let main_v18 : IVec S8192x16 1 := andi main_v16 main_v17
  main_v18
-- ==== Kernel.lean ====
abbrev S512x256 : Shape := ⟨2, ![512, 256]⟩
abbrev S256x64 : Shape := ⟨2, ![256, 64]⟩
abbrev S512x1 : Shape := ⟨2, ![512, 1]⟩
abbrev S4x256x512 : Shape := ⟨3, ![4, 256, 512]⟩
abbrev S256x512 : Shape := ⟨2, ![256, 512]⟩
abbrev S512x512 : Shape := ⟨2, ![512, 512]⟩
abbrev S16x96x384 : Shape := ⟨3, ![16, 96, 384]⟩
abbrev S16x96x512 : Shape := ⟨3, ![16, 96, 512]⟩
abbrev S16 : Shape := ⟨1, ![16]⟩
abbrev S_ : Shape := ⟨0, ![]⟩
abbrev S512x127 : Shape := ⟨2, ![512, 127]⟩
abbrev S512x384 : Shape := ⟨2, ![512, 384]⟩
abbrev S512x16 : Shape := ⟨2, ![512, 16]⟩
abbrev S512 : Shape := ⟨1, ![512]⟩
abbrev S512x1536 : Shape := ⟨2, ![512, 1536]⟩
abbrev S1536x384 : Shape := ⟨2, ![1536, 384]⟩
abbrev S1 : Shape := ⟨1, ![1]⟩
abbrev S1x96x384 : Shape := ⟨3, ![1, 96, 384]⟩
abbrev S96x384 : Shape := ⟨2, ![96, 384]⟩
abbrev S512x64 : Shape := ⟨2, ![512, 64]⟩
abbrev S1024x512 : Shape := ⟨2, ![1024, 512]⟩
abbrev S96x256 : Shape := ⟨2, ![96, 256]⟩
abbrev S96x1 : Shape := ⟨2, ![96, 1]⟩
abbrev S96x1024 : Shape := ⟨2, ![96, 1024]⟩
abbrev S96x512 : Shape := ⟨2, ![96, 512]⟩
abbrev S1x96x512 : Shape := ⟨3, ![1, 96, 512]⟩
abbrev S1536x512 : Shape := ⟨2, ![1536, 512]⟩

abbrev nBuf : Space → Nat
  | .hbm => 6
  | .vmem => 10
  | .smem => 0
  | _ => 0

abbrev bufTy : (tb : Table) → Fin (tcTables nBuf tb) → BufTy
  | .hbm, ⟨0, _⟩ => ⟨S512x256, .bf16⟩
  | .hbm, ⟨1, _⟩ => ⟨S256x64, .bf16⟩
  | .hbm, ⟨2, _⟩ => ⟨S512x1, .i32⟩
  | .hbm, ⟨3, _⟩ => ⟨S4x256x512, .bf16⟩
  | .hbm, ⟨4, _⟩ => ⟨S256x512, .bf16⟩
  | .hbm, ⟨5, _⟩ => ⟨S512x512, .f32⟩
  | .local _ .vmem, ⟨0, _⟩ => ⟨S512x256, .bf16⟩
  | .local _ .vmem, ⟨1, _⟩ => ⟨S256x64, .bf16⟩
  | .local _ .vmem, ⟨2, _⟩ => ⟨S512x1, .i32⟩
  | .local _ .vmem, ⟨3, _⟩ => ⟨S4x256x512, .bf16⟩
  | .local _ .vmem, ⟨4, _⟩ => ⟨S256x512, .bf16⟩
  | .local _ .vmem, ⟨5, _⟩ => ⟨S512x512, .f32⟩
  | .local _ .vmem, ⟨6, _⟩ => ⟨S16x96x384, .bf16⟩
  | .local _ .vmem, ⟨7, _⟩ => ⟨S16x96x384, .bf16⟩
  | .local _ .vmem, ⟨8, _⟩ => ⟨S16x96x512, .bf16⟩
  | .local _ .vmem, ⟨9, _⟩ => ⟨S16x96x512, .bf16⟩
  | _, _ => ⟨S512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  (ofTc nBuf bufTy 1 70 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .ne v2 c0_i32
  let v5 : BitVec 32 := Scalar.extui v4
  let c0_i32_0 : BitVec 32 := 0#32
  let v6 : BitVec 1 := Scalar.cmpi .ne v5 c0_i32_0
  v6

def k0_dev1 : Nat :=
  let c0_i32_491 : BitVec 32 := 0#32
  let c0_i32_489 : BitVec 32 := 0#32
  let c1_i32_490 : BitVec 32 := 1#32
  let v1006 : BitVec 32 := Scalar.muli c0_i32_489 c1_i32_490
  let v1007 : BitVec 32 := Scalar.addi c0_i32_491 v1006
  v1007.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v7 : BitVec 1 := Scalar.cmpi .ne v2 c1_i32_1
  let v8 : BitVec 32 := Scalar.extui v7
  let c0_i32_2 : BitVec 32 := 0#32
  let v9 : BitVec 1 := Scalar.cmpi .ne v8 c0_i32_2
  v9

def k0_dev2 : Nat :=
  let c0_i32_491 : BitVec 32 := 0#32
  let c1_i32_489 : BitVec 32 := 1#32
  let c1_i32_490 : BitVec 32 := 1#32
  let v1006 : BitVec 32 := Scalar.muli c1_i32_489 c1_i32_490
  let v1007 : BitVec 32 := Scalar.addi c0_i32_491 v1006
  v1007.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v10 : BitVec 1 := Scalar.cmpi .ne v2 c2_i32
  let v11 : BitVec 32 := Scalar.extui v10
  let c0_i32_3 : BitVec 32 := 0#32
  let v12 : BitVec 1 := Scalar.cmpi .ne v11 c0_i32_3
  v12

def k0_dev3 : Nat :=
  let c0_i32_491 : BitVec 32 := 0#32
  let c2_i32_489 : BitVec 32 := 2#32
  let c1_i32_490 : BitVec 32 := 1#32
  let v1006 : BitVec 32 := Scalar.muli c2_i32_489 c1_i32_490
  let v1007 : BitVec 32 := Scalar.addi c0_i32_491 v1006
  v1007.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v13 : BitVec 1 := Scalar.cmpi .ne v2 c3_i32
  let v14 : BitVec 32 := Scalar.extui v13
  let c0_i32_4 : BitVec 32 := 0#32
  let v15 : BitVec 1 := Scalar.cmpi .ne v14 c0_i32_4
  v15

def k0_dev4 : Nat :=
  let c0_i32_491 : BitVec 32 := 0#32
  let c3_i32_489 : BitVec 32 := 3#32
  let c1_i32_490 : BitVec 32 := 1#32
  let v1006 : BitVec 32 := Scalar.muli c3_i32_489 c1_i32_490
  let v1007 : BitVec 32 := Scalar.addi c0_i32_491 v1006
  v1007.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 1 := Scalar.cmpi .ne v2 c4_i32
  let v17 : BitVec 32 := Scalar.extui v16
  let c0_i32_5 : BitVec 32 := 0#32
  let v18 : BitVec 1 := Scalar.cmpi .ne v17 c0_i32_5
  v18

def k0_dev5 : Nat :=
  let c0_i32_491 : BitVec 32 := 0#32
  let c4_i32_489 : BitVec 32 := 4#32
  let c1_i32_490 : BitVec 32 := 1#32
  let v1006 : BitVec 32 := Scalar.muli c4_i32_489 c1_i32_490
  let v1007 : BitVec 32 := Scalar.addi c0_i32_491 v1006
  v1007.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v19 : BitVec 1 := Scalar.cmpi .ne v2 c5_i32
  let v20 : BitVec 32 := Scalar.extui v19
  let c0_i32_6 : BitVec 32 := 0#32
  let v21 : BitVec 1 := Scalar.cmpi .ne v20 c0_i32_6
  v21

def k0_dev6 : Nat :=
  let c0_i32_491 : BitVec 32 := 0#32
  let c5_i32_489 : BitVec 32 := 5#32
  let c1_i32_490 : BitVec 32 := 1#32
  let v1006 : BitVec 32 := Scalar.muli c5_i32_489 c1_i32_490
  let v1007 : BitVec 32 := Scalar.addi c0_i32_491 v1006
  v1007.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v22 : BitVec 1 := Scalar.cmpi .ne v2 c6_i32
  let v23 : BitVec 32 := Scalar.extui v22
  let c0_i32_7 : BitVec 32 := 0#32
  let v24 : BitVec 1 := Scalar.cmpi .ne v23 c0_i32_7
  v24

def k0_dev7 : Nat :=
  let c0_i32_491 : BitVec 32 := 0#32
  let c6_i32_489 : BitVec 32 := 6#32
  let c1_i32_490 : BitVec 32 := 1#32
  let v1006 : BitVec 32 := Scalar.muli c6_i32_489 c1_i32_490
  let v1007 : BitVec 32 := Scalar.addi c0_i32_491 v1006
  v1007.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v25 : BitVec 1 := Scalar.cmpi .ne v2 c7_i32
  let v26 : BitVec 32 := Scalar.extui v25
  let c0_i32_8 : BitVec 32 := 0#32
  let v27 : BitVec 1 := Scalar.cmpi .ne v26 c0_i32_8
  v27

def k0_dev8 : Nat :=
  let c0_i32_491 : BitVec 32 := 0#32
  let c7_i32_489 : BitVec 32 := 7#32
  let c1_i32_490 : BitVec 32 := 1#32
  let v1006 : BitVec 32 := Scalar.muli c7_i32_489 c1_i32_490
  let v1007 : BitVec 32 := Scalar.addi c0_i32_491 v1006
  v1007.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v28 : BitVec 1 := Scalar.cmpi .ne v2 c8_i32
  let v29 : BitVec 32 := Scalar.extui v28
  let c0_i32_9 : BitVec 32 := 0#32
  let v30 : BitVec 1 := Scalar.cmpi .ne v29 c0_i32_9
  v30

def k0_dev9 : Nat :=
  let c0_i32_491 : BitVec 32 := 0#32
  let c8_i32_489 : BitVec 32 := 8#32
  let c1_i32_490 : BitVec 32 := 1#32
  let v1006 : BitVec 32 := Scalar.muli c8_i32_489 c1_i32_490
  let v1007 : BitVec 32 := Scalar.addi c0_i32_491 v1006
  v1007.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v31 : BitVec 1 := Scalar.cmpi .ne v2 c9_i32
  let v32 : BitVec 32 := Scalar.extui v31
  let c0_i32_10 : BitVec 32 := 0#32
  let v33 : BitVec 1 := Scalar.cmpi .ne v32 c0_i32_10
  v33

def k0_dev10 : Nat :=
  let c0_i32_491 : BitVec 32 := 0#32
  let c9_i32_489 : BitVec 32 := 9#32
  let c1_i32_490 : BitVec 32 := 1#32
  let v1006 : BitVec 32 := Scalar.muli c9_i32_489 c1_i32_490
  let v1007 : BitVec 32 := Scalar.addi c0_i32_491 v1006
  v1007.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v34 : BitVec 1 := Scalar.cmpi .ne v2 c10_i32
  let v35 : BitVec 32 := Scalar.extui v34
  let c0_i32_11 : BitVec 32 := 0#32
  let v36 : BitVec 1 := Scalar.cmpi .ne v35 c0_i32_11
  v36

def k0_dev11 : Nat :=
  let c0_i32_491 : BitVec 32 := 0#32
  let c10_i32_489 : BitVec 32 := 10#32
  let c1_i32_490 : BitVec 32 := 1#32
  let v1006 : BitVec 32 := Scalar.muli c10_i32_489 c1_i32_490
  let v1007 : BitVec 32 := Scalar.addi c0_i32_491 v1006
  v1007.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v37 : BitVec 1 := Scalar.cmpi .ne v2 c11_i32
  let v38 : BitVec 32 := Scalar.extui v37
  let c0_i32_12 : BitVec 32 := 0#32
  let v39 : BitVec 1 := Scalar.cmpi .ne v38 c0_i32_12
  v39

def k0_dev12 : Nat :=
  let c0_i32_491 : BitVec 32 := 0#32
  let c11_i32_489 : BitVec 32 := 11#32
  let c1_i32_490 : BitVec 32 := 1#32
  let v1006 : BitVec 32 := Scalar.muli c11_i32_489 c1_i32_490
  let v1007 : BitVec 32 := Scalar.addi c0_i32_491 v1006
  v1007.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v40 : BitVec 1 := Scalar.cmpi .ne v2 c12_i32
  let v41 : BitVec 32 := Scalar.extui v40
  let c0_i32_13 : BitVec 32 := 0#32
  let v42 : BitVec 1 := Scalar.cmpi .ne v41 c0_i32_13
  v42

def k0_dev13 : Nat :=
  let c0_i32_491 : BitVec 32 := 0#32
  let c12_i32_489 : BitVec 32 := 12#32
  let c1_i32_490 : BitVec 32 := 1#32
  let v1006 : BitVec 32 := Scalar.muli c12_i32_489 c1_i32_490
  let v1007 : BitVec 32 := Scalar.addi c0_i32_491 v1006
  v1007.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v43 : BitVec 1 := Scalar.cmpi .ne v2 c13_i32
  let v44 : BitVec 32 := Scalar.extui v43
  let c0_i32_14 : BitVec 32 := 0#32
  let v45 : BitVec 1 := Scalar.cmpi .ne v44 c0_i32_14
  v45

def k0_dev14 : Nat :=
  let c0_i32_491 : BitVec 32 := 0#32
  let c13_i32_489 : BitVec 32 := 13#32
  let c1_i32_490 : BitVec 32 := 1#32
  let v1006 : BitVec 32 := Scalar.muli c13_i32_489 c1_i32_490
  let v1007 : BitVec 32 := Scalar.addi c0_i32_491 v1006
  v1007.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v46 : BitVec 1 := Scalar.cmpi .ne v2 c14_i32
  let v47 : BitVec 32 := Scalar.extui v46
  let c0_i32_15 : BitVec 32 := 0#32
  let v48 : BitVec 1 := Scalar.cmpi .ne v47 c0_i32_15
  v48

def k0_dev15 : Nat :=
  let c0_i32_491 : BitVec 32 := 0#32
  let c14_i32_489 : BitVec 32 := 14#32
  let c1_i32_490 : BitVec 32 := 1#32
  let v1006 : BitVec 32 := Scalar.muli c14_i32_489 c1_i32_490
  let v1007 : BitVec 32 := Scalar.addi c0_i32_491 v1006
  v1007.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v49 : BitVec 1 := Scalar.cmpi .ne v2 c15_i32
  let v50 : BitVec 32 := Scalar.extui v49
  let c0_i32_16 : BitVec 32 := 0#32
  let v51 : BitVec 1 := Scalar.cmpi .ne v50 c0_i32_16
  v51

def k0_dev16 : Nat :=
  let c0_i32_491 : BitVec 32 := 0#32
  let c15_i32_489 : BitVec 32 := 15#32
  let c1_i32_490 : BitVec 32 := 1#32
  let v1006 : BitVec 32 := Scalar.muli c15_i32_489 c1_i32_490
  let v1007 : BitVec 32 := Scalar.addi c0_i32_491 v1006
  v1007.toNat
def k0_cond17 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_46 : BitVec 32 := 0#32
  let v134 : BitVec 1 := Scalar.cmpi .ne v2 c0_i32_46
  let v135 : BitVec 32 := Scalar.extui v134
  let c0_i32_47 : BitVec 32 := 0#32
  let v136 : BitVec 1 := Scalar.cmpi .ne v135 c0_i32_47
  v136

def k0_off1 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_493 : BitVec 32 := 0#32
  let c0_i32_494 : BitVec 32 := 0#32
  ![v2.toNat, 0, 0]
def k0_dev17 : Nat :=
  let c0_i32_492 : BitVec 32 := 0#32
  let c0_i32_490 : BitVec 32 := 0#32
  let c1_i32_491 : BitVec 32 := 1#32
  let v1006 : BitVec 32 := Scalar.muli c0_i32_490 c1_i32_491
  let v1007 : BitVec 32 := Scalar.addi c0_i32_492 v1006
  v1007.toNat
def k0_cond18 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_48 : BitVec 32 := 1#32
  let v137 : BitVec 1 := Scalar.cmpi .ne v2 c1_i32_48
  let v138 : BitVec 32 := Scalar.extui v137
  let c0_i32_49 : BitVec 32 := 0#32
  let v139 : BitVec 1 := Scalar.cmpi .ne v138 c0_i32_49
  v139

def k0_off3 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_493 : BitVec 32 := 0#32
  let c0_i32_494 : BitVec 32 := 0#32
  ![v2.toNat, 0, 0]
def k0_dev18 : Nat :=
  let c0_i32_492 : BitVec 32 := 0#32
  let c1_i32_490 : BitVec 32 := 1#32
  let c1_i32_491 : BitVec 32 := 1#32
  let v1006 : BitVec 32 := Scalar.muli c1_i32_490 c1_i32_491
  let v1007 : BitVec 32 := Scalar.addi c0_i32_492 v1006
  v1007.toNat
def k0_cond19 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_50 : BitVec 32 := 2#32
  let v140 : BitVec 1 := Scalar.cmpi .ne v2 c2_i32_50
  let v141 : BitVec 32 := Scalar.extui v140
  let c0_i32_51 : BitVec 32 := 0#32
  let v142 : BitVec 1 := Scalar.cmpi .ne v141 c0_i32_51
  v142

def k0_off5 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off6 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_493 : BitVec 32 := 0#32
  let c0_i32_494 : BitVec 32 := 0#32
  ![v2.toNat, 0, 0]
def k0_dev19 : Nat :=
  let c0_i32_492 : BitVec 32 := 0#32
  let c2_i32_490 : BitVec 32 := 2#32
  let c1_i32_491 : BitVec 32 := 1#32
  let v1006 : BitVec 32 := Scalar.muli c2_i32_490 c1_i32_491
  let v1007 : BitVec 32 := Scalar.addi c0_i32_492 v1006
  v1007.toNat
def k0_cond20 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_52 : BitVec 32 := 3#32
  let v143 : BitVec 1 := Scalar.cmpi .ne v2 c3_i32_52
  let v144 : BitVec 32 := Scalar.extui v143
  let c0_i32_53 : BitVec 32 := 0#32
  let v145 : BitVec 1 := Scalar.cmpi .ne v144 c0_i32_53
  v145

def k0_off7 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off8 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_493 : BitVec 32 := 0#32
  let c0_i32_494 : BitVec 32 := 0#32
  ![v2.toNat, 0, 0]
def k0_dev20 : Nat :=
  let c0_i32_492 : BitVec 32 := 0#32
  let c3_i32_490 : BitVec 32 := 3#32
  let c1_i32_491 : BitVec 32 := 1#32
  let v1006 : BitVec 32 := Scalar.muli c3_i32_490 c1_i32_491
  let v1007 : BitVec 32 := Scalar.addi c0_i32_492 v1006
  v1007.toNat
def k0_cond21 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_54 : BitVec 32 := 4#32
  let v146 : BitVec 1 := Scalar.cmpi .ne v2 c4_i32_54
  let v147 : BitVec 32 := Scalar.extui v146
  let c0_i32_55 : BitVec 32 := 0#32
  let v148 : BitVec 1 := Scalar.cmpi .ne v147 c0_i32_55
  v148

def k0_off9 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off10 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_493 : BitVec 32 := 0#32
  let c0_i32_494 : BitVec 32 := 0#32
  ![v2.toNat, 0, 0]
def k0_dev21 : Nat :=
  let c0_i32_492 : BitVec 32 := 0#32
  let c4_i32_490 : BitVec 32 := 4#32
  let c1_i32_491 : BitVec 32 := 1#32
  let v1006 : BitVec 32 := Scalar.muli c4_i32_490 c1_i32_491
  let v1007 : BitVec 32 := Scalar.addi c0_i32_492 v1006
  v1007.toNat
def k0_cond22 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_56 : BitVec 32 := 5#32
  let v149 : BitVec 1 := Scalar.cmpi .ne v2 c5_i32_56
  let v150 : BitVec 32 := Scalar.extui v149
  let c0_i32_57 : BitVec 32 := 0#32
  let v151 : BitVec 1 := Scalar.cmpi .ne v150 c0_i32_57
  v151

def k0_off11 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off12 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_493 : BitVec 32 := 0#32
  let c0_i32_494 : BitVec 32 := 0#32
  ![v2.toNat, 0, 0]
def k0_dev22 : Nat :=
  let c0_i32_492 : BitVec 32 := 0#32
  let c5_i32_490 : BitVec 32 := 5#32
  let c1_i32_491 : BitVec 32 := 1#32
  let v1006 : BitVec 32 := Scalar.muli c5_i32_490 c1_i32_491
  let v1007 : BitVec 32 := Scalar.addi c0_i32_492 v1006
  v1007.toNat
def k0_cond23 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_58 : BitVec 32 := 6#32
  let v152 : BitVec 1 := Scalar.cmpi .ne v2 c6_i32_58
  let v153 : BitVec 32 := Scalar.extui v152
  let c0_i32_59 : BitVec 32 := 0#32
  let v154 : BitVec 1 := Scalar.cmpi .ne v153 c0_i32_59
  v154

def k0_off13 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off14 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_493 : BitVec 32 := 0#32
  let c0_i32_494 : BitVec 32 := 0#32
  ![v2.toNat, 0, 0]
def k0_dev23 : Nat :=
  let c0_i32_492 : BitVec 32 := 0#32
  let c6_i32_490 : BitVec 32 := 6#32
  let c1_i32_491 : BitVec 32 := 1#32
  let v1006 : BitVec 32 := Scalar.muli c6_i32_490 c1_i32_491
  let v1007 : BitVec 32 := Scalar.addi c0_i32_492 v1006
  v1007.toNat
def k0_cond24 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_60 : BitVec 32 := 7#32
  let v155 : BitVec 1 := Scalar.cmpi .ne v2 c7_i32_60
  let v156 : BitVec 32 := Scalar.extui v155
  let c0_i32_61 : BitVec 32 := 0#32
  let v157 : BitVec 1 := Scalar.cmpi .ne v156 c0_i32_61
  v157

def k0_off15 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off16 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_493 : BitVec 32 := 0#32
  let c0_i32_494 : BitVec 32 := 0#32
  ![v2.toNat, 0, 0]
def k0_dev24 : Nat :=
  let c0_i32_492 : BitVec 32 := 0#32
  let c7_i32_490 : BitVec 32 := 7#32
  let c1_i32_491 : BitVec 32 := 1#32
  let v1006 : BitVec 32 := Scalar.muli c7_i32_490 c1_i32_491
  let v1007 : BitVec 32 := Scalar.addi c0_i32_492 v1006
  v1007.toNat
def k0_cond25 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_62 : BitVec 32 := 8#32
  let v158 : BitVec 1 := Scalar.cmpi .ne v2 c8_i32_62
  let v159 : BitVec 32 := Scalar.extui v158
  let c0_i32_63 : BitVec 32 := 0#32
  let v160 : BitVec 1 := Scalar.cmpi .ne v159 c0_i32_63
  v160

def k0_off17 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off18 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_493 : BitVec 32 := 0#32
  let c0_i32_494 : BitVec 32 := 0#32
  ![v2.toNat, 0, 0]
def k0_dev25 : Nat :=
  let c0_i32_492 : BitVec 32 := 0#32
  let c8_i32_490 : BitVec 32 := 8#32
  let c1_i32_491 : BitVec 32 := 1#32
  let v1006 : BitVec 32 := Scalar.muli c8_i32_490 c1_i32_491
  let v1007 : BitVec 32 := Scalar.addi c0_i32_492 v1006
  v1007.toNat
def k0_cond26 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_64 : BitVec 32 := 9#32
  let v161 : BitVec 1 := Scalar.cmpi .ne v2 c9_i32_64
  let v162 : BitVec 32 := Scalar.extui v161
  let c0_i32_65 : BitVec 32 := 0#32
  let v163 : BitVec 1 := Scalar.cmpi .ne v162 c0_i32_65
  v163

def k0_off19 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off20 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_493 : BitVec 32 := 0#32
  let c0_i32_494 : BitVec 32 := 0#32
  ![v2.toNat, 0, 0]
def k0_dev26 : Nat :=
  let c0_i32_492 : BitVec 32 := 0#32
  let c9_i32_490 : BitVec 32 := 9#32
  let c1_i32_491 : BitVec 32 := 1#32
  let v1006 : BitVec 32 := Scalar.muli c9_i32_490 c1_i32_491
  let v1007 : BitVec 32 := Scalar.addi c0_i32_492 v1006
  v1007.toNat
def k0_cond27 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_66 : BitVec 32 := 10#32
  let v164 : BitVec 1 := Scalar.cmpi .ne v2 c10_i32_66
  let v165 : BitVec 32 := Scalar.extui v164
  let c0_i32_67 : BitVec 32 := 0#32
  let v166 : BitVec 1 := Scalar.cmpi .ne v165 c0_i32_67
  v166

def k0_off21 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off22 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_493 : BitVec 32 := 0#32
  let c0_i32_494 : BitVec 32 := 0#32
  ![v2.toNat, 0, 0]
def k0_dev27 : Nat :=
  let c0_i32_492 : BitVec 32 := 0#32
  let c10_i32_490 : BitVec 32 := 10#32
  let c1_i32_491 : BitVec 32 := 1#32
  let v1006 : BitVec 32 := Scalar.muli c10_i32_490 c1_i32_491
  let v1007 : BitVec 32 := Scalar.addi c0_i32_492 v1006
  v1007.toNat
def k0_cond28 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_68 : BitVec 32 := 11#32
  let v167 : BitVec 1 := Scalar.cmpi .ne v2 c11_i32_68
  let v168 : BitVec 32 := Scalar.extui v167
  let c0_i32_69 : BitVec 32 := 0#32
  let v169 : BitVec 1 := Scalar.cmpi .ne v168 c0_i32_69
  v169

def k0_off23 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off24 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_493 : BitVec 32 := 0#32
  let c0_i32_494 : BitVec 32 := 0#32
  ![v2.toNat, 0, 0]
def k0_dev28 : Nat :=
  let c0_i32_492 : BitVec 32 := 0#32
  let c11_i32_490 : BitVec 32 := 11#32
  let c1_i32_491 : BitVec 32 := 1#32
  let v1006 : BitVec 32 := Scalar.muli c11_i32_490 c1_i32_491
  let v1007 : BitVec 32 := Scalar.addi c0_i32_492 v1006
  v1007.toNat
def k0_cond29 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_70 : BitVec 32 := 12#32
  let v170 : BitVec 1 := Scalar.cmpi .ne v2 c12_i32_70
  let v171 : BitVec 32 := Scalar.extui v170
  let c0_i32_71 : BitVec 32 := 0#32
  let v172 : BitVec 1 := Scalar.cmpi .ne v171 c0_i32_71
  v172

def k0_off25 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off26 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_493 : BitVec 32 := 0#32
  let c0_i32_494 : BitVec 32 := 0#32
  ![v2.toNat, 0, 0]
def k0_dev29 : Nat :=
  let c0_i32_492 : BitVec 32 := 0#32
  let c12_i32_490 : BitVec 32 := 12#32
  let c1_i32_491 : BitVec 32 := 1#32
  let v1006 : BitVec 32 := Scalar.muli c12_i32_490 c1_i32_491
  let v1007 : BitVec 32 := Scalar.addi c0_i32_492 v1006
  v1007.toNat
def k0_cond30 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_72 : BitVec 32 := 13#32
  let v173 : BitVec 1 := Scalar.cmpi .ne v2 c13_i32_72
  let v174 : BitVec 32 := Scalar.extui v173
  let c0_i32_73 : BitVec 32 := 0#32
  let v175 : BitVec 1 := Scalar.cmpi .ne v174 c0_i32_73
  v175

def k0_off27 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off28 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_493 : BitVec 32 := 0#32
  let c0_i32_494 : BitVec 32 := 0#32
  ![v2.toNat, 0, 0]
def k0_dev30 : Nat :=
  let c0_i32_492 : BitVec 32 := 0#32
  let c13_i32_490 : BitVec 32 := 13#32
  let c1_i32_491 : BitVec 32 := 1#32
  let v1006 : BitVec 32 := Scalar.muli c13_i32_490 c1_i32_491
  let v1007 : BitVec 32 := Scalar.addi c0_i32_492 v1006
  v1007.toNat
def k0_cond31 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_74 : BitVec 32 := 14#32
  let v176 : BitVec 1 := Scalar.cmpi .ne v2 c14_i32_74
  let v177 : BitVec 32 := Scalar.extui v176
  let c0_i32_75 : BitVec 32 := 0#32
  let v178 : BitVec 1 := Scalar.cmpi .ne v177 c0_i32_75
  v178

def k0_off29 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off30 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_493 : BitVec 32 := 0#32
  let c0_i32_494 : BitVec 32 := 0#32
  ![v2.toNat, 0, 0]
def k0_dev31 : Nat :=
  let c0_i32_492 : BitVec 32 := 0#32
  let c14_i32_490 : BitVec 32 := 14#32
  let c1_i32_491 : BitVec 32 := 1#32
  let v1006 : BitVec 32 := Scalar.muli c14_i32_490 c1_i32_491
  let v1007 : BitVec 32 := Scalar.addi c0_i32_492 v1006
  v1007.toNat
def k0_cond32 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v179 : BitVec 1 := Scalar.cmpi .ne v2 c15_i32_76
  let v180 : BitVec 32 := Scalar.extui v179
  let c0_i32_77 : BitVec 32 := 0#32
  let v181 : BitVec 1 := Scalar.cmpi .ne v180 c0_i32_77
  v181

def k0_off31 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off32 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_493 : BitVec 32 := 0#32
  let c0_i32_494 : BitVec 32 := 0#32
  ![v2.toNat, 0, 0]
def k0_dev32 : Nat :=
  let c0_i32_492 : BitVec 32 := 0#32
  let c15_i32_490 : BitVec 32 := 15#32
  let c1_i32_491 : BitVec 32 := 1#32
  let v1006 : BitVec 32 := Scalar.muli c15_i32_490 c1_i32_491
  let v1007 : BitVec 32 := Scalar.addi c0_i32_492 v1006
  v1007.toNat
def k0_off33 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v182 : Index := Scalar.indexCast v2
  let c0_78 : Index := 0#32
  let c0_79 : Index := 0#32
  ![v182.toNat, 0, 0]
def k0_cond34 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_114 : BitVec 32 := 0#32
  let v252 : BitVec 1 := Scalar.cmpi .ne v2 c0_i32_114
  let v253 : BitVec 32 := Scalar.extui v252
  let c0_i32_115 : BitVec 32 := 0#32
  let v254 : BitVec 1 := Scalar.cmpi .ne v253 c0_i32_115
  v254

def k0_off34 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off35 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_493 : BitVec 32 := 0#32
  let c0_i32_494 : BitVec 32 := 0#32
  ![v2.toNat, 0, 0]
def k0_dev33 : Nat :=
  let c0_i32_492 : BitVec 32 := 0#32
  let c0_i32_490 : BitVec 32 := 0#32
  let c1_i32_491 : BitVec 32 := 1#32
  let v1006 : BitVec 32 := Scalar.muli c0_i32_490 c1_i32_491
  let v1007 : BitVec 32 := Scalar.addi c0_i32_492 v1006
  v1007.toNat
def k0_cond37 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_134 : BitVec 32 := 1#32
  let v295 : BitVec 1 := Scalar.cmpi .ne v2 c1_i32_134
  let v296 : BitVec 32 := Scalar.extui v295
  let c0_i32_135 : BitVec 32 := 0#32
  let v297 : BitVec 1 := Scalar.cmpi .ne v296 c0_i32_135
  v297

def k0_off36 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off37 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_493 : BitVec 32 := 0#32
  let c0_i32_494 : BitVec 32 := 0#32
  ![v2.toNat, 0, 0]
def k0_dev34 : Nat :=
  let c0_i32_492 : BitVec 32 := 0#32
  let c1_i32_490 : BitVec 32 := 1#32
  let c1_i32_491 : BitVec 32 := 1#32
  let v1006 : BitVec 32 := Scalar.muli c1_i32_490 c1_i32_491
  let v1007 : BitVec 32 := Scalar.addi c0_i32_492 v1006
  v1007.toNat
def k0_cond40 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_154 : BitVec 32 := 2#32
  let v338 : BitVec 1 := Scalar.cmpi .ne v2 c2_i32_154
  let v339 : BitVec 32 := Scalar.extui v338
  let c0_i32_155 : BitVec 32 := 0#32
  let v340 : BitVec 1 := Scalar.cmpi .ne v339 c0_i32_155
  v340

def k0_off38 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off39 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_493 : BitVec 32 := 0#32
  let c0_i32_494 : BitVec 32 := 0#32
  ![v2.toNat, 0, 0]
def k0_dev35 : Nat :=
  let c0_i32_492 : BitVec 32 := 0#32
  let c2_i32_490 : BitVec 32 := 2#32
  let c1_i32_491 : BitVec 32 := 1#32
  let v1006 : BitVec 32 := Scalar.muli c2_i32_490 c1_i32_491
  let v1007 : BitVec 32 := Scalar.addi c0_i32_492 v1006
  v1007.toNat
def k0_cond43 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_174 : BitVec 32 := 3#32
  let v381 : BitVec 1 := Scalar.cmpi .ne v2 c3_i32_174
  let v382 : BitVec 32 := Scalar.extui v381
  let c0_i32_175 : BitVec 32 := 0#32
  let v383 : BitVec 1 := Scalar.cmpi .ne v382 c0_i32_175
  v383

def k0_off40 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off41 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_493 : BitVec 32 := 0#32
  let c0_i32_494 : BitVec 32 := 0#32
  ![v2.toNat, 0, 0]
def k0_dev36 : Nat :=
  let c0_i32_492 : BitVec 32 := 0#32
  let c3_i32_490 : BitVec 32 := 3#32
  let c1_i32_491 : BitVec 32 := 1#32
  let v1006 : BitVec 32 := Scalar.muli c3_i32_490 c1_i32_491
  let v1007 : BitVec 32 := Scalar.addi c0_i32_492 v1006
  v1007.toNat
def k0_cond46 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_194 : BitVec 32 := 4#32
  let v424 : BitVec 1 := Scalar.cmpi .ne v2 c4_i32_194
  let v425 : BitVec 32 := Scalar.extui v424
  let c0_i32_195 : BitVec 32 := 0#32
  let v426 : BitVec 1 := Scalar.cmpi .ne v425 c0_i32_195
  v426

def k0_off42 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off43 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_493 : BitVec 32 := 0#32
  let c0_i32_494 : BitVec 32 := 0#32
  ![v2.toNat, 0, 0]
def k0_dev37 : Nat :=
  let c0_i32_492 : BitVec 32 := 0#32
  let c4_i32_490 : BitVec 32 := 4#32
  let c1_i32_491 : BitVec 32 := 1#32
  let v1006 : BitVec 32 := Scalar.muli c4_i32_490 c1_i32_491
  let v1007 : BitVec 32 := Scalar.addi c0_i32_492 v1006
  v1007.toNat
def k0_cond49 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_214 : BitVec 32 := 5#32
  let v467 : BitVec 1 := Scalar.cmpi .ne v2 c5_i32_214
  let v468 : BitVec 32 := Scalar.extui v467
  let c0_i32_215 : BitVec 32 := 0#32
  let v469 : BitVec 1 := Scalar.cmpi .ne v468 c0_i32_215
  v469

def k0_off44 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off45 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_493 : BitVec 32 := 0#32
  let c0_i32_494 : BitVec 32 := 0#32
  ![v2.toNat, 0, 0]
def k0_dev38 : Nat :=
  let c0_i32_492 : BitVec 32 := 0#32
  let c5_i32_490 : BitVec 32 := 5#32
  let c1_i32_491 : BitVec 32 := 1#32
  let v1006 : BitVec 32 := Scalar.muli c5_i32_490 c1_i32_491
  let v1007 : BitVec 32 := Scalar.addi c0_i32_492 v1006
  v1007.toNat
def k0_cond52 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_234 : BitVec 32 := 6#32
  let v510 : BitVec 1 := Scalar.cmpi .ne v2 c6_i32_234
  let v511 : BitVec 32 := Scalar.extui v510
  let c0_i32_235 : BitVec 32 := 0#32
  let v512 : BitVec 1 := Scalar.cmpi .ne v511 c0_i32_235
  v512

def k0_off46 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off47 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_493 : BitVec 32 := 0#32
  let c0_i32_494 : BitVec 32 := 0#32
  ![v2.toNat, 0, 0]
def k0_dev39 : Nat :=
  let c0_i32_492 : BitVec 32 := 0#32
  let c6_i32_490 : BitVec 32 := 6#32
  let c1_i32_491 : BitVec 32 := 1#32
  let v1006 : BitVec 32 := Scalar.muli c6_i32_490 c1_i32_491
  let v1007 : BitVec 32 := Scalar.addi c0_i32_492 v1006
  v1007.toNat
def k0_cond55 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_254 : BitVec 32 := 7#32
  let v553 : BitVec 1 := Scalar.cmpi .ne v2 c7_i32_254
  let v554 : BitVec 32 := Scalar.extui v553
  let c0_i32_255 : BitVec 32 := 0#32
  let v555 : BitVec 1 := Scalar.cmpi .ne v554 c0_i32_255
  v555

def k0_off48 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off49 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_493 : BitVec 32 := 0#32
  let c0_i32_494 : BitVec 32 := 0#32
  ![v2.toNat, 0, 0]
def k0_dev40 : Nat :=
  let c0_i32_492 : BitVec 32 := 0#32
  let c7_i32_490 : BitVec 32 := 7#32
  let c1_i32_491 : BitVec 32 := 1#32
  let v1006 : BitVec 32 := Scalar.muli c7_i32_490 c1_i32_491
  let v1007 : BitVec 32 := Scalar.addi c0_i32_492 v1006
  v1007.toNat
def k0_cond58 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_274 : BitVec 32 := 8#32
  let v596 : BitVec 1 := Scalar.cmpi .ne v2 c8_i32_274
  let v597 : BitVec 32 := Scalar.extui v596
  let c0_i32_275 : BitVec 32 := 0#32
  let v598 : BitVec 1 := Scalar.cmpi .ne v597 c0_i32_275
  v598

def k0_off50 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off51 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_493 : BitVec 32 := 0#32
  let c0_i32_494 : BitVec 32 := 0#32
  ![v2.toNat, 0, 0]
def k0_dev41 : Nat :=
  let c0_i32_492 : BitVec 32 := 0#32
  let c8_i32_490 : BitVec 32 := 8#32
  let c1_i32_491 : BitVec 32 := 1#32
  let v1006 : BitVec 32 := Scalar.muli c8_i32_490 c1_i32_491
  let v1007 : BitVec 32 := Scalar.addi c0_i32_492 v1006
  v1007.toNat
def k0_cond61 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_294 : BitVec 32 := 9#32
  let v639 : BitVec 1 := Scalar.cmpi .ne v2 c9_i32_294
  let v640 : BitVec 32 := Scalar.extui v639
  let c0_i32_295 : BitVec 32 := 0#32
  let v641 : BitVec 1 := Scalar.cmpi .ne v640 c0_i32_295
  v641

def k0_off52 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off53 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_493 : BitVec 32 := 0#32
  let c0_i32_494 : BitVec 32 := 0#32
  ![v2.toNat, 0, 0]
def k0_dev42 : Nat :=
  let c0_i32_492 : BitVec 32 := 0#32
  let c9_i32_490 : BitVec 32 := 9#32
  let c1_i32_491 : BitVec 32 := 1#32
  let v1006 : BitVec 32 := Scalar.muli c9_i32_490 c1_i32_491
  let v1007 : BitVec 32 := Scalar.addi c0_i32_492 v1006
  v1007.toNat
def k0_cond64 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_314 : BitVec 32 := 10#32
  let v682 : BitVec 1 := Scalar.cmpi .ne v2 c10_i32_314
  let v683 : BitVec 32 := Scalar.extui v682
  let c0_i32_315 : BitVec 32 := 0#32
  let v684 : BitVec 1 := Scalar.cmpi .ne v683 c0_i32_315
  v684

def k0_off54 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off55 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_493 : BitVec 32 := 0#32
  let c0_i32_494 : BitVec 32 := 0#32
  ![v2.toNat, 0, 0]
def k0_dev43 : Nat :=
  let c0_i32_492 : BitVec 32 := 0#32
  let c10_i32_490 : BitVec 32 := 10#32
  let c1_i32_491 : BitVec 32 := 1#32
  let v1006 : BitVec 32 := Scalar.muli c10_i32_490 c1_i32_491
  let v1007 : BitVec 32 := Scalar.addi c0_i32_492 v1006
  v1007.toNat
def k0_cond67 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_334 : BitVec 32 := 11#32
  let v725 : BitVec 1 := Scalar.cmpi .ne v2 c11_i32_334
  let v726 : BitVec 32 := Scalar.extui v725
  let c0_i32_335 : BitVec 32 := 0#32
  let v727 : BitVec 1 := Scalar.cmpi .ne v726 c0_i32_335
  v727

def k0_off56 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off57 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_493 : BitVec 32 := 0#32
  let c0_i32_494 : BitVec 32 := 0#32
  ![v2.toNat, 0, 0]
def k0_dev44 : Nat :=
  let c0_i32_492 : BitVec 32 := 0#32
  let c11_i32_490 : BitVec 32 := 11#32
  let c1_i32_491 : BitVec 32 := 1#32
  let v1006 : BitVec 32 := Scalar.muli c11_i32_490 c1_i32_491
  let v1007 : BitVec 32 := Scalar.addi c0_i32_492 v1006
  v1007.toNat
def k0_cond70 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_354 : BitVec 32 := 12#32
  let v768 : BitVec 1 := Scalar.cmpi .ne v2 c12_i32_354
  let v769 : BitVec 32 := Scalar.extui v768
  let c0_i32_355 : BitVec 32 := 0#32
  let v770 : BitVec 1 := Scalar.cmpi .ne v769 c0_i32_355
  v770

def k0_off58 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off59 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_493 : BitVec 32 := 0#32
  let c0_i32_494 : BitVec 32 := 0#32
  ![v2.toNat, 0, 0]
def k0_dev45 : Nat :=
  let c0_i32_492 : BitVec 32 := 0#32
  let c12_i32_490 : BitVec 32 := 12#32
  let c1_i32_491 : BitVec 32 := 1#32
  let v1006 : BitVec 32 := Scalar.muli c12_i32_490 c1_i32_491
  let v1007 : BitVec 32 := Scalar.addi c0_i32_492 v1006
  v1007.toNat
def k0_cond73 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_374 : BitVec 32 := 13#32
  let v811 : BitVec 1 := Scalar.cmpi .ne v2 c13_i32_374
  let v812 : BitVec 32 := Scalar.extui v811
  let c0_i32_375 : BitVec 32 := 0#32
  let v813 : BitVec 1 := Scalar.cmpi .ne v812 c0_i32_375
  v813

def k0_off60 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off61 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_493 : BitVec 32 := 0#32
  let c0_i32_494 : BitVec 32 := 0#32
  ![v2.toNat, 0, 0]
def k0_dev46 : Nat :=
  let c0_i32_492 : BitVec 32 := 0#32
  let c13_i32_490 : BitVec 32 := 13#32
  let c1_i32_491 : BitVec 32 := 1#32
  let v1006 : BitVec 32 := Scalar.muli c13_i32_490 c1_i32_491
  let v1007 : BitVec 32 := Scalar.addi c0_i32_492 v1006
  v1007.toNat
def k0_cond76 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_394 : BitVec 32 := 14#32
  let v854 : BitVec 1 := Scalar.cmpi .ne v2 c14_i32_394
  let v855 : BitVec 32 := Scalar.extui v854
  let c0_i32_395 : BitVec 32 := 0#32
  let v856 : BitVec 1 := Scalar.cmpi .ne v855 c0_i32_395
  v856

def k0_off62 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off63 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_493 : BitVec 32 := 0#32
  let c0_i32_494 : BitVec 32 := 0#32
  ![v2.toNat, 0, 0]
def k0_dev47 : Nat :=
  let c0_i32_492 : BitVec 32 := 0#32
  let c14_i32_490 : BitVec 32 := 14#32
  let c1_i32_491 : BitVec 32 := 1#32
  let v1006 : BitVec 32 := Scalar.muli c14_i32_490 c1_i32_491
  let v1007 : BitVec 32 := Scalar.addi c0_i32_492 v1006
  v1007.toNat
def k0_cond79 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_414 : BitVec 32 := 15#32
  let v897 : BitVec 1 := Scalar.cmpi .ne v2 c15_i32_414
  let v898 : BitVec 32 := Scalar.extui v897
  let c0_i32_415 : BitVec 32 := 0#32
  let v899 : BitVec 1 := Scalar.cmpi .ne v898 c0_i32_415
  v899

def k0_off64 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off65 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_493 : BitVec 32 := 0#32
  let c0_i32_494 : BitVec 32 := 0#32
  ![v2.toNat, 0, 0]
def k0_dev48 : Nat :=
  let c0_i32_492 : BitVec 32 := 0#32
  let c15_i32_490 : BitVec 32 := 15#32
  let c1_i32_491 : BitVec 32 := 1#32
  let v1006 : BitVec 32 := Scalar.muli c15_i32_490 c1_i32_491
  let v1007 : BitVec 32 := Scalar.addi c0_i32_492 v1006
  v1007.toNat
def k0_cond97 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_456 : BitVec 32 := 0#32
  let v958 : BitVec 1 := Scalar.cmpi .ne v2 c0_i32_456
  let v959 : BitVec 32 := Scalar.extui v958
  let c0_i32_457 : BitVec 32 := 0#32
  let v960 : BitVec 1 := Scalar.cmpi .ne v959 c0_i32_457
  v960

def k0_off66 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_494 : BitVec 32 := 0#32
  let c0_i32_495 : BitVec 32 := 0#32
  ![v2.toNat, 0, 0]
def k0_off67 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_502 : BitVec 32 := 0#32
  let c0_i32_503 : BitVec 32 := 0#32
  ![v2.toNat, 0, 0]
def k0_cond98 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_458 : BitVec 32 := 1#32
  let v961 : BitVec 1 := Scalar.cmpi .ne v2 c1_i32_458
  let v962 : BitVec 32 := Scalar.extui v961
  let c0_i32_459 : BitVec 32 := 0#32
  let v963 : BitVec 1 := Scalar.cmpi .ne v962 c0_i32_459
  v963

def k0_off68 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_494 : BitVec 32 := 0#32
  let c0_i32_495 : BitVec 32 := 0#32
  ![v2.toNat, 0, 0]
def k0_off69 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_502 : BitVec 32 := 0#32
  let c0_i32_503 : BitVec 32 := 0#32
  ![v2.toNat, 0, 0]
def k0_cond99 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_460 : BitVec 32 := 2#32
  let v964 : BitVec 1 := Scalar.cmpi .ne v2 c2_i32_460
  let v965 : BitVec 32 := Scalar.extui v964
  let c0_i32_461 : BitVec 32 := 0#32
  let v966 : BitVec 1 := Scalar.cmpi .ne v965 c0_i32_461
  v966

def k0_off70 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_494 : BitVec 32 := 0#32
  let c0_i32_495 : BitVec 32 := 0#32
  ![v2.toNat, 0, 0]
def k0_off71 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_502 : BitVec 32 := 0#32
  let c0_i32_503 : BitVec 32 := 0#32
  ![v2.toNat, 0, 0]
def k0_cond100 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_462 : BitVec 32 := 3#32
  let v967 : BitVec 1 := Scalar.cmpi .ne v2 c3_i32_462
  let v968 : BitVec 32 := Scalar.extui v967
  let c0_i32_463 : BitVec 32 := 0#32
  let v969 : BitVec 1 := Scalar.cmpi .ne v968 c0_i32_463
  v969

def k0_off72 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_494 : BitVec 32 := 0#32
  let c0_i32_495 : BitVec 32 := 0#32
  ![v2.toNat, 0, 0]
def k0_off73 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_502 : BitVec 32 := 0#32
  let c0_i32_503 : BitVec 32 := 0#32
  ![v2.toNat, 0, 0]
def k0_cond101 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_464 : BitVec 32 := 4#32
  let v970 : BitVec 1 := Scalar.cmpi .ne v2 c4_i32_464
  let v971 : BitVec 32 := Scalar.extui v970
  let c0_i32_465 : BitVec 32 := 0#32
  let v972 : BitVec 1 := Scalar.cmpi .ne v971 c0_i32_465
  v972

def k0_off74 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_494 : BitVec 32 := 0#32
  let c0_i32_495 : BitVec 32 := 0#32
  ![v2.toNat, 0, 0]
def k0_off75 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_502 : BitVec 32 := 0#32
  let c0_i32_503 : BitVec 32 := 0#32
  ![v2.toNat, 0, 0]
def k0_cond102 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_466 : BitVec 32 := 5#32
  let v973 : BitVec 1 := Scalar.cmpi .ne v2 c5_i32_466
  let v974 : BitVec 32 := Scalar.extui v973
  let c0_i32_467 : BitVec 32 := 0#32
  let v975 : BitVec 1 := Scalar.cmpi .ne v974 c0_i32_467
  v975

def k0_off76 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_494 : BitVec 32 := 0#32
  let c0_i32_495 : BitVec 32 := 0#32
  ![v2.toNat, 0, 0]
def k0_off77 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_502 : BitVec 32 := 0#32
  let c0_i32_503 : BitVec 32 := 0#32
  ![v2.toNat, 0, 0]
def k0_cond103 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_468 : BitVec 32 := 6#32
  let v976 : BitVec 1 := Scalar.cmpi .ne v2 c6_i32_468
  let v977 : BitVec 32 := Scalar.extui v976
  let c0_i32_469 : BitVec 32 := 0#32
  let v978 : BitVec 1 := Scalar.cmpi .ne v977 c0_i32_469
  v978

def k0_off78 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_494 : BitVec 32 := 0#32
  let c0_i32_495 : BitVec 32 := 0#32
  ![v2.toNat, 0, 0]
def k0_off79 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_502 : BitVec 32 := 0#32
  let c0_i32_503 : BitVec 32 := 0#32
  ![v2.toNat, 0, 0]
def k0_cond104 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_470 : BitVec 32 := 7#32
  let v979 : BitVec 1 := Scalar.cmpi .ne v2 c7_i32_470
  let v980 : BitVec 32 := Scalar.extui v979
  let c0_i32_471 : BitVec 32 := 0#32
  let v981 : BitVec 1 := Scalar.cmpi .ne v980 c0_i32_471
  v981

def k0_off80 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_494 : BitVec 32 := 0#32
  let c0_i32_495 : BitVec 32 := 0#32
  ![v2.toNat, 0, 0]
def k0_off81 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_502 : BitVec 32 := 0#32
  let c0_i32_503 : BitVec 32 := 0#32
  ![v2.toNat, 0, 0]
def k0_cond105 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_472 : BitVec 32 := 8#32
  let v982 : BitVec 1 := Scalar.cmpi .ne v2 c8_i32_472
  let v983 : BitVec 32 := Scalar.extui v982
  let c0_i32_473 : BitVec 32 := 0#32
  let v984 : BitVec 1 := Scalar.cmpi .ne v983 c0_i32_473
  v984

def k0_off82 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_494 : BitVec 32 := 0#32
  let c0_i32_495 : BitVec 32 := 0#32
  ![v2.toNat, 0, 0]
def k0_off83 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_502 : BitVec 32 := 0#32
  let c0_i32_503 : BitVec 32 := 0#32
  ![v2.toNat, 0, 0]
def k0_cond106 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_474 : BitVec 32 := 9#32
  let v985 : BitVec 1 := Scalar.cmpi .ne v2 c9_i32_474
  let v986 : BitVec 32 := Scalar.extui v985
  let c0_i32_475 : BitVec 32 := 0#32
  let v987 : BitVec 1 := Scalar.cmpi .ne v986 c0_i32_475
  v987

def k0_off84 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_494 : BitVec 32 := 0#32
  let c0_i32_495 : BitVec 32 := 0#32
  ![v2.toNat, 0, 0]
def k0_off85 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_502 : BitVec 32 := 0#32
  let c0_i32_503 : BitVec 32 := 0#32
  ![v2.toNat, 0, 0]
def k0_cond107 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_476 : BitVec 32 := 10#32
  let v988 : BitVec 1 := Scalar.cmpi .ne v2 c10_i32_476
  let v989 : BitVec 32 := Scalar.extui v988
  let c0_i32_477 : BitVec 32 := 0#32
  let v990 : BitVec 1 := Scalar.cmpi .ne v989 c0_i32_477
  v990

def k0_off86 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_494 : BitVec 32 := 0#32
  let c0_i32_495 : BitVec 32 := 0#32
  ![v2.toNat, 0, 0]
def k0_off87 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_502 : BitVec 32 := 0#32
  let c0_i32_503 : BitVec 32 := 0#32
  ![v2.toNat, 0, 0]
def k0_cond108 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_478 : BitVec 32 := 11#32
  let v991 : BitVec 1 := Scalar.cmpi .ne v2 c11_i32_478
  let v992 : BitVec 32 := Scalar.extui v991
  let c0_i32_479 : BitVec 32 := 0#32
  let v993 : BitVec 1 := Scalar.cmpi .ne v992 c0_i32_479
  v993

def k0_off88 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_494 : BitVec 32 := 0#32
  let c0_i32_495 : BitVec 32 := 0#32
  ![v2.toNat, 0, 0]
def k0_off89 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_502 : BitVec 32 := 0#32
  let c0_i32_503 : BitVec 32 := 0#32
  ![v2.toNat, 0, 0]
def k0_cond109 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_480 : BitVec 32 := 12#32
  let v994 : BitVec 1 := Scalar.cmpi .ne v2 c12_i32_480
  let v995 : BitVec 32 := Scalar.extui v994
  let c0_i32_481 : BitVec 32 := 0#32
  let v996 : BitVec 1 := Scalar.cmpi .ne v995 c0_i32_481
  v996

def k0_off90 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_494 : BitVec 32 := 0#32
  let c0_i32_495 : BitVec 32 := 0#32
  ![v2.toNat, 0, 0]
def k0_off91 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_502 : BitVec 32 := 0#32
  let c0_i32_503 : BitVec 32 := 0#32
  ![v2.toNat, 0, 0]
def k0_cond110 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_482 : BitVec 32 := 13#32
  let v997 : BitVec 1 := Scalar.cmpi .ne v2 c13_i32_482
  let v998 : BitVec 32 := Scalar.extui v997
  let c0_i32_483 : BitVec 32 := 0#32
  let v999 : BitVec 1 := Scalar.cmpi .ne v998 c0_i32_483
  v999

def k0_off92 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_494 : BitVec 32 := 0#32
  let c0_i32_495 : BitVec 32 := 0#32
  ![v2.toNat, 0, 0]
def k0_off93 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_502 : BitVec 32 := 0#32
  let c0_i32_503 : BitVec 32 := 0#32
  ![v2.toNat, 0, 0]
def k0_cond111 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_484 : BitVec 32 := 14#32
  let v1000 : BitVec 1 := Scalar.cmpi .ne v2 c14_i32_484
  let v1001 : BitVec 32 := Scalar.extui v1000
  let c0_i32_485 : BitVec 32 := 0#32
  let v1002 : BitVec 1 := Scalar.cmpi .ne v1001 c0_i32_485
  v1002

def k0_off94 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_494 : BitVec 32 := 0#32
  let c0_i32_495 : BitVec 32 := 0#32
  ![v2.toNat, 0, 0]
def k0_off95 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_502 : BitVec 32 := 0#32
  let c0_i32_503 : BitVec 32 := 0#32
  ![v2.toNat, 0, 0]
def k0_cond112 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_486 : BitVec 32 := 15#32
  let v1003 : BitVec 1 := Scalar.cmpi .ne v2 c15_i32_486
  let v1004 : BitVec 32 := Scalar.extui v1003
  let c0_i32_487 : BitVec 32 := 0#32
  let v1005 : BitVec 1 := Scalar.cmpi .ne v1004 c0_i32_487
  v1005

def k0_off96 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_494 : BitVec 32 := 0#32
  let c0_i32_495 : BitVec 32 := 0#32
  ![v2.toNat, 0, 0]
def k0_off97 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_502 : BitVec 32 := 0#32
  let c0_i32_503 : BitVec 32 := 0#32
  ![v2.toNat, 0, 0]
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S8192x256 : Shape := ⟨2, ![8192, 256]⟩
abbrev S256x64 : Shape := ⟨2, ![256, 64]⟩
abbrev S8192x1 : Shape := ⟨2, ![8192, 1]⟩
abbrev S64x256x512 : Shape := ⟨3, ![64, 256, 512]⟩
abbrev S256x512 : Shape := ⟨2, ![256, 512]⟩
abbrev S8192x64 : Shape := ⟨2, ![8192, 64]⟩
abbrev S_ : Shape := ⟨0, ![]⟩
abbrev S8192 : Shape := ⟨1, ![8192]⟩
abbrev S8192x512 : Shape := ⟨2, ![8192, 512]⟩
abbrev S8192x256x512 : Shape := ⟨3, ![8192, 256, 512]⟩
abbrev S8192x1x1 : Shape := ⟨3, ![8192, 1, 1]⟩
abbrev S1 : Shape := ⟨1, ![1]⟩
abbrev S1x1x1 : Shape := ⟨3, ![1, 1, 1]⟩

abbrev nBuf : Space → Nat
  | .hbm => 58
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S256x64, .bf16⟩
  | .hbm, ⟨2, _⟩ => ⟨S8192x1, .i32⟩
  | .hbm, ⟨3, _⟩ => ⟨S64x256x512, .bf16⟩
  | .hbm, ⟨4, _⟩ => ⟨S256x512, .bf16⟩
  | .hbm, ⟨5, _⟩ => ⟨S8192x256, .f32⟩
  | .hbm, ⟨6, _⟩ => ⟨S256x64, .f32⟩
  | .hbm, ⟨7, _⟩ => ⟨S8192x64, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S8192x64, .f32⟩
  | .hbm, ⟨12, _⟩ => ⟨S8192x64, .f32⟩
  | .hbm, ⟨13, _⟩ => ⟨S8192x64, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S8192x64, .f32⟩
  | .hbm, ⟨18, _⟩ => ⟨S8192x64, .f32⟩
  | .hbm, ⟨19, _⟩ => ⟨S256x512, .f32⟩
  | .hbm, ⟨20, _⟩ => ⟨S8192x512, .f32⟩
  | .hbm, ⟨21, _⟩ => ⟨S8192, .i32⟩
  | .hbm, ⟨22, _⟩ => ⟨S_, .i32⟩
  | .hbm, ⟨23, _⟩ => ⟨S8192, .i32⟩
  | .hbm, ⟨24, _⟩ => ⟨S8192, .i1⟩
  | .hbm, ⟨25, _⟩ => ⟨S_, .i32⟩
  | .hbm, ⟨26, _⟩ => ⟨S8192, .i32⟩
  | .hbm, ⟨27, _⟩ => ⟨S8192, .i32⟩
  | .hbm, ⟨28, _⟩ => ⟨S8192, .i32⟩
  | .hbm, ⟨29, _⟩ => ⟨S8192x1, .i32⟩
  | .hbm, ⟨30, _⟩ => ⟨S8192x256x512, .bf16⟩
  | .hbm, ⟨31, _⟩ => ⟨S8192x256x512, .f32⟩
  | .hbm, ⟨32, _⟩ => ⟨S8192x512, .f32⟩
  | .hbm, ⟨33, _⟩ => ⟨S_, .i32⟩
  | .hbm, ⟨34, _⟩ => ⟨S8192x1, .i32⟩
  | .hbm, ⟨35, _⟩ => ⟨S8192x1, .i1⟩
  | .hbm, ⟨36, _⟩ => ⟨S_, .i32⟩
  | .hbm, ⟨37, _⟩ => ⟨S8192x1, .i32⟩
  | .hbm, ⟨38, _⟩ => ⟨S8192x1, .i32⟩
  | .hbm, ⟨39, _⟩ => ⟨S8192x1, .i32⟩
  | .hbm, ⟨40, _⟩ => ⟨S8192x1x1, .i32⟩
  | .hbm, ⟨41, _⟩ => ⟨S1, .i32⟩
  | .hbm, ⟨42, _⟩ => ⟨S_, .i32⟩
  | .hbm, ⟨43, _⟩ => ⟨S8192x1x1, .i32⟩
  | .hbm, ⟨44, _⟩ => ⟨S8192x1x1, .i1⟩
  | .hbm, ⟨45, _⟩ => ⟨S1x1x1, .i32⟩
  | .hbm, ⟨46, _⟩ => ⟨S8192x1x1, .i32⟩
  | .hbm, ⟨47, _⟩ => ⟨S8192x1x1, .i1⟩
  | .hbm, ⟨48, _⟩ => ⟨S8192x1x1, .i1⟩
  | .hbm, ⟨49, _⟩ => ⟨S_, .i1⟩
  | .hbm, ⟨50, _⟩ => ⟨S8192x1, .i1⟩
  | .hbm, ⟨51, _⟩ => ⟨S8192x1, .f32⟩
  | .hbm, ⟨52, _⟩ => ⟨S_, .f32⟩
  | .hbm, ⟨53, _⟩ => ⟨S8192x1, .f32⟩
  | .hbm, ⟨54, _⟩ => ⟨S8192x1, .f32⟩
  | .hbm, ⟨55, _⟩ => ⟨S8192x512, .f32⟩
  | .hbm, ⟨56, _⟩ => ⟨S8192x512, .f32⟩
  | .hbm, ⟨57, _⟩ => ⟨S8192x512, .f32⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c : Ref sig .tc := ⟨.hbm, 22, rfl⟩
abbrev main_v15 : Ref sig .tc := ⟨.hbm, 23, rfl⟩
abbrev main_v16 : Ref sig .tc := ⟨.hbm, 24, rfl⟩
abbrev main_c_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_call0_c : Ref sig .tc := ⟨.hbm, 33, rfl⟩
abbrev main_call0_v0 : Ref sig .tc := ⟨.hbm, 34, rfl⟩
abbrev main_call0_v1 : Ref sig .tc := ⟨.hbm, 35, rfl⟩
abbrev main_call0_c_0 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_c_1 : Ref sig .tc := ⟨.hbm, 41, rfl⟩
abbrev main_call0_c_2 : Ref sig .tc := ⟨.hbm, 42, rfl⟩
abbrev main_call0_v6 : Ref sig .tc := ⟨.hbm, 43, rfl⟩
abbrev main_call0_v7 : Ref sig .tc := ⟨.hbm, 44, rfl⟩
abbrev main_call0_v8 : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_call0_c_3 : Ref sig .tc := ⟨.hbm, 49, rfl⟩
abbrev main_call0_v12 : Ref sig .tc := ⟨.hbm, 50, rfl⟩
abbrev main_call0_v13 : Ref sig .tc := ⟨.hbm, 51, rfl⟩
abbrev main_call0_cst : Ref sig .tc := ⟨.hbm, 52, rfl⟩
abbrev main_call0_v14 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩

abbrev nD : Nat := 1
abbrev τ : Topo := Topo.v7x

variable {F : FTy → Type} [FloatOps F]
-- ==== Proof.Protocol.lean ====
/-
The exchange among the sixteen devices: its semaphore cells, the contents of every landing, and the schedule of the
rounds library that hands them over.

On device `c` there are the runtime's barrier semaphore and four arrays of sixteen copy semaphores. For every `d ≠ c`:
* barrier of `c`: `d` signals it once, handing over its two landing slots for `c` (of the dispatched tokens and of the
  returned results); `c` waits for all fifteen at once.
* dispatch, sent (array 0, entry `d`): paid by the copy of `c`'s slot `d`; hands that slot back to `c`.
* dispatch, landed (array 1, entry `d`): paid by device `d`'s copy; hands over slot `d` of the landing buffer, holding
  the tokens `d` dispatched to `c`.
* return, sent (array 2, entry `d`): paid by the copy of `c`'s result slot `d`; hands that slot back.
* return, landed (array 3, entry `d`): paid by device `d`'s copy; hands over slot `d` of the results, holding what `d`
  computed from the tokens `c` dispatched to it.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Tactic

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

abbrev UB : Type := URounds (GSem nD τ sig) (Fin 16)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

/-- The runtime's barrier semaphore. -/
abbrev barS : Sem sig := (SemArray.scalar (sig.barrier 0 rfl) : Sems sig S_).sem

theorem inbS (e : Fin 16) : ∀ a, (![e.val] : Fin 1 → ℕ) a + S1.size a ≤ S16.size a := by revert e; decide

/-- Entry `e` of an array of sixteen copy semaphores. -/
abbrev slotS (A : DmaSems sig S16) (e : Fin 16) : DmaSem sig :=
  ((A.slice (Rect.unit (s := S16) ![e.val] S1.size (inbS e))).squeeze S_ squeezes_S1_S_).sem

/-- The four arrays of copy semaphores: dispatch sent, dispatch landed, return sent, return landed. -/
abbrev arr : Fin 4 → DmaSems sig S16 := ![cc0_scratch4, cc0_scratch5, cc0_scratch6, cc0_scratch7]

abbrev osem (p : Fin 4 × Fin 16) : SemLoc sig := .dma (slotS (arr p.1) p.2)

/-- Which of the exchange's semaphores a semaphore is: the barrier, an entry of an array, or neither. -/
def cls : SemLoc sig → Option (Option (Fin 4 × Fin 16))
  | .reg q => if q = barS then some none else none
  | .dma q => if h : 6 ≤ q.val ∧ q.val < 70 then some (some (⟨(q.val - 6) / 16, by omega⟩, ⟨(q.val - 6) % 16, by omega⟩)) else none

theorem cls_bar : cls (.reg barS) = some none := by unfold cls; exact if_pos rfl
theorem cls_osem (p : Fin 4 × Fin 16) : cls (osem p) = some (some p) := by revert p; decide +kernel

theorem osem_inj : Function.Injective osem := fun p q h => by
  have := congrArg cls h
  rw [cls_osem, cls_osem] at this
  exact Option.some.inj (Option.some.inj this)

abbrev barCell (c : Dev nD) : GSem nD τ sig := ((c : Thread nD τ), .reg barS)
abbrev cell (k : Fin 4) (c : Dev nD) (e : Fin 16) : GSem nD τ sig := ((c : Thread nD τ), osem (k, e))

/-! ## The buffers' slots -/

theorem inbX (d : Fin 16) : ∀ a, (![d.val, 0, 0] : Fin 3 → ℕ) a + S1x96x384.size a ≤ S16x96x384.size a := by revert d; decide
theorem inbY (d : Fin 16) : ∀ a, (![d.val, 0, 0] : Fin 3 → ℕ) a + S1x96x512.size a ≤ S16x96x512.size a := by revert d; decide

abbrev rX (d : Fin 16) : Rect S16x96x384 := Rect.unit (s := S16x96x384) ![d.val, 0, 0] S1x96x384.size (inbX d)
abbrev rY (d : Fin 16) : Rect S16x96x512 := Rect.unit (s := S16x96x512) ![d.val, 0, 0] S1x96x512.size (inbY d)

abbrev xdM : Memref sig .tc .vmem S16x96x384 .bf16 := Memref.whole cc0_scratch0
abbrev xrM : Memref sig .tc .vmem S16x96x384 .bf16 := Memref.whole cc0_scratch1
abbrev ysM : Memref sig .tc .vmem S16x96x512 .bf16 := Memref.whole cc0_scratch2
abbrev yrM : Memref sig .tc .vmem S16x96x512 .bf16 := Memref.whole cc0_scratch3

/-- Slot `d` of a buffer of token slots, and of a buffer of result slots. -/
abbrev slotX (M : Memref sig .tc .vmem S16x96x384 .bf16) (d : Fin 16) : Memref sig .tc .vmem S96x384 .bf16 :=
  (M.slice (rX d) (fun _ => rfl)).squeeze S96x384 squeezes_S1x96x384_S96x384
abbrev slotY (M : Memref sig .tc .vmem S16x96x512 .bf16) (d : Fin 16) : Memref sig .tc .vmem S96x512 .bf16 :=
  (M.slice (rY d) (fun _ => rfl)).squeeze S96x512 squeezes_S1x96x512_S96x512

abbrev NX : ℕ := (slotX xdM 0).view.dmaCredit
abbrev NY : ℕ := (slotY ysM 0).view.dmaCredit
theorem NX_pos : 0 < NX := View.dmaCredit_pos _ (by decide)
theorem NY_pos : 0 < NY := View.dmaCredit_pos _ (by decide)

abbrev ContX (F : FTy → Type) : Type := S16x96x384.Idx → Elt F .bf16
abbrev ContY (F : FTy → Type) : Type := S16x96x512.Idx → Elt F .bf16

def xdPts (c : Dev nD) (d : Fin 16) (f : ContX F) : sProp 𝕄 :=
  (slotX xdM d).view.loc (c : Thread nD τ) ↦[(slotX xdM d).view.set]{fullShare} f
def xrPts (c : Dev nD) (d : Fin 16) (f : ContX F) : sProp 𝕄 :=
  (slotX xrM d).view.loc (c : Thread nD τ) ↦[(slotX xrM d).view.set]{fullShare} f
def ysPts (c : Dev nD) (d : Fin 16) (f : ContY F) : sProp 𝕄 :=
  (slotY ysM d).view.loc (c : Thread nD τ) ↦[(slotY ysM d).view.set]{fullShare} f
def yrPts (c : Dev nD) (d : Fin 16) (f : ContY F) : sProp 𝕄 :=
  (slotY yrM d).view.loc (c : Thread nD τ) ↦[(slotY yrM d).view.set]{fullShare} f

omit [FloatOps F] in
instance xdPts_storable (c : Dev nD) (d) (f) : BI.Storable (upEmb : UEmb _ 𝕄) (xdPts (F := F) c d f) := by unfold xdPts; infer_instance
omit [FloatOps F] in
instance xrPts_storable (c : Dev nD) (d) (f) : BI.Storable (upEmb : UEmb _ 𝕄) (xrPts (F := F) c d f) := by unfold xrPts; infer_instance
omit [FloatOps F] in
instance ysPts_storable (c : Dev nD) (d) (f) : BI.Storable (upEmb : UEmb _ 𝕄) (ysPts (F := F) c d f) := by unfold ysPts; infer_instance
omit [FloatOps F] in
instance yrPts_storable (c : Dev nD) (d) (f) : BI.Storable (upEmb : UEmb _ 𝕄) (yrPts (F := F) c d f) := by unfold yrPts; infer_instance

omit [FloatOps F] in
theorem slotX_xd_set (d : Fin 16) : (slotX xdM d).view.set = (rX d).set := by
  show ((View.whole cc0_scratch0).slice (rX d) |>.reshape _ _).set = _
  rw [View.set_reshape, View.set_slice_whole]
omit [FloatOps F] in
theorem slotX_xr_set (d : Fin 16) : (slotX xrM d).view.set = (rX d).set := by
  show ((View.whole cc0_scratch1).slice (rX d) |>.reshape _ _).set = _
  rw [View.set_reshape, View.set_slice_whole]
omit [FloatOps F] in
theorem slotY_ys_set (d : Fin 16) : (slotY ysM d).view.set = (rY d).set := by
  show ((View.whole cc0_scratch2).slice (rY d) |>.reshape _ _).set = _
  rw [View.set_reshape, View.set_slice_whole]
omit [FloatOps F] in
theorem slotY_yr_set (d : Fin 16) : (slotY yrM d).view.set = (rY d).set := by
  show ((View.whole cc0_scratch3).slice (rY d) |>.reshape _ _).set = _
  rw [View.set_reshape, View.set_slice_whole]

omit [FloatOps F] in
theorem xdPts_eq (c : Dev nD) (d) (f : ContX F) : xdPts c d f = (((c : Thread nD τ).loc cc0_scratch0) ↦[(rX d).set]{fullShare} f : sProp 𝕄) := by
  unfold xdPts; rw [slotX_xd_set]
omit [FloatOps F] in
theorem xrPts_eq (c : Dev nD) (d) (f : ContX F) : xrPts c d f = (((c : Thread nD τ).loc cc0_scratch1) ↦[(rX d).set]{fullShare} f : sProp 𝕄) := by
  unfold xrPts; rw [slotX_xr_set]
omit [FloatOps F] in
theorem ysPts_eq (c : Dev nD) (d) (f : ContY F) : ysPts c d f = (((c : Thread nD τ).loc cc0_scratch2) ↦[(rY d).set]{fullShare} f : sProp 𝕄) := by
  unfold ysPts; rw [slotY_ys_set]
omit [FloatOps F] in
theorem yrPts_eq (c : Dev nD) (d) (f : ContY F) : yrPts c d f = (((c : Thread nD τ).loc cc0_scratch3) ↦[(rY d).set]{fullShare} f : sProp 𝕄) := by
  unfold yrPts; rw [slotY_yr_set]

theorem mem_rX (d : Fin 16) (i : S16x96x384.Idx) : i ∈ (rX d).set ↔ i 0 = d := by
  rw [Rect.mem_set_unit]
  constructor
  · intro h; have := h 0; simp at this; exact Fin.ext (by omega)
  · rintro rfl a
    fin_cases a
    · simp
    · have := (i 1).isLt; simp at this ⊢; omega
    · have := (i 2).isLt; simp at this ⊢; omega
theorem mem_rY (d : Fin 16) (i : S16x96x512.Idx) : i ∈ (rY d).set ↔ i 0 = d := by
  rw [Rect.mem_set_unit]
  constructor
  · intro h; have := h 0; simp at this; exact Fin.ext (by omega)
  · rintro rfl a
    fin_cases a
    · simp
    · have := (i 1).isLt; simp at this ⊢; omega
    · have := (i 2).isLt; simp at this ⊢; omega

/-! ## Contents -/

section Contents

/-- A slot index of a whole buffer, its slot replaced by `c`; an index of one slot read out of it. -/
def atX (c : Fin 16) (i : S16x96x384.Idx) : S16x96x384.Idx := fun | 0 => c | 1 => i 1 | 2 => i 2
def atY (c : Fin 16) (i : S16x96x512.Idx) : S16x96x512.Idx := fun | 0 => c | 1 => i 1 | 2 => i 2
def lowY (i : S16x96x512.Idx) : S1x96x512.Idx := fun | 0 => (0 : Fin 1) | 1 => i 1 | 2 => i 2

/-- The row number of each entry of a square of tokens. -/
def rowI : IVec S512x512 32 := iota .tc S512x512 32 [0] iota_S512x512_d0_w32

/-- The destination device of each token, its one-hot row, the one-hot matrix of its slot, the dispatched tokens. -/
def destOf (g : Vec F S512x1 .i32) : IVec S512x1 32 := k0_pay5 (k0_pay1 g) 4#32 (k0_pay2 g) (k0_pay3 g) (k0_pay4 g)
def ohOf (g : Vec F S512x1 .i32) : FVec F S512x16 .f32 := k0_pay8 (k0_pay1 g) 4#32 (k0_pay2 g) (k0_pay3 g) (k0_pay4 g)
def pOf (g : Vec F S512x1 .i32) : FVec F S512x1536 .bf16 := k0_pay9 (destOf g) (ohOf g) rowI
def xdOf (x : Vec F S512x256 .bf16) (g : Vec F S512x1 .i32) : FVec F S16x96x384 .bf16 :=
  k0_pay10 (destOf g) (k0_pay7 (k0_pay1 g) x) (ohOf g) rowI
/-- One slot's results from its tokens and the device's four weight matrices stacked. -/
def yOf (w : FVec F S1024x512 .bf16) (xg : Vec F S1x96x384 .bf16) : FVec F S1x96x512 .bf16 := k0_pay52 w xg
def outOf (x : Vec F S512x256 .bf16) (rw : Vec F S256x64 .bf16) (g : Vec F S512x1 .i32) (sw : Vec F S256x512 .bf16) (yr : Vec F S16x96x512 .bf16) :
    FVec F S512x512 .f32 :=
  k0_pay97 (k0_pay12 (k0_pay6 x) sw) (k0_pay14 (k0_pay13 (k0_pay1 g) x rw)) (k0_pay96 (pOf g) yr)

/-- A slot's reading off a buffer of token slots. -/
def rdX (f : ContX F) (s : Fin 16) : Vec F S1x96x384 .bf16 := (xrM : Memref sig .tc .vmem S16x96x384 .bf16).view.readAt (Elt F) (rX s).toLoadRect f

variable (m : (ℓ : Loc nD τ sig) → Buf (Elt F) ℓ)

/-- Device `c`'s five inputs, as its staging buffers hold them. -/
def xin (c : Dev nD) : Vec F S512x256 .bf16 := iblk m c 0 t0_0
def rwin (c : Dev nD) : Vec F S256x64 .bf16 := iblk m c 1 t0_0
def gin (c : Dev nD) : Vec F S512x1 .i32 := iblk m c 2 t0_0
def ewin (c : Dev nD) : Vec F S4x256x512 .bf16 := iblk m c 3 t0_0
def swin (c : Dev nD) : Vec F S256x512 .bf16 := iblk m c 4 t0_0

/-- The dispatched tokens of `c`, by destination; those landed on `c`, by origin; the results `c` computed, by origin;
    those landed back on `c`, by the device that computed them. -/
def XD (c : Dev nD) : ContX F := xdOf (xin m c) (gin m c)
def XR (c : Dev nD) : ContX F := fun i => XD m (i 0) (atX c i)
def YS (c : Dev nD) : ContY F := fun i => yOf (k0_pay15 (ewin m c)) (rdX (XR m c) (i 0)) (lowY i)
def YR (c : Dev nD) : ContY F := fun i => YS m (i 0) (atY c i)
def OUT (c : Dev nD) : FVec F S512x512 .f32 := outOf (xin m c) (rwin m c) (gin m c) (swin m c) (YR m c)

end Contents

/-! ## The schedule -/

section Sched

variable (m : (ℓ : Loc nD τ sig) → Buf (Elt F) ℓ)

/-- What `d`'s signal of `c`'s barrier hands `c`: `d`'s two landing slots for `c`. -/
def barPay (c d : Dev nD) : sProp 𝕄 := iprop((∃ f, xrPts d c f) ∗ (∃ f, yrPts d c f))
/-- What the copy completing on entry `e` of `c`'s array `k` hands `c`. -/
def copyPay (c : Dev nD) (k : Fin 4) (e : Fin 16) : sProp 𝕄 :=
  if k = 0 then xdPts c e (XD m c) else if k = 1 then xrPts c e (XR m c) else if k = 2 then ysPts c e (YS m c) else yrPts c e (YR m c)

omit [FloatOps F] in
instance barPay_storable (c d : Dev nD) : BI.Storable (upEmb : UEmb _ 𝕄) (barPay (F := F) c d) := by unfold barPay; infer_instance
instance copyPay_storable (c : Dev nD) (k e) : BI.Storable (upEmb : UEmb _ 𝕄) (copyPay (F := F) m c k e) := by
  unfold copyPay; (repeat' split) <;> infer_instance

abbrev NK (k : Fin 4) : ℕ := if k = 0 ∨ k = 1 then NX else NY
theorem NK_pos (k : Fin 4) : 0 < NK k := by unfold NK; split; exacts [NX_pos, NY_pos]

def dutiesOf (g : GSem nD τ sig) (r : ℕ) : Finset (Fin 16) :=
  if r = 0 ∧ g.1.2 = .tc then
    match cls g.2 with
    | none => ∅
    | some none => Finset.univ.erase g.1.1
    | some (some p) => if p.2 = g.1.1 then ∅ else {p.2}
  else ∅

def amountOf (g : GSem nD τ sig) : ℕ :=
  match cls g.2 with
  | some (some p) => NK p.1
  | _ => 1

def payOf (g : GSem nD τ sig) (d : Fin 16) : sProp 𝕄 :=
  match cls g.2 with
  | none => iprop(emp)
  | some none => barPay g.1.1 d
  | some (some p) => copyPay m g.1.1 p.1 p.2

/-- One round, round 0. -/
def sched : Rounds.Schedule (GSem nD τ sig) (Fin 16) 𝕄 where
  duties g r := dutiesOf g r
  unitless _ := False
  amount g _ _ := amountOf g
  payload g _ d := payOf m g d
  amount_pos g _ _ _ := by
    show 0 < amountOf g
    unfold amountOf; split
    · exact NK_pos _
    · exact Nat.one_pos

instance sched_payload_storable (g : GSem nD τ sig) (r : ℕ) (d : Fin 16) :
    BI.Storable (upEmb : UEmb _ 𝕄) ((sched (F := F) m).payload g r d) := by
  show BI.Storable upEmb (payOf m g d)
  unfold payOf; split <;> infer_instance

variable (c : Dev nD)

theorem duties_bar : (sched (F := F) m).duties (barCell c) 0 = Finset.univ.erase c := by
  show dutiesOf (barCell c) 0 = _
  unfold dutiesOf; rw [if_pos ⟨rfl, rfl⟩, cls_bar]
theorem duties_cell (k : Fin 4) (e : Fin 16) : (sched (F := F) m).duties (cell k c e) 0 = if e = c then ∅ else {e} := by
  show dutiesOf (cell k c e) 0 = _
  unfold dutiesOf; rw [if_pos ⟨rfl, rfl⟩, cls_osem]
theorem duties_later (g : GSem nD τ sig) : ∀ r, 1 ≤ r → (sched (F := F) m).duties g r = ∅ := fun r hr => by
  show dutiesOf g r = _
  unfold dutiesOf; rw [if_neg fun h => by omega]
theorem amount_bar (d : Fin 16) : (sched (F := F) m).amount (barCell c) 0 d = 1 := by
  show amountOf (barCell c) = _
  unfold amountOf; rw [cls_bar]
theorem amount_cell (k : Fin 4) (e d : Fin 16) : (sched (F := F) m).amount (cell k c e) 0 d = NK k := by
  show amountOf (cell k c e) = _
  unfold amountOf; rw [cls_osem]
theorem payload_bar (d : Fin 16) : (sched (F := F) m).payload (barCell c) 0 d = barPay c d := by
  show payOf m (barCell c) d = _
  unfold payOf; rw [cls_bar]
theorem payload_cell (k : Fin 4) (e d : Fin 16) : (sched (F := F) m).payload (cell k c e) 0 d = copyPay m c k e := by
  show payOf m (cell k c e) d = _
  unfold payOf; rw [cls_osem]

theorem expect_bar : (sched (F := F) m).expect (barCell c) 0 = 15 := by
  unfold Schedule.expect Schedule.amountOf
  rw [duties_bar, Finset.sum_congr rfl fun d _ => amount_bar m c d, Finset.sum_const, Finset.card_erase_of_mem (Finset.mem_univ _), Finset.card_univ, Fintype.card_fin, smul_eq_mul]
theorem expect_cell (k : Fin 4) (e : Fin 16) (h : e ≠ c) : (sched (F := F) m).expect (cell k c e) 0 = NK k := by
  unfold Schedule.expect Schedule.amountOf; rw [duties_cell, if_neg h, Finset.sum_singleton, amount_cell]
theorem rest_bar : bigSep ((sched (F := F) m).duties (barCell c) 0 \ ∅) (fun d => (sched (F := F) m).payload (barCell c) 0 d)
    = bigSep (Finset.univ.erase c) (fun d => barPay c d) := by
  rw [Finset.sdiff_empty, duties_bar]; exact congrArg (bigSep (Finset.univ.erase c)) (funext fun d => payload_bar m c d)
theorem rest_cell (k : Fin 4) (e : Fin 16) (h : e ≠ c) :
    bigSep ((sched (F := F) m).duties (cell k c e) 0 \ ∅) (fun d => (sched (F := F) m).payload (cell k c e) 0 d) = copyPay m c k e := by
  rw [Finset.sdiff_empty, duties_cell, if_neg h, bigSep_singleton, payload_cell]

end Sched

/-! ## What each device owes at launch; the levels -/

def L (g : GSem nD τ sig) : Finset Unit := if g.1.2 = .tc then {()} else ∅
/-- Barrier cells at 1, dispatch landings at 2, return landings at 3, everything else (staging, sends) at 0. -/
def lv (g : GSem nD τ sig) (_ : Unit) : ℕ :=
  match cls g.2 with
  | none => 0
  | some none => 1
  | some (some p) => if p.1 = 1 then 2 else if p.1 = 3 then 3 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by unfold lv; rw [cls_bar]
theorem lv_cell (k : Fin 4) (c : Dev nD) (e : Fin 16) : lv (cell k c e) () = if k = 1 then 2 else if k = 3 then 3 else 0 := by unfold lv; rw [cls_osem]

/-- What `c` owes: barrier units, dispatch landings, return landings on the devices of `B`, `R`, `Y`. -/
def owed (B R Y : Finset (Fin 16)) (c : Dev nD) : CellTallies nD τ sig Unit :=
  ∑ d ∈ Y, tallyAt (cell 3 d c) () NY + ∑ d ∈ R, tallyAt (cell 1 d c) () NX + ∑ d ∈ B, tallyAt (barCell d) () 1

theorem tally_sum_pos {ι : Type} (S : Finset ι) (f : ι → GSem nD τ sig) (n : ℕ) {g : GSem nD τ sig} {u : Unit}
    (h : 0 < (∑ d ∈ S, tallyAt (f d) () n : CellTallies nD τ sig Unit) g u) : ∃ d ∈ S, g = f d := by
  classical
  induction S using Finset.induction_on with
  | empty => exact absurd h (Nat.lt_irrefl 0)
  | insert a S ha ih =>
    rw [Finset.sum_insert ha, Pi.add_apply, Finsupp.add_apply, tallyAt_apply] at h
    by_cases hg : g = f a ∧ u = ()
    · exact ⟨a, Finset.mem_insert_self _ _, hg.1⟩
    · rw [if_neg hg, zero_add] at h
      obtain ⟨d, hd, e⟩ := ih h
      exact ⟨d, Finset.mem_insert_of_mem hd, e⟩

theorem owed_pos {B R Y : Finset (Fin 16)} {c : Dev nD} {g : GSem nD τ sig} {u : Unit} (h : 0 < owed B R Y c g u) :
    (∃ d ∈ Y, g = cell 3 d c) ∨ (∃ d ∈ R, g = cell 1 d c) ∨ (∃ d ∈ B, g = barCell d) := by
  unfold owed at h
  rw [Pi.add_apply, Finsupp.add_apply, Pi.add_apply, Finsupp.add_apply] at h
  by_cases h1 : 0 < (∑ d ∈ Y, tallyAt (cell 3 d c) () NY : CellTallies nD τ sig Unit) g u
  · exact .inl (tally_sum_pos _ _ _ h1)
  by_cases h2 : 0 < (∑ d ∈ R, tallyAt (cell 1 d c) () NX : CellTallies nD τ sig Unit) g u
  · exact .inr (.inl (tally_sum_pos _ _ _ h2))
  rw [Nat.eq_zero_of_not_pos h1, Nat.eq_zero_of_not_pos h2, zero_add, zero_add] at h
  exact .inr (.inr (tally_sum_pos _ _ _ h))

/-- A wait on a cell below everything still owed may happen. -/
theorem mayWait_of (B R Y : Finset (Fin 16)) (c : Dev nD) (sm : SemLoc sig) (n : ℕ) (hn : lv ((c : Thread nD τ), sm) () ≤ n)
    (hB : B = ∅ ∨ n < 1) (hR : R = ∅ ∨ n < 2) (hY : Y = ∅ ∨ n < 3) :
    (levAts L lv : sProp 𝕄) ⊢ MayWait (c : Thread nD τ) sm () (owed B R Y c) :=
  MayOwe.of_cut (L := L) (lev := lv) n (fun p hp => by rw [Finset.mem_singleton.mp hp, L_tc]; exact Finset.mem_singleton_self _)
    (fun g u hg => by rcases owed_pos hg with ⟨d, _, rfl⟩ | ⟨d, _, rfl⟩ | ⟨d, _, rfl⟩ <;> exact Finset.mem_singleton_self _)
    (fun p hp => by rw [Finset.mem_singleton.mp hp]; exact hn)
    (fun g u hg => by
      rcases owed_pos hg with ⟨d, hd, rfl⟩ | ⟨d, hd, rfl⟩ | ⟨d, hd, rfl⟩
      · rw [lv_cell, if_neg (by decide), if_pos rfl]
        rcases hY with rfl | h
        · exact absurd hd (Finset.notMem_empty _)
        · exact h
      · rw [lv_cell, if_pos rfl]
        rcases hR with rfl | h
        · exact absurd hd (Finset.notMem_empty _)
        · exact h
      · rw [lv_bar]
        rcases hB with rfl | h
        · exact absurd hd (Finset.notMem_empty _)
        · exact h)

theorem owed_nil (c : Dev nD) : owed ∅ ∅ ∅ c = 0 := by unfold owed; simp
theorem owed_bar {B R Y : Finset (Fin 16)} (c : Dev nD) {d : Fin 16} (h : d ∈ B) :
    owed B R Y c = owed (B.erase d) R Y c + tallyAt (barCell d) () 1 := by
  unfold owed; rw [← Finset.sum_erase_add B _ h]; ac_rfl
theorem owed_disp {B R Y : Finset (Fin 16)} (c : Dev nD) {d : Fin 16} (h : d ∈ R) :
    owed B R Y c = owed B (R.erase d) Y c + tallyAt (cell 1 d c) () NX := by
  unfold owed; rw [← Finset.sum_erase_add R _ h]; ac_rfl
theorem owed_ret {B R Y : Finset (Fin 16)} (c : Dev nD) {d : Fin 16} (h : d ∈ Y) :
    owed B R Y c = owed B R (Y.erase d) c + tallyAt (cell 3 d c) () NY := by
  unfold owed; rw [← Finset.sum_erase_add Y _ h]; ac_rfl

end Cert.Moe

end
-- ==== Proof.Steps.lean ====
/-
One rule per kind of statement of the kernel's body, over the state of its sixteen iterations.
-/
module

public import proofs.«01_k».proof.Proof.Protocol

@[expose] public section

set_option maxRecDepth 10000

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The weakest precondition of a piece of device `c`'s body. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## The cells of all devices -/

abbrev CK : Type := Dev nD × Option (Fin 4 × Fin 16)
abbrev csem : Option (Fin 4 × Fin 16) → SemLoc sig := fun | none => .reg barS | some p => osem p
abbrev kcell (ck : CK) : GSem nD τ sig := ((ck.1 : Thread nD τ), csem ck.2)

section Ctx

variable (m : (ℓ : Loc nD τ sig) → Buf (Elt F) ℓ) (K : CK → ℕ)

/-- What every device knows throughout: the invariants of all cells, that every cell has reached round 0, the levels. -/
def ctx : sProp 𝕄 :=
  iprop((bigSep Finset.univ fun ck : CK => cellInv ER (sched m) (K ck) (kcell ck))
    ∗ (bigSep Finset.univ fun ck : CK => reached ER (kcell ck) 0) ∗ levAts L lv)

instance ctx_persistent : BI.Persistent (ctx m K) := by unfold ctx; infer_instance

theorem ctx_inv (ck : CK) : ctx m K ⊢ cellInv ER (sched m) (K ck) (kcell ck) := by
  refine BIBase.Entails.trans (Q := bigSep Finset.univ fun ck : CK => cellInv ER (sched m) (K ck) (kcell ck)) ?_ (bigSep_elim (Finset.mem_univ ck))
  unfold ctx; iintro ⟨H, -, -⟩; iexact H
theorem ctx_reached (ck : CK) : ctx m K ⊢ reached ER (kcell ck) 0 := by
  refine BIBase.Entails.trans (Q := bigSep Finset.univ fun ck : CK => (reached ER (kcell ck) 0 : sProp 𝕄)) ?_ (bigSep_elim (Finset.mem_univ ck))
  unfold ctx; iintro ⟨-, H, -⟩; iexact H
theorem ctx_lev : ctx m K ⊢ levAts L lv := by
  unfold ctx; iintro ⟨-, -, H⟩; iexact H

end Ctx

/-! ## States of an iteration over the sixteen devices -/

/-- Before iteration `n`: those done hold `A`, the others `B`. -/
def stg (n : ℕ) (A B : Fin 16 → sProp 𝕄) : sProp 𝕄 := bigSep Finset.univ fun j => if j.val < n then A j else B j
/-- In iteration `j`: all but `j`. -/
def stgE (j : Fin 16) (A B : Fin 16 → sProp 𝕄) : sProp 𝕄 := bigSep (Finset.univ.erase j) fun i => if i.val < j.val then A i else B i

omit [FloatOps F] in
theorem stg_zero (A B : Fin 16 → sProp 𝕄) : stg 0 A B = bigSep Finset.univ B := by
  unfold stg; exact bigSep_congr fun j _ => if_neg (Nat.not_lt_zero _)
omit [FloatOps F] in
theorem stg_end (A B : Fin 16 → sProp 𝕄) : stg 16 A B = bigSep Finset.univ A := by
  unfold stg; exact bigSep_congr fun j _ => if_pos j.isLt
omit [FloatOps F] in
theorem stg_open (j : Fin 16) (A B : Fin 16 → sProp 𝕄) : stg j.val A B = iprop(B j ∗ stgE j A B) := by
  unfold stg stgE; rw [bigSep_univ_split j, if_neg (Nat.lt_irrefl _)]; rfl
omit [FloatOps F] in
theorem stg_close (j : Fin 16) (A B : Fin 16 → sProp 𝕄) : stg (j.val + 1) A B = iprop(A j ∗ stgE j A B) := by
  unfold stg stgE; rw [bigSep_univ_split j, if_pos (Nat.lt_succ_self _)]
  refine congrArg (fun Fr : sProp 𝕄 => iprop(A j ∗ Fr)) (bigSep_congr fun i hi => ?_)
  have : i ≠ j := (Finset.mem_erase.mp hi).1
  have h' : i.val ≠ j.val := fun h => this (Fin.ext h)
  by_cases h : i.val < j.val
  · rw [if_pos h, if_pos (by omega)]
  · rw [if_neg h, if_neg (by omega)]

/-- The devices other than `c` from `n` on. -/
def rem (c : Dev nD) (n : ℕ) : Finset (Fin 16) := Finset.univ.filter fun d => n ≤ d.val ∧ d ≠ c

theorem rem_zero (c : Dev nD) : rem c 0 = Finset.univ.erase c := by ext d; simp [rem]
theorem rem_end (c : Dev nD) : rem c 16 = ∅ := by ext d; simp only [rem, Finset.mem_filter, Finset.mem_univ, true_and, Finset.notMem_empty, iff_false]; omega
theorem mem_rem (c : Dev nD) (j : Fin 16) (h : j ≠ c) : j ∈ rem c j.val := by simp [rem, h]
theorem rem_erase (c : Dev nD) (j : Fin 16) : (rem c j.val).erase j = rem c (j.val + 1) := by
  ext d; simp only [rem, Finset.mem_erase, Finset.mem_filter, Finset.mem_univ, true_and]
  constructor
  · rintro ⟨h1, h2, h3⟩; exact ⟨by have : d.val ≠ j.val := fun h => h1 (Fin.ext h); omega, h3⟩
  · rintro ⟨h1, h2⟩; exact ⟨fun h => by subst h; omega, by omega, h2⟩
theorem rem_skip (c : Dev nD) (j : Fin 16) (h : ¬ j ≠ c) : rem c j.val = rem c (j.val + 1) := by
  rw [← rem_erase, Finset.erase_eq_of_notMem]
  simp only [rem, Finset.mem_filter, Finset.mem_univ, true_and]; intro hh; exact h hh.2

/-- What device `c` owes, whatever it has waited for, next to a part `Fr` of the state that is not in use. -/
def Ow (Fr : sProp 𝕄) (B R Y : Finset (Fin 16)) (c : Dev nD) : sProp 𝕄 := iprop((∃ W, owes (c : Thread nD τ) (owed B R Y c) W) ∗ Fr)

/-! ## Programs -/

omit [FloatOps F] in
theorem wp_pure' {c : Dev nD} {α : Type} {r : α} {Q : α → sProp 𝕄} [FloatOps F] {S : sProp 𝕄} (h : S ⊢ Q r) :
    S ⊢ WP c (Pure.pure r : Prog (TpuEff nD τ sig (Elt F) Λ₀ .tc) α) Q := h.trans (le_wp_ret _ _ _ _ _)

theorem wp_dev {c : Dev nD} {α : Type} {k : Dev nD → Prog (TpuEff nD τ sig (Elt F) Λ₀ .tc) α} {Q : α → sProp 𝕄} {S : sProp 𝕄}
    (h : S ⊢ WP c (k c) Q) : S ⊢ WP c (Prog.lift .deviceId >>= k) Q := by
  show S ⊢ WP c (.op .deviceId k) Q
  rw [WP, wp_deviceId]; exact h

/-- A statement run on the devices where `P` holds. -/
theorem wp_cond {c : Dev nD} {α : Type} {P : Prop} [Decidable P] {t : P → Prog (TpuEff nD τ sig (Elt F) Λ₀ .tc) PUnit}
    {J : Prog (TpuEff nD τ sig (Elt F) Λ₀ .tc) α} {Q : α → sProp 𝕄} {S S' : sProp 𝕄}
    (ht : ∀ h : P, S ⊢ WP c (t h) (fun _ => S')) (he : ¬ P → S ⊢ S') (hc : S' ⊢ WP c J Q) :
    S ⊢ WP c (dite P (fun h => t h >>= fun _ => J) (fun _ => J)) Q := by
  by_cases h : P
  · rw [dif_pos h, WP, wp_bind]
    exact (ht h).trans (wp_mono _ _ _ fun _ => hc)
  · rw [dif_neg h]; exact (he h).trans hc

/-! ## The barrier signals -/

section Signals

variable (m : (ℓ : Loc nD τ sig) → Buf (Elt F) ℓ) (K : CK → ℕ) (c : Dev nD)

/-- Before `c`'s signal of `j`: its barrier duty there and its own landing slots for `j`; after it: nothing, or, no signal
    going to `c` itself, those slots. -/
def sigB (j : Fin 16) : sProp 𝕄 := iprop(dutyTok ER (barCell j) 0 c ∗ barPay j c)
def sigA (j : Fin 16) : sProp 𝕄 := if j = c then barPay c c else iprop(emp)

theorem signal_step (Fr : sProp 𝕄) (j : Fin 16) {α : Type} {P : Prop} [Decidable P] {dev : ℕ} {hdev : P → dev < nD} (hP : P ↔ j ≠ c) (hd : dev = j.val)
    {J : Prog (TpuEff nD τ sig (Elt F) Λ₀ .tc) α} {Q : α → sProp 𝕄}
    (hc : iprop(ctx m K ∗ Ow Fr (rem c (j.val + 1)) (rem c 0) (rem c 0) c ∗ stg (j.val + 1) (sigA c) (sigB c)) ⊢ WP c J Q) :
    iprop(ctx m K ∗ Ow Fr (rem c j.val) (rem c 0) (rem c 0) c ∗ stg j.val (sigA c) (sigB c))
      ⊢ WP c (dite P (fun h => semSignalWord (⟨dev, hdev h⟩ : Dev nD) barS 1#32 >>= fun _ => J) (fun _ => J)) Q := by
  refine wp_cond (fun h => ?_) (fun h => ?_) hc
  · subst hd
    have hj : j ≠ c := hP.mp h
    have e : (⟨j.val, hdev h⟩ : Dev nD) = j := rfl
    rw [e, stg_open, stg_close]
    unfold Ow sigB sigA
    rw [if_neg hj]
    unfold semSignalWord
    iintro ⟨#Hc, ⟨⟨%W, HO⟩, HX0⟩, ⟨Ht, Hp⟩, HE⟩
    ihave #HI := (ctx_inv m K (j, none)) $$ Hc
    ihave #HR := (ctx_reached m K (j, none)) $$ Hc
    iapply (Rounds.wp_signal 𝒱₀ ER (sched m) (c : Thread nD τ) none (dst := (j : Thread nD τ)) (κ := K (j, none))
        (d := c) (by rw [duties_bar]; exact Finset.mem_erase.mpr ⟨hj.symm, Finset.mem_univ _⟩) ((amount_bar m j c).trans (by decide)) ()
        (owed (rem c (j.val + 1)) (rem c 0) (rem c 0) c)
        ((owed_bar c (mem_rem c j hj)).trans (by rw [rem_erase]; rfl))) $$ [HO Ht Hp]
    · isplitr; · iexact HI
      isplitl [HO]; · iexact HO
      isplitl [Ht]; · iexact Ht
      isplitl [Hp]; · rw [payload_bar]; iexact Hp
      iexact HR
    iintro HO
    rw [wp_ret]; imodintro
    isplitr; · iexact Hc
    isplitl [HO HX0]; · isplitl [HO]; · iexists W; iexact HO
                        iexact HX0
    isplitr; · iempintro
    iexact HE
  · have hj : ¬ j ≠ c := fun h' => h (hP.mpr h')
    have hjc : j = c := not_not.mp hj
    rw [rem_skip c j hj, stg_open, stg_close]
    unfold sigB sigA
    rw [if_pos hjc]
    iintro ⟨#Hc, HO, ⟨-, Hp⟩, HE⟩
    isplitr; · iexact Hc
    isplitl [HO]; · iexact HO
    isplitl [Hp]; · subst hjc; iexact Hp
    iexact HE

end Signals

/-! ## The landings -/

section Landings

variable (m : (ℓ : Loc nD τ sig) → Buf (Elt F) ℓ)

omit [FloatOps F] in
theorem emb_rX (d c : Fin 16) (z : S1x96x384.Idx) : (rX d).emb z = atX d ((rX c).emb z) := by
  funext a
  fin_cases a
  · have h : (z 0).val < 1 := (z 0).isLt
    exact Fin.ext (by show d.val + 1 * (z 0).val = d.val; omega)
  · exact Fin.ext rfl
  · exact Fin.ext rfl
omit [FloatOps F] in
theorem emb_rY (d c : Fin 16) (z : S1x96x512.Idx) : (rY d).emb z = atY d ((rY c).emb z) := by
  funext a
  fin_cases a
  · have h : (z 0).val < 1 := (z 0).isLt
    exact Fin.ext (by show d.val + 1 * (z 0).val = d.val; omega)
  · exact Fin.ext rfl
  · exact Fin.ext rfl
theorem emb_rX_zero (c : Fin 16) (z : S1x96x384.Idx) : (rX c).emb z 0 = c := by
  have h : (z 0).val < 1 := (z 0).isLt
  exact Fin.ext (by show c.val + 1 * (z 0).val = c.val; omega)
theorem emb_rY_zero (c : Fin 16) (z : S1x96x512.Idx) : (rY c).emb z 0 = c := by
  have h : (z 0).val < 1 := (z 0).isLt
  exact Fin.ext (by show c.val + 1 * (z 0).val = c.val; omega)
theorem low_emb_rY (c : Fin 16) (z : S1x96x512.Idx) : lowY ((rY c).emb z) = z := by
  funext a
  fin_cases a
  · have h : (z 0).val < 1 := (z 0).isLt
    exact Fin.ext (by show 0 = (z 0).val; omega)
  · exact Fin.ext (by show 0 + 1 * (z 1).val = (z 1).val; omega)
  · exact Fin.ext (by show 0 + 1 * (z 2).val = (z 2).val; omega)

/-- The dispatched slot `d` of `c` lands on `d` as slot `c` of `d`'s landed tokens. -/
theorem land_x (c d : Dev nD) (fd : ContX F) :
    (((d : Thread nD τ).loc cc0_scratch1) ↦[(slotX xrM c).view.set]{fullShare}
        ((slotX xrM c).view.write (Elt F) fd ((slotX xdM d).view.read (Elt F) (XD m c)) Finset.univ) : sProp 𝕄) = xrPts d c (XR m d) := by
  unfold xrPts
  refine pointsTo_congr fun i hi => ?_
  obtain ⟨y, -, rfl⟩ := Finset.mem_map.mp hi
  rw [View.write_emb_of_mem _ _ (Finset.mem_univ y)]
  show XD m c ((rX d).emb (Shape.reshapeEquiv _ y)) = XD m ((rX c).emb (Shape.reshapeEquiv _ y) 0) (atX d ((rX c).emb (Shape.reshapeEquiv _ y)))
  rw [emb_rX_zero, ← emb_rX]
/-- The results slot `s` of `c` lands on `s` as slot `c` of what came back to `s`. -/
theorem land_y (c s : Dev nD) (fd : ContY F) :
    (((s : Thread nD τ).loc cc0_scratch3) ↦[(slotY yrM c).view.set]{fullShare}
        ((slotY yrM c).view.write (Elt F) fd ((slotY ysM s).view.read (Elt F) (YS m c)) Finset.univ) : sProp 𝕄) = yrPts s c (YR m s) := by
  unfold yrPts
  refine pointsTo_congr fun i hi => ?_
  obtain ⟨y, -, rfl⟩ := Finset.mem_map.mp hi
  rw [View.write_emb_of_mem _ _ (Finset.mem_univ y)]
  show YS m c ((rY s).emb (Shape.reshapeEquiv _ y)) = YS m ((rY c).emb (Shape.reshapeEquiv _ y) 0) (atY s ((rY c).emb (Shape.reshapeEquiv _ y)))
  rw [emb_rY_zero, ← emb_rY]

end Landings

end Cert.Moe

end
-- ==== Proof.Copies.lean ====
/-
Rules for the copies between devices and the waits for them, over the state of the sixteen iterations.
-/
module

public import proofs.«01_k».proof.Proof.Steps

@[expose] public section

set_option maxRecDepth 10000

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Naming a slot whose index is computed -/

theorem slotX_of {M : Memref sig .tc .vmem S16x96x384 .bf16} {off : Fin 3 → ℕ} {d : Fin 16} (h : off = ![d.val, 0, 0])
    {inb : ∀ a, off a + S1x96x384.size a ≤ S16x96x384.size a} :
    ((M.slice (Rect.unit (s := S16x96x384) off S1x96x384.size inb) (fun _ => rfl)).squeeze S96x384 squeezes_S1x96x384_S96x384) = slotX M d := by
  subst h; rfl
theorem slotY_of {M : Memref sig .tc .vmem S16x96x512 .bf16} {off : Fin 3 → ℕ} {d : Fin 16} (h : off = ![d.val, 0, 0])
    {inb : ∀ a, off a + S1x96x512.size a ≤ S16x96x512.size a} :
    ((M.slice (Rect.unit (s := S16x96x512) off S1x96x512.size inb) (fun _ => rfl)).squeeze S96x512 squeezes_S1x96x512_S96x512) = slotY M d := by
  subst h; rfl
theorem slotS_of {A : DmaSems sig S16} {off : Fin 1 → ℕ} {d : Fin 16} (h : off = ![d.val])
    {inb : ∀ a, off a + S1.size a ≤ S16.size a} :
    ((A.slice (Rect.unit (s := S16) off S1.size inb)).squeeze S_ squeezes_S1_S_).sem = slotS A d := by
  subst h; rfl

section Copies

variable (m : (ℓ : Loc nD τ sig) → Buf (Elt F) ℓ) (K : CK → ℕ) (c : Dev nD)

/-! ## The dispatch -/

/-- Before `c`'s dispatch to `j`: its slot `j` of dispatched tokens, `j`'s landing slot and the two duties the copy pays;
    after it: the credit for the slot's coming back, or, no copy going to `c` itself, the two slots. -/
def dspB (j : Fin 16) : sProp 𝕄 :=
  iprop(xdPts c j (XD m c) ∗ (∃ f, xrPts j c f) ∗ dutyTok ER (cell 1 j c) 0 c ∗ dutyTok ER (cell 0 c j) 0 j)
def dspA (j : Fin 16) : sProp 𝕄 :=
  if j = c then iprop(xdPts c c (XD m c) ∗ ∃ f, xrPts c c f) else cred (tallyAt (cell 0 c j) () NX)

set_option maxHeartbeats 1000000 in
theorem disp_op (Fr : sProp 𝕄) (j : Fin 16) (hj : j ≠ c) {n : Dev nD} {src : Memref sig .tc .vmem S96x384 .bf16} {dst : Memref sig .tc .vmem S96x384 .bf16}
    {sS rS : DmaSem sig} {hsc : (dst : Memref sig (Dev.tc n : Thread nD τ).2.kind .vmem S96x384 .bf16).view.ref.isScScratch = false}
    {p1 : src.view.WordExact} {p2 : dst.view.WordExact}
    {p3 : DmaTarget.Typed .vmem (.dma rS) (.remote (Dev.tc n : Thread nD τ) (dst : Memref sig (Dev.tc n : Thread nD τ).2.kind .vmem S96x384 .bf16) (.dma sS) hsc)}
    (hn : n = j) (hsrc : src = slotX xdM j) (hdst : dst = slotX xrM c) (hsS : sS = slotS cc0_scratch4 j) (hrS : rS = slotS cc0_scratch5 c) :
    iprop(ctx m K ∗ Ow Fr ∅ (rem c j.val) (rem c 0) c ∗ stg j.val (dspA m c) (dspB m c))
      ⊢ WP c (Prog.lift (.enqueueDma src (.remote (Dev.tc n : Thread nD τ) (dst : Memref sig (Dev.tc n : Thread nD τ).2.kind .vmem S96x384 .bf16) (.dma sS) hsc) (.dma rS) p1 p2 p3))
          (fun _ => iprop(ctx m K ∗ Ow Fr ∅ (rem c (j.val + 1)) (rem c 0) c ∗ stg (j.val + 1) (dspA m c) (dspB m c))) := by
  subst n; subst hsrc hdst hsS hrS
  rw [stg_open, stg_close]
  unfold Ow dspB dspA
  rw [if_neg hj]
  unfold Prog.lift
  iintro ⟨#Hc, ⟨⟨%W, HO⟩, HX0⟩, ⟨Hs, ⟨%fd, Hd⟩, Ht1, Ht0⟩, HE⟩
  ihave #HI0 := (ctx_inv m K (c, some (0, j))) $$ Hc
  ihave #HI1 := (ctx_inv m K (j, some (1, c))) $$ Hc
  ihave #HR0 := (ctx_reached m K (c, some (0, j))) $$ Hc
  ihave #HR1 := (ctx_reached m K (j, some (1, c))) $$ Hc
  iapply (Rounds.wp_send_pointsTo 𝒱₀ ER (sched m) (c : Thread nD τ) none (c' := (j : Thread nD τ)) (src := slotX xdM j) (dst := slotX xrM c) (hsc := hsc) (sS := .dma (slotS cc0_scratch4 j)) (sem := .dma (slotS cc0_scratch5 c)) (κ₁ := K (c, some (0, j))) (κ₂ := K (j, some (1, c)))
    (r₁ := 0) (r₂ := 0) (d₁ := j) (d₂ := c) (fd := fd) (fs := XD m c)
    (by rw [show ((c : Thread nD τ), SemLoc.dma (slotS cc0_scratch4 j)) = cell 0 c j from rfl, duties_cell, if_neg hj]; exact Finset.mem_singleton_self _)
    (by rw [show ((j : Thread nD τ), SemLoc.dma (slotS cc0_scratch5 c)) = cell 1 j c from rfl, duties_cell, if_neg hj.symm]; exact Finset.mem_singleton_self _)
    () () NX rfl (amount_cell m c 0 j j) (amount_cell m j 1 c c) (owed ∅ (rem c (j.val + 1)) (rem c 0) c)
    ((owed_disp (B := ∅) (Y := rem c 0) c (mem_rem c j hj)).trans (by rw [rem_erase]; rfl))
    ((Entails.of_eq (by rw [show ((c : Thread nD τ), SemLoc.dma (slotS cc0_scratch4 j)) = cell 0 c j from rfl, payload_cell]; rfl)))
    ((Entails.of_eq (by rw [show ((j : Thread nD τ), SemLoc.dma (slotS cc0_scratch5 c)) = cell 1 j c from rfl, payload_cell]; exact land_x m c j fd)))) $$ [HO Hs Hd Ht1 Ht0]
  · isplitr; · iexact HI0
    isplitr; · iexact HI1
    isplitl [Hs]; · unfold xdPts; iexact Hs
    isplitl [Hd]; · unfold xrPts; iexact Hd
    isplitl [HO]; · iexact HO
    isplitl [Ht0]; · iexact Ht0
    isplitr; · iexact HR0
    isplitl [Ht1]; · iexact Ht1
    iexact HR1
  iintro ⟨Hcr, HO⟩
  rw [wp_ret]; imodintro
  isplitr; · iexact Hc
  isplitl [HO HX0]; · isplitl [HO]; · iexists W; iexact HO
                      iexact HX0
  isplitl [Hcr]; · iexact Hcr
  iexact HE

theorem disp_skip (Fr : sProp 𝕄) (j : Fin 16) (hj : ¬ j ≠ c) :
    iprop(ctx m K ∗ Ow Fr ∅ (rem c j.val) (rem c 0) c ∗ stg j.val (dspA m c) (dspB m c))
      ⊢ iprop(ctx m K ∗ Ow Fr ∅ (rem c (j.val + 1)) (rem c 0) c ∗ stg (j.val + 1) (dspA m c) (dspB m c)) := by
  have hjc : j = c := not_not.mp hj
  rw [rem_skip c j hj, stg_open, stg_close]
  unfold dspB dspA
  rw [if_pos hjc]
  iintro ⟨#Hc, HO, ⟨Hs, Hd, -, -⟩, HE⟩
  isplitr; · iexact Hc
  isplitl [HO]; · iexact HO
  isplitl [Hs Hd]
  · subst hjc; isplitl [Hs] <;> iassumption
  iexact HE

/-! ## The return -/

/-- What the device holds of iteration `j` of the second loop: `retB` at its start, `ret1` once the slot's results are
    stored, `ret2` once they are on their way, `retA` once its own are copied over. -/
def retB (j : Fin 16) : sProp 𝕄 :=
  iprop((∃ f, ysPts c j f) ∗ (∃ f, yrPts j c f) ∗ dutyTok ER (cell 3 j c) 0 c ∗ dutyTok ER (cell 2 c j) 0 j)
def ret1 (j : Fin 16) : sProp 𝕄 :=
  iprop(ysPts c j (YS m c) ∗ (∃ f, yrPts j c f) ∗ dutyTok ER (cell 3 j c) 0 c ∗ dutyTok ER (cell 2 c j) 0 j)
def ret2 (j : Fin 16) : sProp 𝕄 :=
  if j = c then iprop(ysPts c c (YS m c) ∗ ∃ f, yrPts c c f) else cred (tallyAt (cell 2 c j) () NY)
def retA (j : Fin 16) : sProp 𝕄 :=
  if j = c then iprop(ysPts c c (YS m c) ∗ yrPts c c (YR m c)) else cred (tallyAt (cell 2 c j) () NY)

set_option maxHeartbeats 1000000 in
theorem ret_op (Fr : sProp 𝕄) (j : Fin 16) (hj : j ≠ c) {n : Dev nD} {src : Memref sig .tc .vmem S96x512 .bf16} {dst : Memref sig .tc .vmem S96x512 .bf16}
    {sS rS : DmaSem sig} {hsc : (dst : Memref sig (Dev.tc n : Thread nD τ).2.kind .vmem S96x512 .bf16).view.ref.isScScratch = false}
    {p1 : src.view.WordExact} {p2 : dst.view.WordExact}
    {p3 : DmaTarget.Typed .vmem (.dma rS) (.remote (Dev.tc n : Thread nD τ) (dst : Memref sig (Dev.tc n : Thread nD τ).2.kind .vmem S96x512 .bf16) (.dma sS) hsc)}
    (hn : n = j) (hsrc : src = slotY ysM j) (hdst : dst = slotY yrM c) (hsS : sS = slotS cc0_scratch6 j) (hrS : rS = slotS cc0_scratch7 c) :
    iprop(ctx m K ∗ Ow Fr ∅ ∅ (rem c j.val) c ∗ ret1 m c j)
      ⊢ WP c (Prog.lift (.enqueueDma src (.remote (Dev.tc n : Thread nD τ) (dst : Memref sig (Dev.tc n : Thread nD τ).2.kind .vmem S96x512 .bf16) (.dma sS) hsc) (.dma rS) p1 p2 p3))
          (fun _ => iprop(ctx m K ∗ Ow Fr ∅ ∅ (rem c (j.val + 1)) c ∗ ret2 m c j)) := by
  subst n; subst hsrc hdst hsS hrS
  unfold Ow ret1 ret2
  rw [if_neg hj]
  unfold Prog.lift
  iintro ⟨#Hc, ⟨⟨%W, HO⟩, HX0⟩, Hs, ⟨%fd, Hd⟩, Ht1, Ht0⟩
  ihave #HI0 := (ctx_inv m K (c, some (2, j))) $$ Hc
  ihave #HI1 := (ctx_inv m K (j, some (3, c))) $$ Hc
  ihave #HR0 := (ctx_reached m K (c, some (2, j))) $$ Hc
  ihave #HR1 := (ctx_reached m K (j, some (3, c))) $$ Hc
  iapply (Rounds.wp_send_pointsTo 𝒱₀ ER (sched m) (c : Thread nD τ) none (c' := (j : Thread nD τ)) (src := slotY ysM j) (dst := slotY yrM c) (hsc := hsc) (sS := .dma (slotS cc0_scratch6 j)) (sem := .dma (slotS cc0_scratch7 c)) (κ₁ := K (c, some (2, j))) (κ₂ := K (j, some (3, c)))
    (r₁ := 0) (r₂ := 0) (d₁ := j) (d₂ := c) (fd := fd) (fs := YS m c)
    (by rw [show ((c : Thread nD τ), SemLoc.dma (slotS cc0_scratch6 j)) = cell 2 c j from rfl, duties_cell, if_neg hj]; exact Finset.mem_singleton_self _)
    (by rw [show ((j : Thread nD τ), SemLoc.dma (slotS cc0_scratch7 c)) = cell 3 j c from rfl, duties_cell, if_neg hj.symm]; exact Finset.mem_singleton_self _)
    () () NY rfl (amount_cell m c 2 j j) (amount_cell m j 3 c c) (owed ∅ ∅ (rem c (j.val + 1)) c)
    ((owed_ret (B := ∅) (R := ∅) c (mem_rem c j hj)).trans (by rw [rem_erase]; rfl))
    ((Entails.of_eq (by rw [show ((c : Thread nD τ), SemLoc.dma (slotS cc0_scratch6 j)) = cell 2 c j from rfl, payload_cell]; rfl)))
    ((Entails.of_eq (by rw [show ((j : Thread nD τ), SemLoc.dma (slotS cc0_scratch7 c)) = cell 3 j c from rfl, payload_cell]; exact land_y m c j fd)))) $$ [HO Hs Hd Ht1 Ht0]
  · isplitr; · iexact HI0
    isplitr; · iexact HI1
    isplitl [Hs]; · unfold ysPts; iexact Hs
    isplitl [Hd]; · unfold yrPts; iexact Hd
    isplitl [HO]; · iexact HO
    isplitl [Ht0]; · iexact Ht0
    isplitr; · iexact HR0
    isplitl [Ht1]; · iexact Ht1
    iexact HR1
  iintro ⟨Hcr, HO⟩
  rw [wp_ret]; imodintro
  isplitr; · iexact Hc
  isplitl [HO HX0]; · isplitl [HO]; · iexists W; iexact HO
                      iexact HX0
  iexact Hcr

theorem ret_skip (Fr : sProp 𝕄) (j : Fin 16) (hj : ¬ j ≠ c) :
    iprop(ctx m K ∗ Ow Fr ∅ ∅ (rem c j.val) c ∗ ret1 m c j) ⊢ iprop(ctx m K ∗ Ow Fr ∅ ∅ (rem c (j.val + 1)) c ∗ ret2 m c j) := by
  have hjc : j = c := not_not.mp hj
  rw [rem_skip c j hj]
  unfold ret1 ret2
  rw [if_pos hjc]
  iintro ⟨#Hc, HO, Hs, Hd, -, -⟩
  isplitr; · iexact Hc
  isplitl [HO]; · iexact HO
  subst hjc; isplitl [Hs] <;> iassumption

/-! ## A wait for a copy -/

theorem ctx_may (B R Y : Finset (Fin 16)) (sm : SemLoc sig) (n : ℕ) (hn : lv ((c : Thread nD τ), sm) () ≤ n)
    (hB : B = ∅ ∨ n < 1) (hR : R = ∅ ∨ n < 2) (hY : Y = ∅ ∨ n < 3) :
    ctx m K ⊢ MayWait (c : Thread nD τ) sm () (owed B R Y c) :=
by
  have h : (levAts L lv : sProp 𝕄) ⊢ MayWait (c : Thread nD τ) sm () (owed B R Y c) := mayWait_of (F := F) B R Y c sm n hn hB hR hY
  have h2 := ctx_lev m K
  exact BIBase.Entails.trans h2 h

set_option maxHeartbeats 1000000 in
/-- A wait for the copy of entry `e` of array `k`: the copy's payload, and the entry's counter back at zero. -/
theorem wait_op (Fr : sProp 𝕄) (k : Fin 4) (e : Fin 16) (he : e ≠ c) {s s' : Shape} {t t' : EltTy} {sem : DmaSem sig} {src : Memref sig .tc .vmem s t} {dst : Memref sig .tc .vmem s' t'}
    {p1 : src.view.WordExact} {p2 : dst.view.WordExact} (hsem : sem = slotS (arr k) e) (hN : dst.view.dmaCredit = NK k)
    {B R Y : Finset (Fin 16)} (n : ℕ) (hn : lv (cell k c e) () ≤ n) (hB : B = ∅ ∨ n < 1) (hR : R = ∅ ∨ n < 2) (hY : Y = ∅ ∨ n < 3) :
    iprop(ctx m K ∗ Ow Fr B R Y c ∗ cred (tallyAt (cell k c e) () (NK k)) ∗ atPos ER (cell k c e) 0 ∅ 0)
      ⊢ WP c (Prog.lift (.waitDma2 sem src dst p1 p2))
          (fun _ => iprop(ctx m K ∗ Ow Fr B R Y c ∗ copyPay m c k e ∗ semVal (cell k c e) 0)) := by
  subst hsem
  unfold Ow Prog.lift
  iintro ⟨#Hc, ⟨⟨%W, HO⟩, HX0⟩, Hcr, Hat⟩
  ihave #HI := (ctx_inv m K (c, some (k, e))) $$ Hc
  ihave Hm := (ctx_may m K c B R Y (osem (k, e)) n hn hB hR hY) $$ Hc
  iapply (Rounds.wp_wait_rest_token 𝒱₀ ER (sched m) (c : Thread nD τ) none (κ := K (c, some (k, e)))
      (k' := NK k) (fun Q => (wpE_waitDma2_eq 𝒱₀ (c : Thread nD τ) none Set.univ Q).trans (by rw [hN])) (Set.mem_univ _) () (O := owed B R Y c) (W := W) (R := 0) (m := 0) (T := ∅)
      (by rw [Nat.zero_add]; exact (expect_cell m c k e he).symm)) $$ [HO Hcr Hat Hm]
  · isplitr; · iexact HI
    isplitl [Hcr]; · iexact Hcr
    isplitl [HO]; · iexact HO
    isplitl [Hm]; · iexact Hm
    iexact Hat
  iintro ⟨HO, Hat, -, Hpay⟩
  ihave Hp := (Entails.of_eq (rest_cell m c k e he)) $$ Hpay
  imod (Rounds.cell_close ER (sched m) (Set.mem_univ (K (c, some (k, e)))) (fun h => h) (R := 0 + 1) (duties_later m (cell k c e))) $$ [Hat] with Hz
  · isplitr; · iexact HI
    iexact Hat
  rw [wp_ret]; imodintro
  isplitr; · iexact Hc
  isplitl [HO HX0]; · isplitl [HO]; · iexists _; iexact HO
                      iexact HX0
  isplitl [Hp]; · iexact Hp
  iexact Hz

end Copies

end Cert.Moe

end
-- ==== Proof.Moves.lean ====
/-
The statements of the kernel's two loops over the sixteen devices, one rule each, in the shape they are printed in: a
statement run on the devices a condition selects, then the rest.
-/
module

public import proofs.«01_k».proof.Proof.Copies
public import Idealize.ShloMosaic.Lib.Pipeline.Value

@[expose] public section

set_option maxRecDepth 10000

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The device's number as the program computes it, and the conditions comparing it. -/
abbrev vme (c : Dev nD) : BitVec 32 := Scalar.remsi (Scalar.divsi (Dev.word c) 1#32) 16#32

theorem ne_iff (j : Fin 16) (c : Dev nD) {w : BitVec 32} (hw : w = BitVec.ofNat 32 j.val) :
    Scalar.cmpi .ne (Scalar.extui (Scalar.cmpi .ne (vme c) w) : BitVec 32) 0#32 = 1#1 ↔ j ≠ c := by
  subst hw; revert j c; decide +kernel
theorem eq_iff (j : Fin 16) (c : Dev nD) {w : BitVec 32} (hw : w = BitVec.ofNat 32 j.val) :
    Scalar.cmpi .ne (Scalar.extui (Scalar.cmpi .eq (vme c) w) : BitVec 32) 0#32 = 1#1 ↔ j = c := by
  subst hw; revert j c; decide +kernel

theorem lift_bind {α β : Type} (e : TpuEff nD τ sig (Elt F) Λ₀ .tc β) (k : β → Prog (TpuEff nD τ sig (Elt F) Λ₀ .tc) α) :
    (Prog.lift e >>= k) = .op e k := rfl

section Moves

variable (m : (ℓ : Loc nD τ sig) → Buf (Elt F) ℓ) (K : CK → ℕ) (c : Dev nD)

theorem wp_condU {α : Type} {P : Prop} [Decidable P] {t : P → Prog (TpuEff nD τ sig (Elt F) Λ₀ .tc) PUnit}
    {J : Prog (TpuEff nD τ sig (Elt F) Λ₀ .tc) α} {Q : α → sProp 𝕄} {S S' : sProp 𝕄}
    (ht : ∀ h : P, S ⊢ WP c (t h) (fun _ => S')) (he : ¬ P → S ⊢ iprop(|={Set.univ}=> S')) (hc : S' ⊢ WP c J Q) :
    S ⊢ WP c (dite P (fun h => t h >>= fun _ => J) (fun _ => J)) Q := by
  by_cases h : P
  · rw [dif_pos h, WP, wp_bind]
    exact (ht h).trans (wp_mono _ _ _ fun _ => hc)
  · rw [dif_neg h]
    have h1 := he h
    refine BIBase.Entails.trans (Q := iprop(|={Set.univ}=> WP c J Q)) ?_ (fupd_wp frame (wpE (defs₀ (F := F)) 𝒱₀ (c : Thread nD τ) none) Set.univ _ _)
    iintro H
    imod h1 $$ H with H
    imodintro
    iapply hc
    iexact H

/-- Running a piece of the body that returns `e`, then the rest, the rest of the state set aside. -/
theorem chain {α β : Type} {p : Prog (TpuEff nD τ sig (Elt F) Λ₀ .tc) β} {e : β} {k : β → Prog (TpuEff nD τ sig (Elt F) Λ₀ .tc) α}
    {Q : α → sProp 𝕄} {S S' R : sProp 𝕄} (hp : S ⊢ WP c p (fun r => iprop(⌜r = e⌝ ∗ S'))) (hk : iprop(S' ∗ R) ⊢ WP c (k e) Q) :
    iprop(S ∗ R) ⊢ WP c (p >>= k) Q := by
  rw [WP, wp_bind]
  refine BIBase.Entails.trans (sep_mono_left hp) ?_
  refine BIBase.Entails.trans (wp_frame_r _ _ _) ?_
  refine wp_mono _ _ _ fun r => ?_
  iintro ⟨⟨%hr, HS⟩, HR⟩
  subst hr
  iapply hk
  isplitl [HS] <;> iassumption

theorem ret_eq {β : Type} {e : β} {S : sProp 𝕄} : S ⊢ WP c (Pure.pure e : Prog (TpuEff nD τ sig (Elt F) Λ₀ .tc) β) (fun r => iprop(⌜r = e⌝ ∗ S)) :=
  wp_pure' (by iintro H; isplitr; · ipureintro; rfl
               iexact H)

theorem pay0 (e : Fin 16) : copyPay m c 0 e = xdPts c e (XD m c) := if_pos rfl
theorem pay1 (e : Fin 16) : copyPay m c 1 e = xrPts c e (XR m c) := by unfold copyPay; rw [if_neg (by decide), if_pos rfl]
theorem pay2 (e : Fin 16) : copyPay m c 2 e = ysPts c e (YS m c) := by unfold copyPay; rw [if_neg (by decide), if_neg (by decide), if_pos rfl]
theorem pay3 (e : Fin 16) : copyPay m c 3 e = yrPts c e (YR m c) := by
  unfold copyPay; rw [if_neg (by decide), if_neg (by decide), if_neg (by decide)]

/-! ## The own-index entries close unused -/

theorem duties_own (k : Fin 4) : ∀ r, 0 ≤ r → (sched (F := F) m).duties (cell k c c) r = ∅ := fun r _ => by
  by_cases h : 1 ≤ r
  · exact duties_later m _ r h
  · obtain rfl : r = 0 := by omega
    rw [duties_cell, if_pos rfl]

theorem close_own (k : Fin 4) : iprop(ctx m K ∗ atPos ER (cell k c c) 0 ∅ 0) ⊢ iprop(|={Set.univ}=> semVal (cell k c c) 0) := by
  iintro ⟨#Hc, Hat⟩
  ihave #HI := (ctx_inv m K (c, some (k, c))) $$ Hc
  iapply (Rounds.cell_close ER (sched m) (Set.mem_univ (K (c, some (k, c)))) (fun h => h) (R := 0) (duties_own m c k))
  isplitr; · iexact HI
  iexact Hat

/-! ## The dispatch -/

theorem disp_step (Fr : sProp 𝕄) (j : Fin 16) {α : Type} {P : Prop} [Decidable P] {src : P → Memref sig .tc .vmem S96x384 .bf16}
    {dst : P → Memref sig .tc .vmem S96x384 .bf16} {sS rS : P → DmaSem sig} {dev : ℕ} {hdev : P → dev < nD}
    {hsc : ∀ h, ((dst h) : Memref sig (Dev.tc (⟨dev, hdev h⟩ : Dev nD) : Thread nD τ).2.kind .vmem S96x384 .bf16).view.ref.isScScratch = false}
    {p1 : ∀ h, (src h).view.WordExact} {p2 : ∀ h, (dst h).view.WordExact}
    {p3 : ∀ h, DmaTarget.Typed .vmem (.dma (rS h)) (.remote (Dev.tc (⟨dev, hdev h⟩ : Dev nD) : Thread nD τ) ((dst h) : Memref sig (Dev.tc (⟨dev, hdev h⟩ : Dev nD) : Thread nD τ).2.kind .vmem S96x384 .bf16) (.dma (sS h)) (hsc h))}
    (hP : P ↔ j ≠ c) (hd : dev = j.val) (hsrc : ∀ h, src h = slotX xdM j) (hdst : ∀ h, dst h = slotX xrM c)
    (hsS : ∀ h, sS h = slotS cc0_scratch4 j) (hrS : ∀ h, rS h = slotS cc0_scratch5 c)
    {J : Prog (TpuEff nD τ sig (Elt F) Λ₀ .tc) α} {Q : α → sProp 𝕄}
    (hc : iprop(ctx m K ∗ Ow Fr ∅ (rem c (j.val + 1)) (rem c 0) c ∗ stg (j.val + 1) (dspA m c) (dspB m c)) ⊢ WP c J Q) :
    iprop(ctx m K ∗ Ow Fr ∅ (rem c j.val) (rem c 0) c ∗ stg j.val (dspA m c) (dspB m c))
      ⊢ WP c (dite P (fun h => Prog.lift (.enqueueDma (src h) (.remote (Dev.tc (⟨dev, hdev h⟩ : Dev nD) : Thread nD τ) ((dst h) : Memref sig (Dev.tc (⟨dev, hdev h⟩ : Dev nD) : Thread nD τ).2.kind .vmem S96x384 .bf16) (.dma (sS h)) (hsc h)) (.dma (rS h)) (p1 h) (p2 h) (p3 h)) >>= fun _ => J) (fun _ => J)) Q :=
  wp_cond (fun h => disp_op m K c Fr j (hP.mp h) (Fin.ext hd) (hsrc h) (hdst h) (hsS h) (hrS h)) (fun h => disp_skip m K c Fr j fun h' => h (hP.mpr h')) hc

/-! ## The second loop -/

/-- Before and after iteration `j`'s wait for the tokens dispatched by `j`. -/
def rcvB (j : Fin 16) : sProp 𝕄 :=
  if j = c then iprop(xrPts c c (XR m c) ∗ atPos ER (cell 1 c c) 0 ∅ 0) else iprop(cred (tallyAt (cell 1 c j) () NX) ∗ atPos ER (cell 1 c j) 0 ∅ 0)
def rcvA (j : Fin 16) : sProp 𝕄 := iprop(xrPts c j (XR m c) ∗ semVal (cell 1 c j) 0)

/-- The state before iteration `n`; after its wait; after its store; after its copy back. -/
def SL0 (Fr : sProp 𝕄) (n : ℕ) : sProp 𝕄 :=
  iprop(ctx m K ∗ Ow Fr ∅ ∅ (rem c n) c ∗ stg n (rcvA m c) (rcvB m c) ∗ stg n (retA m c) (retB c))
def SL1 (Fr : sProp 𝕄) (j : Fin 16) : sProp 𝕄 :=
  iprop(ctx m K ∗ Ow Fr ∅ ∅ (rem c j.val) c ∗ stg (j.val + 1) (rcvA m c) (rcvB m c) ∗ stg j.val (retA m c) (retB c))
def SL2 (Fr : sProp 𝕄) (j : Fin 16) : sProp 𝕄 :=
  iprop(ctx m K ∗ Ow Fr ∅ ∅ (rem c j.val) c ∗ stg (j.val + 1) (rcvA m c) (rcvB m c) ∗ ret1 m c j ∗ stgE j (retA m c) (retB c))
def SL3 (Fr : sProp 𝕄) (j : Fin 16) : sProp 𝕄 :=
  iprop(ctx m K ∗ Ow Fr ∅ ∅ (rem c (j.val + 1)) c ∗ stg (j.val + 1) (rcvA m c) (rcvB m c) ∗ ret2 m c j ∗ stgE j (retA m c) (retB c))

theorem rcv_step (Fr : sProp 𝕄) (j : Fin 16) {α : Type} {P : Prop} [Decidable P] {sem : P → DmaSem sig} {src dst : P → Memref sig .tc .vmem S96x384 .bf16}
    {p1 : ∀ h, (src h).view.WordExact} {p2 : ∀ h, (dst h).view.WordExact}
    (hP : P ↔ j ≠ c) (hsem : ∀ h, sem h = slotS cc0_scratch5 j) (hdst : ∀ h, (dst h).view.dmaCredit = NX)
    {J : Prog (TpuEff nD τ sig (Elt F) Λ₀ .tc) α} {Q : α → sProp 𝕄} (hc : SL1 m K c Fr j ⊢ WP c J Q) :
    SL0 m K c Fr j.val ⊢ WP c (dite P (fun h => Prog.lift (.waitDma2 (sem h) (src h) (dst h) (p1 h) (p2 h)) >>= fun _ => J) (fun _ => J)) Q := by
  refine wp_condU c (fun h => ?_) (fun h => ?_) hc
  · have hj : j ≠ c := hP.mp h
    unfold SL0 SL1
    rw [stg_open j (rcvA m c), stg_close j (rcvA m c)]
    unfold rcvB rcvA
    rw [if_neg hj]
    iintro ⟨Hc, HO, ⟨⟨Hcr, Hat⟩, HE⟩, HR⟩
    iapply (wp_wand_r)
    isplitl [Hc HO Hcr Hat]
    · iapply (wait_op m K c Fr 1 j hj (B := ∅) (R := ∅) (Y := rem c j.val) (hsem h) (hdst h) 2 (by rw [lv_cell]; decide) (.inl rfl) (.inl rfl) (.inr (by decide)))
      isplitl [Hc]; · iexact Hc
      isplitl [HO]; · iexact HO
      isplitl [Hcr]; · iexact Hcr
      iexact Hat
    iintro %_ ⟨Hc, HO, Hp, Hz⟩
    isplitl [Hc]; · iexact Hc
    isplitl [HO]; · iexact HO
    isplitl [Hp Hz HE]
    · isplitl [Hp Hz]
      · isplitl [Hp]; · iapply (Entails.of_eq (pay1 m c j)); iexact Hp
        iexact Hz
      iexact HE
    iexact HR
  · have hj : j = c := not_not.mp fun h' => h (hP.mpr h')
    unfold SL0 SL1
    rw [stg_open j (rcvA m c), stg_close j (rcvA m c)]
    unfold rcvB rcvA
    rw [if_pos hj]
    iintro ⟨#Hc, HO, ⟨⟨Hx, Hat⟩, HE⟩, HR⟩
    imod (close_own m K c 1) $$ [Hat] with Hz
    · isplitr; · iexact Hc
      iexact Hat
    imodintro
    isplitr; · iexact Hc
    isplitl [HO]; · iexact HO
    isplitl [Hx Hz HE]
    · isplitl [Hx Hz]
      · subst hj
        isplitl [Hx]; · iexact Hx
        iexact Hz
      iexact HE
    iexact HR

theorem acc_set_xr (j : Fin 16) : ((xrM.access (rX j)).set : Finset _) = (rX j).set := by
  show ((View.whole cc0_scratch1).slice (rX j)).set = _
  rw [View.set_slice_whole]
theorem acc_set_ys (j : Fin 16) : ((ysM.access (rY j)).set : Finset _) = (rY j).set := by
  show ((View.whole cc0_scratch2).slice (rY j)).set = _
  rw [View.set_slice_whole]
theorem acc_set_yr (j : Fin 16) : ((yrM.access (rY j)).set : Finset _) = (rY j).set := by
  show ((View.whole cc0_scratch3).slice (rY j)).set = _
  rw [View.set_slice_whole]
theorem acc_set_xd (j : Fin 16) : ((xdM.access (rX j)).set : Finset _) = (rX j).set := by
  show ((View.whole cc0_scratch0).slice (rX j)).set = _
  rw [View.set_slice_whole]

theorem on_xr (j : Fin 16) : xrM.view.setOn (rX j).toLoadRect.set ⊆ (rX j).set := by
  have h := acc_set_xr j; rw [View.set_slice] at h; exact Finset.Subset.antisymm_iff.mp h |>.1
theorem on_xd (j : Fin 16) : xdM.view.setOn (rX j).toLoadRect.set ⊆ (rX j).set := by
  have h := acc_set_xd j; rw [View.set_slice] at h; exact Finset.Subset.antisymm_iff.mp h |>.1
theorem on_ys (j : Fin 16) : ysM.view.setOn (rY j).toLoadRect.set ⊆ (rY j).set := by
  have h := acc_set_ys j; rw [View.set_slice] at h; exact Finset.Subset.antisymm_iff.mp h |>.1
theorem on_yr (j : Fin 16) : yrM.view.setOn (rY j).toLoadRect.set ⊆ (rY j).set := by
  have h := acc_set_yr j; rw [View.set_slice] at h; exact Finset.Subset.antisymm_iff.mp h |>.1

/-- A load off a buffer one holds. -/
theorem ld {s : Shape} {e : EltTy} (M : Memref sig .tc .vmem s e) (r : Rect s) {α : Type} {hl : M.view.LoadsAt r.toLoadRect}
    {S : Finset (Idx (M.view.loc (c : Thread nD τ)))} (hS : M.view.setOn r.toLoadRect.set ⊆ S) (f : Buf (Elt F) (M.view.loc (c : Thread nD τ)))
    {k : (r.shape.Idx → Elt F e) → Prog (TpuEff nD τ sig (Elt F) Λ₀ .tc) α} {Q : α → sProp 𝕄} :
    (M.view.loc (c : Thread nD τ) ↦[S]{fullShare} f : sProp 𝕄)
      ⊢ iprop(((M.view.loc (c : Thread nD τ) ↦[S]{fullShare} f) -∗ WP c (k (M.view.readAt (Elt F) r.toLoadRect f)) Q) -∗ WP c (.op (.load M r.toLoadRect hl) k) Q) :=
  wp_load 𝒱₀ (c : Thread nD τ) none Set.univ (m := M) (r := r.toLoadRect) (S := S) (k := k) hS
theorem ldX (M : Memref sig .tc .vmem S16x96x384 .bf16) (j : Fin 16) {α : Type} {hl : M.view.LoadsAt (rX j).toLoadRect}
    {S : Finset (Idx (M.view.loc (c : Thread nD τ)))} (hS : M.view.setOn (rX j).toLoadRect.set ⊆ S) (f : Buf (Elt F) (M.view.loc (c : Thread nD τ)))
    {k : Vec F S1x96x384 .bf16 → Prog (TpuEff nD τ sig (Elt F) Λ₀ .tc) α} {Q : α → sProp 𝕄} :
    (M.view.loc (c : Thread nD τ) ↦[S]{fullShare} f : sProp 𝕄)
      ⊢ iprop(((M.view.loc (c : Thread nD τ) ↦[S]{fullShare} f) -∗ WP c (k (M.view.readAt (Elt F) (rX j).toLoadRect f)) Q) -∗ WP c (.op (.load M (rX j).toLoadRect hl) k) Q) :=
  ld c M (rX j) hS f (k := k)
theorem ldY (M : Memref sig .tc .vmem S16x96x512 .bf16) (j : Fin 16) {α : Type} {hl : M.view.LoadsAt (rY j).toLoadRect}
    {S : Finset (Idx (M.view.loc (c : Thread nD τ)))} (hS : M.view.setOn (rY j).toLoadRect.set ⊆ S) (f : Buf (Elt F) (M.view.loc (c : Thread nD τ)))
    {k : Vec F S1x96x512 .bf16 → Prog (TpuEff nD τ sig (Elt F) Λ₀ .tc) α} {Q : α → sProp 𝕄} :
    (M.view.loc (c : Thread nD τ) ↦[S]{fullShare} f : sProp 𝕄)
      ⊢ iprop(((M.view.loc (c : Thread nD τ) ↦[S]{fullShare} f) -∗ WP c (k (M.view.readAt (Elt F) (rY j).toLoadRect f)) Q) -∗ WP c (.op (.load M (rY j).toLoadRect hl) k) Q) :=
  ld c M (rY j) hS f (k := k)

theorem SL1_eq (Fr : sProp 𝕄) (j : Fin 16) : SL1 m K c Fr j = iprop(ctx m K ∗ Ow Fr ∅ ∅ (rem c j.val) c ∗ ((xrPts c j (XR m c) ∗ semVal (cell 1 c j) 0)
    ∗ stgE j (rcvA m c) (rcvB m c)) ∗ (((∃ f, ysPts c j f) ∗ (∃ f, yrPts j c f) ∗ dutyTok ER (cell 3 j c) 0 c ∗ dutyTok ER (cell 2 c j) 0 j)
    ∗ stgE j (retA m c) (retB c))) := by
  unfold SL1; rw [stg_close j (rcvA m c), stg_open j (retA m c)]; rfl

theorem ldxr_step (Fr : sProp 𝕄) (j : Fin 16) {α : Type} {hl : xrM.view.LoadsAt (rX j).toLoadRect}
    {k : Vec F S1x96x384 .bf16 → Prog (TpuEff nD τ sig (Elt F) Λ₀ .tc) α} {Q : α → sProp 𝕄} (hc : SL1 m K c Fr j ⊢ WP c (k (rdX (XR m c) j)) Q) :
    SL1 m K c Fr j ⊢ WP c (Prog.lift (.load xrM (rX j).toLoadRect hl) >>= k) Q := by
  rw [lift_bind]
  rw [SL1_eq] at hc ⊢
  iintro ⟨Hc, HO, ⟨⟨Hx, Hz⟩, HE⟩, HR⟩
  ihave Hx := (Entails.of_eq (xrPts_eq c j (XR m c))) $$ Hx
  iapply (ldX c xrM j (S := (rX j).set) (on_xr j) _) $$ Hx
  iintro Hx
  iapply hc
  isplitl [Hc]; · iexact Hc
  isplitl [HO]; · iexact HO
  isplitl [Hx Hz HE]
  · isplitl [Hx Hz]
    · isplitl [Hx]; · iapply (Entails.of_eq (xrPts_eq c j (XR m c)).symm); iexact Hx
      iexact Hz
    iexact HE
  iexact HR

theorem ldys_step (Fr : sProp 𝕄) (j : Fin 16) {α : Type} {hl : ysM.view.LoadsAt (rY j).toLoadRect}
    {k : Vec F S1x96x512 .bf16 → Prog (TpuEff nD τ sig (Elt F) Λ₀ .tc) α} {Q : α → sProp 𝕄} (hc : ∀ v, SL1 m K c Fr j ⊢ WP c (k v) Q) :
    SL1 m K c Fr j ⊢ WP c (Prog.lift (.load ysM (rY j).toLoadRect hl) >>= k) Q := by
  rw [lift_bind]
  rw [SL1_eq] at hc ⊢
  iintro ⟨Hc, HO, HX, ⟨⟨⟨%f, Hy⟩, HT⟩, HE⟩⟩
  ihave Hy := (Entails.of_eq (ysPts_eq c j f)) $$ Hy
  iapply (ldY c ysM j (S := (rY j).set) (on_ys j) _) $$ Hy
  iintro Hy
  iapply (hc _)
  isplitl [Hc]; · iexact Hc
  isplitl [HO]; · iexact HO
  isplitl [HX]; · iexact HX
  isplitl [Hy HT]
  · isplitl [Hy]; · iexists f; iapply (Entails.of_eq (ysPts_eq c j f).symm); iexact Hy
    iexact HT
  iexact HE

theorem write_ys (j : Fin 16) (f : ContY F) :
    (((c : Thread nD τ).loc cc0_scratch2) ↦[(rY j).set]{fullShare}
      ((ysM.access (rY j)).write (Elt F) f (yOf (k0_pay15 (ewin m c)) (rdX (XR m c) j)) Finset.univ) : sProp 𝕄) = ysPts c j (YS m c) := by
  rw [ysPts_eq]
  refine pointsTo_congr fun i hi => ?_
  rw [← acc_set_ys] at hi
  obtain  ⟨y, -, rfl⟩ := Finset.mem_map.mp hi
  refine (View.write_emb_of_mem (v := ysM.access (rY j)) _ _ (Finset.mem_univ y)).trans ?_
  show yOf (k0_pay15 (ewin m c)) (rdX (XR m c) j) y = yOf (k0_pay15 (ewin m c)) (rdX (XR m c) ((rY j).emb y 0)) (lowY ((rY j).emb y))
  rw [emb_rY_zero, low_emb_rY]

theorem write_yr (f : ContY F) {w : Vec F S1x96x512 .bf16} (hw : w = ysM.view.readAt (Elt F) (rY c).toLoadRect (YS m c)) :
    (((c : Thread nD τ).loc cc0_scratch3) ↦[(rY c).set]{fullShare} ((yrM.access (rY c)).write (Elt F) f w Finset.univ) : sProp 𝕄) = yrPts c c (YR m c) := by
  subst hw
  rw [yrPts_eq]
  refine pointsTo_congr fun i hi => ?_
  rw [← acc_set_yr] at hi
  obtain  ⟨y, -, rfl⟩ := Finset.mem_map.mp hi
  refine (View.write_emb_of_mem (v := yrM.access (rY c)) _ _ (Finset.mem_univ y)).trans ?_
  show YS m c ((rY c).emb y) = YS m ((rY c).emb y 0) (atY c ((rY c).emb y))
  rw [emb_rY_zero, ← emb_rY]

theorem write_xr (f : ContX F) {w : Vec F S1x96x384 .bf16} (hw : w = xdM.view.readAt (Elt F) (rX c).toLoadRect (XD m c)) :
    (((c : Thread nD τ).loc cc0_scratch1) ↦[(rX c).set]{fullShare} ((xrM.access (rX c)).write (Elt F) f w Finset.univ) : sProp 𝕄) = xrPts c c (XR m c) := by
  subst hw
  rw [xrPts_eq]
  refine pointsTo_congr fun i hi => ?_
  rw [← acc_set_xr] at hi
  obtain  ⟨y, -, rfl⟩ := Finset.mem_map.mp hi
  refine (View.write_emb_of_mem (v := xrM.access (rX c)) _ _ (Finset.mem_univ y)).trans ?_
  show XD m c ((rX c).emb y) = XD m ((rX c).emb y 0) (atX c ((rX c).emb y))
  rw [emb_rX_zero, ← emb_rX]

theorem stys_step (Fr : sProp 𝕄) (j : Fin 16) {α : Type} {w : Vec F S1x96x512 .bf16} {hx : (ysM.access (rY j)).Stores Finset.univ}
    {hm : (Finset.univ : Finset (rY j).shape.Idx) = Finset.univ ∨ ∀ a, (rY j).stride a = 1}
    (hw : w = yOf (k0_pay15 (ewin m c)) (rdX (XR m c) j))
    {k : PUnit → Prog (TpuEff nD τ sig (Elt F) Λ₀ .tc) α} {Q : α → sProp 𝕄} (hc : SL2 m K c Fr j ⊢ WP c (k ⟨⟩) Q) :
    SL1 m K c Fr j ⊢ WP c (Prog.lift (.store ysM (rY j) w Finset.univ hx hm) >>= k) Q := by
  subst hw
  show _ ⊢ WP c (.op (.store ysM (rY j) _ Finset.univ hx hm) k) Q
  rw [SL1_eq]
  iintro ⟨Hc, HO, HX, ⟨⟨⟨%f, Hy⟩, Hr, HT⟩, HE⟩⟩
  ihave Hy := (Entails.of_eq (ysPts_eq c j f)) $$ Hy
  iapply (wp_store 𝒱₀ (c : Thread nD τ) none Set.univ (m := ysM) (r := rY j) (Mk := Finset.univ) (by rw [View.setOn_univ, acc_set_ys])) $$ Hy
  iintro Hy
  ihave Hy := (Entails.of_eq (write_ys m c j f)) $$ Hy
  iapply hc
  unfold SL2
  rw [stg_close j (rcvA m c)]
  isplitl [Hc]; · iexact Hc
  isplitl [HO]; · iexact HO
  isplitl [HX]; · iexact HX
  isplitl [Hy Hr HT]
  · unfold ret1
    isplitl [Hy]; · iexact Hy
    isplitl [Hr]; · iexact Hr
    iexact HT
  iexact HE

theorem ret_step (Fr : sProp 𝕄) (j : Fin 16) {α : Type} {P : Prop} [Decidable P] {src : P → Memref sig .tc .vmem S96x512 .bf16}
    {dst : P → Memref sig .tc .vmem S96x512 .bf16} {sS rS : P → DmaSem sig} {dev : ℕ} {hdev : P → dev < nD}
    {hsc : ∀ h, ((dst h) : Memref sig (Dev.tc (⟨dev, hdev h⟩ : Dev nD) : Thread nD τ).2.kind .vmem S96x512 .bf16).view.ref.isScScratch = false}
    {p1 : ∀ h, (src h).view.WordExact} {p2 : ∀ h, (dst h).view.WordExact}
    {p3 : ∀ h, DmaTarget.Typed .vmem (.dma (rS h)) (.remote (Dev.tc (⟨dev, hdev h⟩ : Dev nD) : Thread nD τ) ((dst h) : Memref sig (Dev.tc (⟨dev, hdev h⟩ : Dev nD) : Thread nD τ).2.kind .vmem S96x512 .bf16) (.dma (sS h)) (hsc h))}
    (hP : P ↔ j ≠ c) (hd : dev = j.val) (hsrc : ∀ h, src h = slotY ysM j) (hdst : ∀ h, dst h = slotY yrM c)
    (hsS : ∀ h, sS h = slotS cc0_scratch6 j) (hrS : ∀ h, rS h = slotS cc0_scratch7 c)
    {J : Prog (TpuEff nD τ sig (Elt F) Λ₀ .tc) α} {Q : α → sProp 𝕄}
    (hc : SL3 m K c Fr j ⊢ WP c J Q) :
    SL2 m K c Fr j
      ⊢ WP c (dite P (fun h => Prog.lift (.enqueueDma (src h) (.remote (Dev.tc (⟨dev, hdev h⟩ : Dev nD) : Thread nD τ) ((dst h) : Memref sig (Dev.tc (⟨dev, hdev h⟩ : Dev nD) : Thread nD τ).2.kind .vmem S96x512 .bf16) (.dma (sS h)) (hsc h)) (.dma (rS h)) (p1 h) (p2 h) (p3 h)) >>= fun _ => J) (fun _ => J)) Q := by
  refine wp_cond (fun h => ?_) (fun h => ?_) hc
  · unfold SL2 SL3
    iintro ⟨Hc, HO, HX, Hr, HE⟩
    iapply (wp_wand_r)
    isplitl [Hc HO Hr]
    · iapply (ret_op m K c Fr j (hP.mp h) (Fin.ext hd) (hsrc h) (hdst h) (hsS h) (hrS h))
      isplitl [Hc]; · iexact Hc
      isplitl [HO]; · iexact HO
      iexact Hr
    iintro %_ ⟨Hc, HO, Hr⟩
    isplitl [Hc]; · iexact Hc
    isplitl [HO]; · iexact HO
    isplitl [HX]; · iexact HX
    isplitl [Hr]; · iexact Hr
    iexact HE
  · have h1 := ret_skip m K c Fr j fun h' => h (hP.mpr h')
    unfold SL2 SL3
    iintro ⟨Hc, HO, HX, Hr, HE⟩
    ihave H := h1 $$ [Hc HO Hr]
    · isplitl [Hc]; · iexact Hc
      isplitl [HO]; · iexact HO
      iexact Hr
    icases H with ⟨Hc, HO, Hr⟩
    isplitl [Hc]; · iexact Hc
    isplitl [HO]; · iexact HO
    isplitl [HX]; · iexact HX
    isplitl [Hr]; · iexact Hr
    iexact HE

theorem own_step (Fr : sProp 𝕄) (j : Fin 16) {α : Type} {P : Prop} [Decidable P] {pay : Vec F S1x96x512 .bf16 → Vec F S1x96x512 .bf16}
    {hl : ysM.view.LoadsAt (rY j).toLoadRect} {hl' : yrM.view.LoadsAt (rY j).toLoadRect} {hx : (yrM.access (rY j)).Stores Finset.univ}
    {hm : (Finset.univ : Finset (rY j).shape.Idx) = Finset.univ ∨ ∀ a, (rY j).stride a = 1}
    (hP : P ↔ j = c) (hpay : ∀ v, pay v = v)
    {J : Prog (TpuEff nD τ sig (Elt F) Λ₀ .tc) α} {Q : α → sProp 𝕄} (hc : SL0 m K c Fr (j.val + 1) ⊢ WP c J Q) :
    SL3 m K c Fr j ⊢ WP c (dite P (fun _ => Prog.lift (.load ysM (rY j).toLoadRect hl) >>= fun v => Prog.lift (.load yrM (rY j).toLoadRect hl') >>= fun _ =>
      Prog.lift (.store yrM (rY j) (pay v) Finset.univ hx hm) >>= fun _ => J) (fun _ => J)) Q := by
  unfold SL0 at hc
  rw [stg_close j (retA m c)] at hc
  unfold SL3 ret2
  by_cases h : P
  · have hj : j = c := hP.mp h
    rw [dif_pos h, if_pos hj]
    have ha : retA m c j = iprop(ysPts c c (YS m c) ∗ yrPts c c (YR m c)) := if_pos hj
    rw [ha] at hc
    subst hj
    rw [lift_bind]
    iintro ⟨Hc, HO, HX, ⟨Hy, ⟨%f, Hr⟩⟩, HE⟩
    ihave Hy := (Entails.of_eq (ysPts_eq j j (YS m j))) $$ Hy
    ihave Hr := (Entails.of_eq (yrPts_eq j j f)) $$ Hr
    iapply (ldY j ysM j (S := (rY j).set) (on_ys j) _) $$ Hy
    iintro Hy
    rw [lift_bind]
    iapply (ldY j yrM j (S := (rY j).set) (on_yr j) _) $$ Hr
    iintro Hr
    rw [lift_bind]
    iapply (wp_store 𝒱₀ (j : Thread nD τ) none Set.univ (m := yrM) (r := rY j) (Mk := Finset.univ) (by rw [View.setOn_univ, acc_set_yr])) $$ Hr
    iintro Hr
    ihave Hr := (Entails.of_eq (write_yr m j f (hpay _))) $$ Hr
    iapply hc
    isplitl [Hc]; · iexact Hc
    isplitl [HO]; · iexact HO
    isplitl [HX]; · iexact HX
    isplitl [Hy Hr]
    · isplitl [Hy]; · iapply (Entails.of_eq (ysPts_eq j j (YS m j)).symm); iexact Hy
      iexact Hr
    iexact HE
  · have hj : ¬ j = c := fun h' => h (hP.mpr h')
    rw [dif_neg h, if_neg hj]
    have ha : retA m c j = cred (tallyAt (cell 2 c j) () NY) := if_neg hj
    rw [ha] at hc
    exact hc

/-! ## The results coming back -/

def bckB (j : Fin 16) : sProp 𝕄 :=
  if j = c then iprop(yrPts c c (YR m c) ∗ atPos ER (cell 3 c c) 0 ∅ 0) else iprop(cred (tallyAt (cell 3 c j) () NY) ∗ atPos ER (cell 3 c j) 0 ∅ 0)
def bckA (j : Fin 16) : sProp 𝕄 := iprop(yrPts c j (YR m c) ∗ semVal (cell 3 c j) 0)
def SB (Fr : sProp 𝕄) (n : ℕ) : sProp 𝕄 := iprop(ctx m K ∗ Ow Fr ∅ ∅ ∅ c ∗ stg n (bckA m c) (bckB m c))

theorem bck_step (Fr : sProp 𝕄) (j : Fin 16) {α : Type} {P : Prop} [Decidable P] {sem : P → DmaSem sig} {src dst : P → Memref sig .tc .vmem S96x512 .bf16}
    {p1 : ∀ h, (src h).view.WordExact} {p2 : ∀ h, (dst h).view.WordExact}
    (hP : P ↔ j ≠ c) (hsem : ∀ h, sem h = slotS cc0_scratch7 j) (hdst : ∀ h, (dst h).view.dmaCredit = NY)
    {J : Prog (TpuEff nD τ sig (Elt F) Λ₀ .tc) α} {Q : α → sProp 𝕄} (hc : SB m K c Fr (j.val + 1) ⊢ WP c J Q) :
    SB m K c Fr j.val ⊢ WP c (dite P (fun h => Prog.lift (.waitDma2 (sem h) (src h) (dst h) (p1 h) (p2 h)) >>= fun _ => J) (fun _ => J)) Q := by
  refine wp_condU c (fun h => ?_) (fun h => ?_) hc
  · have hj : j ≠ c := hP.mp h
    unfold SB
    rw [stg_open j (bckA m c), stg_close j (bckA m c)]
    unfold bckB bckA
    rw [if_neg hj]
    iintro ⟨Hc, HO, ⟨Hcr, Hat⟩, HE⟩
    iapply (wp_wand_r)
    isplitl [Hc HO Hcr Hat]
    · iapply (wait_op m K c Fr 3 j hj (B := ∅) (R := ∅) (Y := ∅) (hsem h) (hdst h) 3 (by rw [lv_cell]; decide) (.inl rfl) (.inl rfl) (.inl rfl))
      isplitl [Hc]; · iexact Hc
      isplitl [HO]; · iexact HO
      isplitl [Hcr]; · iexact Hcr
      iexact Hat
    iintro %_ ⟨Hc, HO, Hp, Hz⟩
    isplitl [Hc]; · iexact Hc
    isplitl [HO]; · iexact HO
    isplitl [Hp Hz]
    · isplitl [Hp]; · iapply (Entails.of_eq (pay3 m c j)); iexact Hp
      iexact Hz
    iexact HE
  · have hj : j = c := not_not.mp fun h' => h (hP.mpr h')
    unfold SB
    rw [stg_open j (bckA m c), stg_close j (bckA m c)]
    unfold bckB bckA
    rw [if_pos hj]
    iintro ⟨#Hc, HO, ⟨Hx, Hat⟩, HE⟩
    imod (close_own m K c 3) $$ [Hat] with Hz
    · isplitr; · iexact Hc
      iexact Hat
    imodintro
    isplitr; · iexact Hc
    isplitl [HO]; · iexact HO
    isplitl [Hx Hz]
    · subst hj
      isplitl [Hx]; · iexact Hx
      iexact Hz
    iexact HE

/-! ## The copies' own ends -/

def sntB (j : Fin 16) : sProp 𝕄 :=
  iprop((if j = c then iprop(xdPts c c (XD m c) ∗ ysPts c c (YS m c)) else iprop(cred (tallyAt (cell 0 c j) () NX) ∗ cred (tallyAt (cell 2 c j) () NY)))
    ∗ atPos ER (cell 0 c j) 0 ∅ 0 ∗ atPos ER (cell 2 c j) 0 ∅ 0)
def sntA (j : Fin 16) : sProp 𝕄 := iprop((xdPts c j (XD m c) ∗ semVal (cell 0 c j) 0) ∗ ysPts c j (YS m c) ∗ semVal (cell 2 c j) 0)
def SS (Fr : sProp 𝕄) (n : ℕ) : sProp 𝕄 := iprop(ctx m K ∗ Ow Fr ∅ ∅ ∅ c ∗ stg n (sntA m c) (sntB m c))

theorem snt_step (Fr : sProp 𝕄) (j : Fin 16) {α : Type} {P : Prop} [Decidable P] {sem sem' : P → DmaSem sig} {src dst : P → Memref sig .tc .vmem S96x384 .bf16}
    {src' dst' : P → Memref sig .tc .vmem S96x512 .bf16}
    {p1 : ∀ h, (src h).view.WordExact} {p2 : ∀ h, (dst h).view.WordExact} {p1' : ∀ h, (src' h).view.WordExact} {p2' : ∀ h, (dst' h).view.WordExact}
    (hP : P ↔ j ≠ c) (hsem : ∀ h, sem h = slotS cc0_scratch4 j) (hdst : ∀ h, (dst h).view.dmaCredit = NX)
    (hsem' : ∀ h, sem' h = slotS cc0_scratch6 j) (hdst' : ∀ h, (dst' h).view.dmaCredit = NY)
    {J : Prog (TpuEff nD τ sig (Elt F) Λ₀ .tc) α} {Q : α → sProp 𝕄} (hc : SS m K c Fr (j.val + 1) ⊢ WP c J Q) :
    SS m K c Fr j.val ⊢ WP c (dite P (fun h => Prog.lift (.waitDma2 (sem h) (src h) (dst h) (p1 h) (p2 h)) >>= fun _ =>
      Prog.lift (.waitDma2 (sem' h) (src' h) (dst' h) (p1' h) (p2' h)) >>= fun _ => J) (fun _ => J)) Q := by
  unfold SS at hc ⊢
  rw [stg_close j (sntA m c)] at hc
  rw [stg_open j (sntA m c)]
  unfold sntB sntA at hc ⊢
  by_cases h : P
  · have hj : j ≠ c := hP.mp h
    rw [dif_pos h, if_neg hj]
    rw [WP, wp_bind]
    iintro ⟨Hc, HO, ⟨⟨Hx, Hy⟩, Ha, Ha'⟩, HE⟩
    iapply (wp_wand_r)
    isplitl [Hc HO Hx Ha]
    · iapply (wait_op m K c Fr 0 j hj (B := ∅) (R := ∅) (Y := ∅) (hsem h) (hdst h) 0 (by rw [lv_cell]; decide) (.inl rfl) (.inl rfl) (.inl rfl))
      isplitl [Hc]; · iexact Hc
      isplitl [HO]; · iexact HO
      isplitl [Hx]; · iexact Hx
      iexact Ha
    iintro %_ ⟨Hc, HO, Hp, Hz⟩
    rw [wp_bind]
    iapply (wp_wand_r)
    isplitl [Hc HO Hy Ha']
    · iapply (wait_op m K c Fr 2 j hj (B := ∅) (R := ∅) (Y := ∅) (hsem' h) (hdst' h) 0 (by rw [lv_cell]; decide) (.inl rfl) (.inl rfl) (.inl rfl))
      isplitl [Hc]; · iexact Hc
      isplitl [HO]; · iexact HO
      isplitl [Hy]; · iexact Hy
      iexact Ha'
    iintro %_ ⟨Hc, HO, Hp', Hz'⟩
    iapply hc
    isplitl [Hc]; · iexact Hc
    isplitl [HO]; · iexact HO
    isplitl [Hp Hz Hp' Hz']
    · isplitl [Hp Hz]
      · isplitl [Hp]; · iapply (Entails.of_eq (pay0 m c j)); iexact Hp
        iexact Hz
      isplitl [Hp']; · iapply (Entails.of_eq (pay2 m c j)); iexact Hp'
      iexact Hz'
    iexact HE
  · have hj : j = c := not_not.mp fun h' => h (hP.mpr h')
    rw [dif_neg h, if_pos hj]
    refine BIBase.Entails.trans (Q := iprop(|={Set.univ}=> WP c J Q)) ?_ (fupd_wp frame (wpE (defs₀ (F := F)) 𝒱₀ (c : Thread nD τ) none) Set.univ _ _)
    subst hj
    iintro ⟨#Hc, HO, ⟨⟨Hx, Hy⟩, Ha, Ha'⟩, HE⟩
    imod (close_own m K j 0) $$ [Ha] with Hz
    · isplitr; · iexact Hc
      iexact Ha
    imod (close_own m K j 2) $$ [Ha'] with Hz'
    · isplitr; · iexact Hc
      iexact Ha'
    imodintro
    iapply hc
    isplitr; · iexact Hc
    isplitl [HO]; · iexact HO
    isplitl [Hx Hz Hy Hz']
    · isplitl [Hx Hz]; · isplitl [Hx] <;> iassumption
      isplitl [Hy] <;> iassumption
    iexact HE

end Moves

end Cert.Moe

end
-- ==== Proof.Ends.lean ====
/-
The state around the exchange: the staged inputs, the buffers whole and by slots, what is set aside in each phase.
-/
module

public import proofs.«01_k».proof.Proof.Moves
public import Idealize.ShloMosaic.Lib.Ring

@[expose] public section

set_option maxRecDepth 10000

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : CK → ℕ) (c : Dev nD)

abbrev BS (Φ : Fin 16 → sProp 𝕄) : sProp 𝕄 := bigSep (Finset.univ : Finset (Fin 16)) Φ

omit [FloatOps F] in
theorem own_out (P : sProp 𝕄) (B : Fin 16 → sProp 𝕄) :
    BS (fun j => if j = c then P else B j) = iprop(P ∗ BS (fun j => if j = c then iprop(emp) else B j)) := by
  unfold BS
  rw [bigSep_univ_split (c : Fin 16) (Φ := fun j => if j = c then P else B j), bigSep_univ_split (c : Fin 16) (Φ := fun j => if j = c then iprop(emp) else B j)]
  rw [if_pos rfl, if_pos rfl]
  have e : bigSep (Finset.univ.erase (c : Fin 16)) (fun j => if j = c then P else B j) = bigSep (Finset.univ.erase (c : Fin 16)) (fun j => if j = c then iprop(emp) else B j) :=
    bigSep_congr fun j hj => by rw [if_neg (Finset.mem_erase.mp hj).1, if_neg (Finset.mem_erase.mp hj).1]
  rw [e]
  have e2 : ∀ R : sProp 𝕄, iprop(emp ∗ R) = R := fun R => equiv_iff.mp Idealize.SL.BI.emp_sep
  exact (congrArg (fun R : sProp 𝕄 => iprop(P ∗ R)) (e2 _)).symm

/-! ## The buffers whole and by slots -/

theorem slotsX_disj : ∀ d d' : Fin 16, d ≠ d' → Disjoint (rX d).set (rX d').set := fun d d' h =>
  Finset.disjoint_left.mpr fun i hi hi' => h (((mem_rX d i).mp hi).symm.trans ((mem_rX d' i).mp hi'))
theorem slotsY_disj : ∀ d d' : Fin 16, d ≠ d' → Disjoint (rY d).set (rY d').set := fun d d' h =>
  Finset.disjoint_left.mpr fun i hi hi' => h (((mem_rY d i).mp hi).symm.trans ((mem_rY d' i).mp hi'))
theorem slotsX_all : (Finset.univ : Finset (Fin 16)).biUnion (fun d => (rX d).set) = Finset.univ :=
  Finset.eq_univ_iff_forall.mpr fun i => Finset.mem_biUnion.mpr ⟨i 0, Finset.mem_univ _, (mem_rX _ i).mpr rfl⟩
theorem slotsY_all : (Finset.univ : Finset (Fin 16)).biUnion (fun d => (rY d).set) = Finset.univ :=
  Finset.eq_univ_iff_forall.mpr fun i => Finset.mem_biUnion.mpr ⟨i 0, Finset.mem_univ _, (mem_rY _ i).mpr rfl⟩

def xdW (f : ContX F) : sProp 𝕄 := (c : Thread nD τ).loc cc0_scratch0 ↦{fullShare} f
def xrW (f : ContX F) : sProp 𝕄 := (c : Thread nD τ).loc cc0_scratch1 ↦{fullShare} f
def ysW (f : ContY F) : sProp 𝕄 := (c : Thread nD τ).loc cc0_scratch2 ↦{fullShare} f
def yrW (f : ContY F) : sProp 𝕄 := (c : Thread nD τ).loc cc0_scratch3 ↦{fullShare} f

omit [FloatOps F] in
theorem xd_slots (f : ContX F) : xdW c f = BS fun d => xdPts c d f := by
  unfold xdW BS
  rw [Ring.pointsTo_blocks (ℓ := (c : Thread nD τ).loc cc0_scratch0) (fun d : Fin 16 => (rX d).set) slotsX_disj slotsX_all f]
  exact bigSep_congr fun d _ => (xdPts_eq c d f).symm
omit [FloatOps F] in
theorem xr_slots (f : ContX F) : xrW c f = BS fun d => xrPts c d f := by
  unfold xrW BS
  rw [Ring.pointsTo_blocks (ℓ := (c : Thread nD τ).loc cc0_scratch1) (fun d : Fin 16 => (rX d).set) slotsX_disj slotsX_all f]
  exact bigSep_congr fun d _ => (xrPts_eq c d f).symm
omit [FloatOps F] in
theorem ys_slots (f : ContY F) : ysW c f = BS fun d => ysPts c d f := by
  unfold ysW BS
  rw [Ring.pointsTo_blocks (ℓ := (c : Thread nD τ).loc cc0_scratch2) (fun d : Fin 16 => (rY d).set) slotsY_disj slotsY_all f]
  exact bigSep_congr fun d _ => (ysPts_eq c d f).symm
omit [FloatOps F] in
theorem yr_slots (f : ContY F) : yrW c f = BS fun d => yrPts c d f := by
  unfold yrW BS
  rw [Ring.pointsTo_blocks (ℓ := (c : Thread nD τ).loc cc0_scratch3) (fun d : Fin 16 => (rY d).set) slotsY_disj slotsY_all f]
  exact bigSep_congr fun d _ => (yrPts_eq c d f).symm

omit [FloatOps F] in
theorem some_of {T : Type} (A : T → sProp 𝕄) (f : T) : A f ⊢ iprop(∃ f, A f) := by iintro H; iexists f; iexact H
omit [FloatOps F] in
theorem some_slots {T : Type} (A : Fin 16 → T → sProp 𝕄) (f : T) : BS (fun d => A d f) ⊢ BS (fun d => iprop(∃ f, A d f)) :=
  bigSep_mono fun d _ => some_of (A d) f

/-! ## The staged inputs -/

def inP0 : sProp 𝕄 := (c : Thread nD τ).loc cc0_stg0_0 ↦{fullShare} (xin m c : Buf (Elt F) ((c : Thread nD τ).loc cc0_stg0_0))
def inP1 : sProp 𝕄 := (c : Thread nD τ).loc cc0_stg1_0 ↦{fullShare} (rwin m c : Buf (Elt F) ((c : Thread nD τ).loc cc0_stg1_0))
def inP2 : sProp 𝕄 := (c : Thread nD τ).loc cc0_stg2_0 ↦{fullShare} (gin m c : Buf (Elt F) ((c : Thread nD τ).loc cc0_stg2_0))
def inP3 : sProp 𝕄 := (c : Thread nD τ).loc cc0_stg3_0 ↦{fullShare} (ewin m c : Buf (Elt F) ((c : Thread nD τ).loc cc0_stg3_0))
def inP4 : sProp 𝕄 := (c : Thread nD τ).loc cc0_stg4_0 ↦{fullShare} (swin m c : Buf (Elt F) ((c : Thread nD τ).loc cc0_stg4_0))
def ins : sProp 𝕄 := iprop(inP0 m c ∗ inP1 m c ∗ inP2 m c ∗ inP3 m c ∗ inP4 m c)

theorem hz2 : (![0, 0] : Fin 2 → ℕ) = fun _ => 0 := funext fun a => by fin_cases a <;> rfl
theorem hz3 : (![0, 0, 0] : Fin 3 → ℕ) = fun _ => 0 := funext fun a => by fin_cases a <;> rfl

theorem ld_in0 (Fr Z : sProp 𝕄) {B R Y : Finset (Fin 16)} {α : Type}
    {hl : (Memref.whole cc0_stg0_0 : Memref sig .tc .vmem S512x256 .bf16).view.LoadsAt (Rect.unit (s := S512x256) ![0, 0] S512x256.size inb_S512x256_S512x256_0_0).toLoadRect}
    {k : Vec F S512x256 .bf16 → Prog (TpuEff nD τ sig (Elt F) Λ₀ .tc) α} {Q : α → sProp 𝕄}
    (hc : iprop(ctx m K ∗ Ow iprop(ins m c ∗ Fr) B R Y c ∗ Z) ⊢ WP c (k (xin m c)) Q) :
    iprop(ctx m K ∗ Ow iprop(ins m c ∗ Fr) B R Y c ∗ Z)
      ⊢ WP c (Prog.lift (.load (Memref.whole cc0_stg0_0 : Memref sig .tc .vmem S512x256 .bf16) (Rect.unit (s := S512x256) ![0, 0] S512x256.size inb_S512x256_S512x256_0_0).toLoadRect hl) >>= k) Q := by
  rw [lift_bind]
  have e1 : (Memref.whole cc0_stg0_0 : Memref sig .tc .vmem S512x256 .bf16).view.readAt (Elt F) (Rect.unit (s := S512x256) ![0, 0] S512x256.size inb_S512x256_S512x256_0_0).toLoadRect (xin m c) = xin m c :=
    Memref.readAt_unit_zero (Elt F) cc0_stg0_0 hz2 _ _
  have h1 := ld c (Memref.whole cc0_stg0_0 : Memref sig .tc .vmem S512x256 .bf16) (Rect.unit (s := S512x256) ![0, 0] S512x256.size inb_S512x256_S512x256_0_0) (hl := hl) (S := Finset.univ) (Finset.subset_univ _) (xin m c) (k := k) (Q := Q)
  rw [e1] at h1
  unfold Ow ins inP0 at hc ⊢
  iintro ⟨Hc, ⟨HO, ⟨H0, H1, H2, H3, H4⟩, HF⟩, HZ⟩
  iapply h1 $$ H0
  iintro H0
  iapply hc
  isplitl [Hc]; · iexact Hc
  isplitr [HZ]
  · isplitl [HO]; · iexact HO
    isplitr [HF]
    · isplitl [H0]; · iexact H0
      isplitl [H1]; · iexact H1
      isplitl [H2]; · iexact H2
      isplitl [H3]; · iexact H3
      iexact H4
    iexact HF
  iexact HZ

theorem ld_in1 (Fr Z : sProp 𝕄) {B R Y : Finset (Fin 16)} {α : Type}
    {hl : (Memref.whole cc0_stg1_0 : Memref sig .tc .vmem S256x64 .bf16).view.LoadsAt (Rect.unit (s := S256x64) ![0, 0] S256x64.size inb_S256x64_S256x64_0_0).toLoadRect}
    {k : Vec F S256x64 .bf16 → Prog (TpuEff nD τ sig (Elt F) Λ₀ .tc) α} {Q : α → sProp 𝕄}
    (hc : iprop(ctx m K ∗ Ow iprop(ins m c ∗ Fr) B R Y c ∗ Z) ⊢ WP c (k (rwin m c)) Q) :
    iprop(ctx m K ∗ Ow iprop(ins m c ∗ Fr) B R Y c ∗ Z)
      ⊢ WP c (Prog.lift (.load (Memref.whole cc0_stg1_0 : Memref sig .tc .vmem S256x64 .bf16) (Rect.unit (s := S256x64) ![0, 0] S256x64.size inb_S256x64_S256x64_0_0).toLoadRect hl) >>= k) Q := by
  rw [lift_bind]
  have e1 : (Memref.whole cc0_stg1_0 : Memref sig .tc .vmem S256x64 .bf16).view.readAt (Elt F) (Rect.unit (s := S256x64) ![0, 0] S256x64.size inb_S256x64_S256x64_0_0).toLoadRect (rwin m c) = rwin m c :=
    Memref.readAt_unit_zero (Elt F) cc0_stg1_0 hz2 _ _
  have h1 := ld c (Memref.whole cc0_stg1_0 : Memref sig .tc .vmem S256x64 .bf16) (Rect.unit (s := S256x64) ![0, 0] S256x64.size inb_S256x64_S256x64_0_0) (hl := hl) (S := Finset.univ) (Finset.subset_univ _) (rwin m c) (k := k) (Q := Q)
  rw [e1] at h1
  unfold Ow ins inP1 at hc ⊢
  iintro ⟨Hc, ⟨HO, ⟨H0, H1, H2, H3, H4⟩, HF⟩, HZ⟩
  iapply h1 $$ H1
  iintro H1
  iapply hc
  isplitl [Hc]; · iexact Hc
  isplitr [HZ]
  · isplitl [HO]; · iexact HO
    isplitr [HF]
    · isplitl [H0]; · iexact H0
      isplitl [H1]; · iexact H1
      isplitl [H2]; · iexact H2
      isplitl [H3]; · iexact H3
      iexact H4
    iexact HF
  iexact HZ

theorem ld_in2 (Fr Z : sProp 𝕄) {B R Y : Finset (Fin 16)} {α : Type}
    {hl : (Memref.whole cc0_stg2_0 : Memref sig .tc .vmem S512x1 .i32).view.LoadsAt (Rect.unit (s := S512x1) ![0, 0] S512x1.size inb_S512x1_S512x1_0_0).toLoadRect}
    {k : Vec F S512x1 .i32 → Prog (TpuEff nD τ sig (Elt F) Λ₀ .tc) α} {Q : α → sProp 𝕄}
    (hc : iprop(ctx m K ∗ Ow iprop(ins m c ∗ Fr) B R Y c ∗ Z) ⊢ WP c (k (gin m c)) Q) :
    iprop(ctx m K ∗ Ow iprop(ins m c ∗ Fr) B R Y c ∗ Z)
      ⊢ WP c (Prog.lift (.load (Memref.whole cc0_stg2_0 : Memref sig .tc .vmem S512x1 .i32) (Rect.unit (s := S512x1) ![0, 0] S512x1.size inb_S512x1_S512x1_0_0).toLoadRect hl) >>= k) Q := by
  rw [lift_bind]
  have e1 : (Memref.whole cc0_stg2_0 : Memref sig .tc .vmem S512x1 .i32).view.readAt (Elt F) (Rect.unit (s := S512x1) ![0, 0] S512x1.size inb_S512x1_S512x1_0_0).toLoadRect (gin m c) = gin m c :=
    Memref.readAt_unit_zero (Elt F) cc0_stg2_0 hz2 _ _
  have h1 := ld c (Memref.whole cc0_stg2_0 : Memref sig .tc .vmem S512x1 .i32) (Rect.unit (s := S512x1) ![0, 0] S512x1.size inb_S512x1_S512x1_0_0) (hl := hl) (S := Finset.univ) (Finset.subset_univ _) (gin m c) (k := k) (Q := Q)
  rw [e1] at h1
  unfold Ow ins inP2 at hc ⊢
  iintro ⟨Hc, ⟨HO, ⟨H0, H1, H2, H3, H4⟩, HF⟩, HZ⟩
  iapply h1 $$ H2
  iintro H2
  iapply hc
  isplitl [Hc]; · iexact Hc
  isplitr [HZ]
  · isplitl [HO]; · iexact HO
    isplitr [HF]
    · isplitl [H0]; · iexact H0
      isplitl [H1]; · iexact H1
      isplitl [H2]; · iexact H2
      isplitl [H3]; · iexact H3
      iexact H4
    iexact HF
  iexact HZ

theorem ld_in3 (Fr Z : sProp 𝕄) {B R Y : Finset (Fin 16)} {α : Type}
    {hl : (Memref.whole cc0_stg3_0 : Memref sig .tc .vmem S4x256x512 .bf16).view.LoadsAt (Rect.unit (s := S4x256x512) ![0, 0, 0] S4x256x512.size inb_S4x256x512_S4x256x512_0_0_0).toLoadRect}
    {k : Vec F S4x256x512 .bf16 → Prog (TpuEff nD τ sig (Elt F) Λ₀ .tc) α} {Q : α → sProp 𝕄}
    (hc : iprop(ctx m K ∗ Ow iprop(ins m c ∗ Fr) B R Y c ∗ Z) ⊢ WP c (k (ewin m c)) Q) :
    iprop(ctx m K ∗ Ow iprop(ins m c ∗ Fr) B R Y c ∗ Z)
      ⊢ WP c (Prog.lift (.load (Memref.whole cc0_stg3_0 : Memref sig .tc .vmem S4x256x512 .bf16) (Rect.unit (s := S4x256x512) ![0, 0, 0] S4x256x512.size inb_S4x256x512_S4x256x512_0_0_0).toLoadRect hl) >>= k) Q := by
  rw [lift_bind]
  have e1 : (Memref.whole cc0_stg3_0 : Memref sig .tc .vmem S4x256x512 .bf16).view.readAt (Elt F) (Rect.unit (s := S4x256x512) ![0, 0, 0] S4x256x512.size inb_S4x256x512_S4x256x512_0_0_0).toLoadRect (ewin m c) = ewin m c :=
    Memref.readAt_unit_zero (Elt F) cc0_stg3_0 hz3 _ _
  have h1 := ld c (Memref.whole cc0_stg3_0 : Memref sig .tc .vmem S4x256x512 .bf16) (Rect.unit (s := S4x256x512) ![0, 0, 0] S4x256x512.size inb_S4x256x512_S4x256x512_0_0_0) (hl := hl) (S := Finset.univ) (Finset.subset_univ _) (ewin m c) (k := k) (Q := Q)
  rw [e1] at h1
  unfold Ow ins inP3 at hc ⊢
  iintro ⟨Hc, ⟨HO, ⟨H0, H1, H2, H3, H4⟩, HF⟩, HZ⟩
  iapply h1 $$ H3
  iintro H3
  iapply hc
  isplitl [Hc]; · iexact Hc
  isplitr [HZ]
  · isplitl [HO]; · iexact HO
    isplitr [HF]
    · isplitl [H0]; · iexact H0
      isplitl [H1]; · iexact H1
      isplitl [H2]; · iexact H2
      isplitl [H3]; · iexact H3
      iexact H4
    iexact HF
  iexact HZ

theorem ld_in4 (Fr Z : sProp 𝕄) {B R Y : Finset (Fin 16)} {α : Type}
    {hl : (Memref.whole cc0_stg4_0 : Memref sig .tc .vmem S256x512 .bf16).view.LoadsAt (Rect.unit (s := S256x512) ![0, 0] S256x512.size inb_S256x512_S256x512_0_0).toLoadRect}
    {k : Vec F S256x512 .bf16 → Prog (TpuEff nD τ sig (Elt F) Λ₀ .tc) α} {Q : α → sProp 𝕄}
    (hc : iprop(ctx m K ∗ Ow iprop(ins m c ∗ Fr) B R Y c ∗ Z) ⊢ WP c (k (swin m c)) Q) :
    iprop(ctx m K ∗ Ow iprop(ins m c ∗ Fr) B R Y c ∗ Z)
      ⊢ WP c (Prog.lift (.load (Memref.whole cc0_stg4_0 : Memref sig .tc .vmem S256x512 .bf16) (Rect.unit (s := S256x512) ![0, 0] S256x512.size inb_S256x512_S256x512_0_0).toLoadRect hl) >>= k) Q := by
  rw [lift_bind]
  have e1 : (Memref.whole cc0_stg4_0 : Memref sig .tc .vmem S256x512 .bf16).view.readAt (Elt F) (Rect.unit (s := S256x512) ![0, 0] S256x512.size inb_S256x512_S256x512_0_0).toLoadRect (swin m c) = swin m c :=
    Memref.readAt_unit_zero (Elt F) cc0_stg4_0 hz2 _ _
  have h1 := ld c (Memref.whole cc0_stg4_0 : Memref sig .tc .vmem S256x512 .bf16) (Rect.unit (s := S256x512) ![0, 0] S256x512.size inb_S256x512_S256x512_0_0) (hl := hl) (S := Finset.univ) (Finset.subset_univ _) (swin m c) (k := k) (Q := Q)
  rw [e1] at h1
  unfold Ow ins inP4 at hc ⊢
  iintro ⟨Hc, ⟨HO, ⟨H0, H1, H2, H3, H4⟩, HF⟩, HZ⟩
  iapply h1 $$ H4
  iintro H4
  iapply hc
  isplitl [Hc]; · iexact Hc
  isplitr [HZ]
  · isplitl [HO]; · iexact HO
    isplitr [HF]
    · isplitl [H0]; · iexact H0
      isplitl [H1]; · iexact H1
      isplitl [H2]; · iexact H2
      isplitl [H3]; · iexact H3
      iexact H4
    iexact HF
  iexact HZ

/-! ## What is set aside in each phase -/

abbrev tokD (j : Fin 16) : sProp 𝕄 := iprop(dutyTok ER (cell 1 j c) 0 c ∗ dutyTok ER (cell 0 c j) 0 j)
abbrev tokR (j : Fin 16) : sProp 𝕄 := iprop(dutyTok ER (cell 3 j c) 0 c ∗ dutyTok ER (cell 2 c j) 0 j)
abbrev crd (k : Fin 4) (j : Fin 16) : sProp 𝕄 := if j = c then iprop(emp) else cred (tallyAt (cell k c j) () (NK k))
abbrev att (k : Fin 4) (j : Fin 16) : sProp 𝕄 := atPos ER (cell k c j) 0 ∅ 0
abbrev zro (k : Fin 4) (j : Fin 16) : sProp 𝕄 := semVal (cell k c j) 0
def outJ : sProp 𝕄 := iprop(∃ f : Buf (Elt F) ((c : Thread nD τ).loc cc0_stg5_0), (c : Thread nD τ).loc cc0_stg5_0 ↦{fullShare} f)
def outP : sProp 𝕄 := (c : Thread nD τ).loc cc0_stg5_0 ↦{fullShare} (OUT m c : Buf (Elt F) ((c : Thread nD τ).loc cc0_stg5_0))

/-- The part of the state no phase before the dispatch reads: the own buffers, the copies' duties, the landings' credits, the
    positions of the copy semaphores. -/
def F1 : sProp 𝕄 :=
  iprop(((∃ f, xdW c f) ∗ (∃ f, ysW c f) ∗ outJ c) ∗ (BS (tokD c) ∗ BS (tokR c)) ∗ (BS (crd c 1) ∗ BS (crd c 3))
    ∗ BS (att c 0) ∗ BS (att c 1) ∗ BS (att c 2) ∗ BS (att c 3))
/-- During the signals; after the barrier. -/
def FA : sProp 𝕄 := iprop(cred (tallyAt (barCell c) () 15) ∗ atPos ER (barCell c) 0 ∅ 0 ∗ ins m c ∗ F1 c)
def FB : sProp 𝕄 := iprop(F1 c ∗ semVal (barCell c) 0)
/-- The state once the barrier is passed: every other device's two landing slots are `c`'s to write. -/
def S2 : sProp 𝕄 := iprop(ctx m K ∗ Ow iprop(ins m c ∗ FB c) ∅ (rem c 0) (rem c 0) c ∗ BS fun d => barPay c d)
/-- During the dispatch. -/
def FC : sProp 𝕄 :=
  iprop(semVal (barCell c) 0 ∗ (BS fun d => iprop(∃ f, yrPts d c f)) ∗ ((∃ f, ysW c f) ∗ outJ c) ∗ BS (tokR c) ∗ (BS (crd c 1) ∗ BS (crd c 3))
    ∗ BS (att c 0) ∗ BS (att c 1) ∗ BS (att c 2) ∗ BS (att c 3))
/-- The dispatch's own ends: the credit for a slot's coming back, or the own slot, never sent. -/
abbrev own0 (j : Fin 16) : sProp 𝕄 := if j = c then xdPts c c (XD m c) else cred (tallyAt (cell 0 c j) () NX)
/-- During the second loop. -/
def FE : sProp 𝕄 :=
  iprop(semVal (barCell c) 0 ∗ BS (own0 m c) ∗ outJ c ∗ BS (crd c 3) ∗ BS (att c 0) ∗ BS (att c 2) ∗ BS (att c 3))
/-- While the results come back; while the sends end, before and after the output's store. -/
def FG : sProp 𝕄 := iprop(semVal (barCell c) 0 ∗ BS (rcvA m c) ∗ outJ c ∗ BS (sntB m c))
def FH : sProp 𝕄 := iprop(outJ c ∗ semVal (barCell c) 0 ∗ BS (rcvA m c) ∗ yrW c (YR m c) ∗ BS (zro c 3))
def FI : sProp 𝕄 := iprop(outP m c ∗ semVal (barCell c) 0 ∗ BS (rcvA m c) ∗ yrW c (YR m c) ∗ BS (zro c 3))

theorem bs_sep (A B : Fin 16 → sProp 𝕄) : BS (fun j => iprop(A j ∗ B j)) = iprop(BS A ∗ BS B) := bigSep_sep _ _ _

theorem if_sep {P : Prop} [Decidable P] (A B A' B' : sProp 𝕄) : (if P then iprop(A ∗ B) else iprop(A' ∗ B')) = iprop((if P then A else A') ∗ (if P then B else B')) := by
  by_cases h : P
  · rw [if_pos h, if_pos h, if_pos h]
  · rw [if_neg h, if_neg h, if_neg h]

/-- From the barrier to the dispatch: the tokens by destination, the other devices' landing slots, the copies' duties. -/
theorem to_dispatch : iprop(ctx m K ∗ Ow iprop(ins m c ∗ semVal (barCell c) 0 ∗ ((∃ f, ysW c f) ∗ outJ c) ∗ (BS (tokD c) ∗ BS (tokR c)) ∗ (BS (crd c 1) ∗ BS (crd c 3))
    ∗ BS (att c 0) ∗ BS (att c 1) ∗ BS (att c 2) ∗ BS (att c 3)) ∅ (rem c 0) (rem c 0) c ∗ xdW c (XD m c) ∗ BS fun d => barPay c d)
      ⊢ iprop(ctx m K ∗ Ow iprop(ins m c ∗ FC c) ∅ (rem c 0) (rem c 0) c ∗ stg 0 (dspA m c) (dspB m c)) := by
  have e : BS (dspB m c) = iprop((BS fun d => xdPts c d (XD m c)) ∗ (BS fun d => iprop(∃ f, xrPts d c f)) ∗ BS (tokD c)) := by
    unfold dspB; rw [bs_sep, bs_sep]
  have e2 : BS (fun d => barPay (F := F) c d) = iprop((BS fun d => iprop(∃ f, xrPts d c f)) ∗ (BS fun d => iprop(∃ f, yrPts d c f))) := by
    unfold barPay; rw [bs_sep]
  rw [stg_zero]
  change _ ⊢ iprop(ctx m K ∗ Ow iprop(ins m c ∗ FC c) ∅ (rem c 0) (rem c 0) c ∗ BS (dspB m c))
  rw [e, e2, ← xd_slots]
  unfold Ow FC
  iintro ⟨Hc, ⟨HO, Hi, Hb, ⟨Hy, Ho⟩, ⟨Ht, Ht'⟩, Hcr, Ha⟩, Hx, HX, HY⟩
  isplitl [Hc]; · iexact Hc
  isplitl [HO Hi Hb Hy Ho Ht' Hcr Ha HY]
  · isplitl [HO]; · iexact HO
    isplitl [Hi]; · iexact Hi
    isplitl [Hb]; · iexact Hb
    isplitl [HY]; · iexact HY
    isplitl [Hy Ho]; · isplitl [Hy]; · iexact Hy
                       iexact Ho
    isplitl [Ht']; · iexact Ht'
    isplitl [Hcr]; · iexact Hcr
    iexact Ha
  isplitl [Hx]; · iexact Hx
  isplitl [HX]; · iexact HX
  iexact Ht

/-- After the dispatch: the own slot and its landing slot, the rest as the credits. -/
theorem after_dispatch : BS (dspA m c) ⊢ iprop((xdPts c c (XD m c) ∗ ∃ f, xrPts c c f) ∗ BS fun j => if j = c then iprop(emp) else cred (tallyAt (cell 0 c j) () NX)) := by
  unfold dspA; exact Entails.of_eq (own_out c _ _)

/-- Into the second loop. -/
theorem to_loop : iprop(ctx m K ∗ Ow iprop(ins m c ∗ FC c) ∅ ∅ (rem c 0) c ∗ (xdPts c c (XD m c) ∗ xrPts c c (XR m c))
    ∗ BS fun j => if j = c then iprop(emp) else cred (tallyAt (cell 0 c j) () NX)) ⊢ SL0 m K c iprop(ins m c ∗ FE m c) 0 := by
  have e : BS (rcvB m c) = iprop((xrPts c c (XR m c) ∗ BS (crd c 1)) ∗ BS (att c 1)) := by
    have h := own_out c (xrPts c c (XR m c)) (fun j => cred (tallyAt (cell 1 c j) () NX))
    have h1 : BS (rcvB m c) = BS (fun j => iprop((if j = c then xrPts c c (XR m c) else cred (tallyAt (cell 1 c j) () NX)) ∗ att c 1 j)) :=
      bigSep_congr fun j _ => by
        unfold rcvB
        by_cases hj : j = c
        · rw [if_pos hj, if_pos hj, hj]
        · rw [if_neg hj, if_neg hj]
    rw [h1, bs_sep, h]
    rfl
  have e2 : BS (retB (F := F) c) = iprop((BS fun j => iprop(∃ f, ysPts c j f)) ∗ (BS fun d => iprop(∃ f, yrPts d c f)) ∗ BS (tokR c)) := by
    unfold retB; rw [bs_sep, bs_sep]
  have e3 := own_out c (xdPts c c (XD m c)) (fun j => cred (tallyAt (cell 0 c j) () NX))
  unfold SL0
  rw [stg_zero, stg_zero]
  change _ ⊢ iprop(ctx m K ∗ Ow iprop(ins m c ∗ FE m c) ∅ ∅ (rem c 0) c ∗ BS (rcvB m c) ∗ BS (retB c))
  rw [e, e2]
  unfold Ow FC FE own0
  rw [e3]
  iintro ⟨Hc, ⟨HO, Hi, Hb, HY, ⟨⟨%f, Hy⟩, Ho⟩, Ht, ⟨Hc1, Hc3⟩, Ha0, Ha1, Ha2, Ha3⟩, ⟨Hxd, Hxr⟩, Hc0⟩
  ihave Hy := (Entails.of_eq (ys_slots c f)) $$ Hy
  ihave Hy := (some_slots (fun d f => ysPts c d f) f) $$ Hy
  isplitl [Hc]; · iexact Hc
  isplitl [HO Hi Hb Ho Hc3 Ha0 Ha2 Ha3 Hxd Hc0]
  · isplitl [HO]; · iexact HO
    isplitl [Hi]; · iexact Hi
    isplitl [Hb]; · iexact Hb
    isplitl [Hxd Hc0]; · isplitl [Hxd]; · iexact Hxd
                         iexact Hc0
    isplitl [Ho]; · iexact Ho
    isplitl [Hc3]; · iexact Hc3
    isplitl [Ha0]; · iexact Ha0
    isplitl [Ha2]; · iexact Ha2
    iexact Ha3
  isplitl [Hxr Hc1 Ha1]
  · isplitl [Hxr Hc1]; · isplitl [Hxr]; · iexact Hxr
                         iexact Hc1
    iexact Ha1
  isplitl [Hy]; · iexact Hy
  isplitl [HY]; · iexact HY
  iexact Ht

/-- Out of the second loop. -/
theorem from_loop : SL0 m K c iprop(ins m c ∗ FE m c) 16 ⊢ SB m K c iprop(ins m c ∗ FG m c) 0 := by
  have e : BS (bckB m c) = iprop((yrPts c c (YR m c) ∗ BS (crd c 3)) ∗ BS (att c 3)) := by
    have h := own_out c (yrPts c c (YR m c)) (fun j => cred (tallyAt (cell 3 c j) () NY))
    have h1 : BS (bckB m c) = BS (fun j => iprop((if j = c then yrPts c c (YR m c) else cred (tallyAt (cell 3 c j) () NY)) ∗ att c 3 j)) :=
      bigSep_congr fun j _ => by
        unfold bckB
        by_cases hj : j = c
        · rw [if_pos hj, if_pos hj, hj]
        · rw [if_neg hj, if_neg hj]
    rw [h1, bs_sep, h]
    rfl
  have e2 : BS (retA m c) = iprop((ysPts c c (YS m c) ∗ yrPts c c (YR m c)) ∗ BS fun j => if j = c then iprop(emp) else cred (tallyAt (cell 2 c j) () NY)) := by
    unfold retA; exact own_out c _ _
  have e3 : BS (sntB m c) = iprop((BS (own0 m c) ∗ (ysPts c c (YS m c) ∗ BS fun j => if j = c then iprop(emp) else cred (tallyAt (cell 2 c j) () NY))) ∗ BS (att c 0) ∗ BS (att c 2)) := by
    have h1 : BS (sntB m c) = BS (fun j => iprop((own0 m c j ∗ (if j = c then ysPts c c (YS m c) else cred (tallyAt (cell 2 c j) () NY))) ∗ att c 0 j ∗ att c 2 j)) :=
      bigSep_congr fun j _ => by unfold sntB own0; rw [if_sep]
    rw [h1, bs_sep, bs_sep, bs_sep, own_out c (ysPts c c (YS m c))]
  unfold SL0 SB
  rw [stg_zero, stg_end, stg_end, rem_end]
  change iprop(ctx m K ∗ Ow iprop(ins m c ∗ FE m c) ∅ ∅ ∅ c ∗ BS (rcvA m c) ∗ BS (retA m c)) ⊢ iprop(ctx m K ∗ Ow iprop(ins m c ∗ FG m c) ∅ ∅ ∅ c ∗ BS (bckB m c))
  unfold Ow FE FG
  rw [e, e2, e3]
  iintro ⟨Hc, ⟨HO, Hi, Hb, H0, Ho, Hc3, Ha0, Ha2, Ha3⟩, HR, ⟨Hys, Hyr⟩, Hc2⟩
  isplitl [Hc]; · iexact Hc
  isplitr [Hyr Hc3 Ha3]
  · isplitl [HO]; · iexact HO
    isplitl [Hi]; · iexact Hi
    isplitl [Hb]; · iexact Hb
    isplitl [HR]; · iexact HR
    isplitl [Ho]; · iexact Ho
    isplitl [H0 Hys Hc2]
    · isplitl [H0]; · iexact H0
      isplitl [Hys]; · iexact Hys
      iexact Hc2
    isplitl [Ha0]; · iexact Ha0
    iexact Ha2
  isplitl [Hyr Hc3]; · isplitl [Hyr]; · iexact Hyr
                       iexact Hc3
  iexact Ha3

/-- The results all back: the buffer whole. -/
theorem back_whole : BS (bckA m c) ⊢ iprop(yrW c (YR m c) ∗ BS (zro c 3)) := by
  unfold bckA; rw [bs_sep, yr_slots]

end Cert.Moe

end
-- ==== Proof.Head.lean ====
/-
The body's first seven parts: the signals and the barrier, the slots' contents, the dispatch, the own slot, the first landing.
-/
module

public import proofs.«01_k».proof.Proof.Ends

@[expose] public section

set_option maxRecDepth 10000

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : CK → ℕ) (c : Dev nD)

/-- Running a piece of the body that returns `e`, then the rest. -/
theorem run_then {α β : Type} {p : Prog (TpuEff nD τ sig (Elt F) Λ₀ .tc) β} {e : β} {k : β → Prog (TpuEff nD τ sig (Elt F) Λ₀ .tc) α}
    {Q : α → sProp 𝕄} {S S' : sProp 𝕄} (hp : S ⊢ WP c p (fun r => iprop(⌜r = e⌝ ∗ S'))) (hk : S' ⊢ WP c (k e) Q) :
    S ⊢ WP c (p >>= k) Q := by
  rw [WP, wp_bind]
  refine BIBase.Entails.trans hp ?_
  refine wp_mono _ _ _ fun r => ?_
  iintro ⟨%hr, HS⟩
  subst hr
  iapply hk
  iexact HS

/-! ## The barrier -/

/-- The state while `c` signals. -/
abbrev S1 (n : ℕ) : sProp 𝕄 := iprop(ctx m K ∗ Ow (FA m c) (rem c n) (rem c 0) (rem c 0) c ∗ stg n (sigA c) (sigB c))

theorem fst_of (P Q : sProp 𝕄) : iprop(P ∗ Q) ⊢ P := by iintro ⟨H, -⟩; iexact H

theorem all_pay : iprop(BS (sigA (F := F) c) ∗ bigSep (Finset.univ.erase c) (fun d => barPay c d)) ⊢ BS fun d => barPay (F := F) c d := by
  have h1 : BS (sigA (F := F) c) ⊢ barPay c c := by
    have h := bigSep_erase (Φ := sigA (F := F) c) (Finset.mem_univ c)
    have h2 : sigA (F := F) c c = barPay c c := if_pos rfl
    rw [h2] at h
    refine BIBase.Entails.trans (Entails.of_eq h) ?_
    exact fst_of _ _
  have h3 := bigSep_erase (Φ := fun d => barPay (F := F) c d) (Finset.mem_univ c)
  refine BIBase.Entails.trans (Q := iprop(barPay (F := F) c c ∗ bigSep (Finset.univ.erase c) (fun d => barPay c d))) (sep_mono_left h1) (Entails.of_eq h3.symm)

set_option maxHeartbeats 1000000 in
/-- The wait for the fifteen signals: every device's landing slots for `c`. -/
theorem bar_step {α : Type} {k : PUnit → Prog (TpuEff nD τ sig (Elt F) Λ₀ .tc) α} {Q : α → sProp 𝕄} (hc : S2 m K c ⊢ WP c (k ⟨⟩) Q) :
    S1 m K c 16 ⊢ WP c (semWaitWord barS 15#32 >>= k) Q := by
  show _ ⊢ WP c (.op (.semWait barS (15#32 : BitVec 32).toInt) k) Q
  unfold S1
  rw [stg_end, rem_end]
  change iprop(ctx m K ∗ Ow (FA m c) ∅ (rem c 0) (rem c 0) c ∗ BS (sigA c)) ⊢ _
  unfold Ow FA
  iintro ⟨#Hc, ⟨⟨%W, HO⟩, Hcr, Hat, Hi, HF⟩, HA⟩
  ihave #HI := (ctx_inv m K (c, none)) $$ Hc
  ihave Hm := (ctx_may m K c ∅ (rem c 0) (rem c 0) (SemLoc.reg barS) 1 (le_of_eq (lv_bar c)) (Or.inl rfl) (Or.inr (by decide)) (Or.inr (by decide))) $$ Hc
  iapply (Rounds.wp_wait_rest_token 𝒱₀ ER (sched m) (c : Thread nD τ) none (κ := K (c, none))
      (wpE_semWait_eq 𝒱₀ (c : Thread nD τ) none Set.univ) (Set.mem_univ _) () (O := owed ∅ (rem c 0) (rem c 0) c) (W := W) (R := 0) (m := 0) (T := ∅)
      (by rw [show ((c : Thread nD τ), SemLoc.reg barS) = barCell c from rfl, expect_bar]; decide)) $$ [Hcr HO Hat Hm]
  · isplitr; · iexact HI
    isplitl [Hcr]; · iexact Hcr
    isplitl [HO]; · iexact HO
    isplitl [Hm]; · iexact Hm
    iexact Hat
  iintro ⟨HO, Hat, -, Hpay⟩
  ihave Hp := (Entails.of_eq (rest_bar m c)) $$ Hpay
  imod (Rounds.cell_close ER (sched m) (Set.mem_univ (K (c, none))) (fun h => h) (R := 0 + 1) (duties_later m (barCell c))) $$ [Hat] with Hz
  · isplitr; · iexact HI
    iexact Hat
  ihave Hp := (all_pay c) $$ [HA Hp]
  · isplitl [HA] <;> iassumption
  iapply hc
  unfold S2 Ow FB
  isplitr; · iexact Hc
  isplitr [Hp]
  · isplitl [HO]; · iexists _; iexact HO
    isplitl [Hi]; · iexact Hi
    isplitl [HF]; · iexact HF
    iexact Hz
  iexact Hp

/-! ## The dispatched tokens stored -/

/-- The state while `c` dispatches. -/
abbrev S3 (n : ℕ) : sProp 𝕄 := iprop(ctx m K ∗ Ow iprop(ins m c ∗ FC c) ∅ (rem c n) (rem c 0) c ∗ stg n (dspA m c) (dspB m c))

theorem xd_step {α : Type} {w : Vec F S16x96x384 .bf16}
    {hl : (xdM : Memref sig .tc .vmem S16x96x384 .bf16).view.LoadsAt (Rect.unit (s := S16x96x384) ![0, 0, 0] S16x96x384.size inb_S16x96x384_S16x96x384_0_0_0).toLoadRect}
    {hx : ((xdM : Memref sig .tc .vmem S16x96x384 .bf16).access (Rect.unit (s := S16x96x384) ![0, 0, 0] S16x96x384.size inb_S16x96x384_S16x96x384_0_0_0)).Stores Finset.univ}
    {hm : (Finset.univ : Finset (Rect.unit (s := S16x96x384) ![0, 0, 0] S16x96x384.size inb_S16x96x384_S16x96x384_0_0_0).shape.Idx) = Finset.univ ∨ ∀ a, (Rect.unit (s := S16x96x384) ![0, 0, 0] S16x96x384.size inb_S16x96x384_S16x96x384_0_0_0).stride a = 1}
    (hw : w = XD m c) {k : PUnit → Prog (TpuEff nD τ sig (Elt F) Λ₀ .tc) α} {Q : α → sProp 𝕄} (hc : S3 m K c 0 ⊢ WP c (k ⟨⟩) Q) :
    S2 m K c ⊢ WP c (Prog.lift (.load (xdM : Memref sig .tc .vmem S16x96x384 .bf16) (Rect.unit (s := S16x96x384) ![0, 0, 0] S16x96x384.size inb_S16x96x384_S16x96x384_0_0_0).toLoadRect hl) >>= fun _ =>
      Prog.lift (.store (xdM : Memref sig .tc .vmem S16x96x384 .bf16) (Rect.unit (s := S16x96x384) ![0, 0, 0] S16x96x384.size inb_S16x96x384_S16x96x384_0_0_0) w Finset.univ hx hm) >>= k) Q := by
  subst hw
  rw [lift_bind]
  have hc' := BIBase.Entails.trans (to_dispatch m K c) hc
  unfold S2 FB F1
  unfold Ow xdW at hc' ⊢
  iintro ⟨Hc, ⟨HO, Hi, ⟨⟨⟨%f, Hx⟩, Hyo⟩, Ht, Hcr, Ha⟩, Hz⟩, Hp⟩
  iapply (ld c (xdM : Memref sig .tc .vmem S16x96x384 .bf16) (Rect.unit (s := S16x96x384) ![0, 0, 0] S16x96x384.size inb_S16x96x384_S16x96x384_0_0_0) (hl := hl) (S := Finset.univ) (Finset.subset_univ _) f) $$ Hx
  iintro Hx
  rw [lift_bind]
  iapply (wp_store 𝒱₀ (c : Thread nD τ) none Set.univ (m := (xdM : Memref sig .tc .vmem S16x96x384 .bf16)) (r := (Rect.unit (s := S16x96x384) ![0, 0, 0] S16x96x384.size inb_S16x96x384_S16x96x384_0_0_0)) (Mk := Finset.univ) (S := Finset.univ) (Finset.subset_univ _)) $$ Hx
  iintro Hx
  have e : ((xdM : Memref sig .tc .vmem S16x96x384 .bf16).access (Rect.unit (s := S16x96x384) ![0, 0, 0] S16x96x384.size inb_S16x96x384_S16x96x384_0_0_0)).write (Elt F) f (XD m c) Finset.univ = XD m c :=
    Memref.write_access_unit_zero_univ (Elt F) cc0_scratch0 hz3 _ f (XD m c)
  ihave Hx := (Entails.of_eq (congrArg (fun g : ContX F => ((c : Thread nD τ).loc cc0_scratch0 ↦{fullShare} g : sProp 𝕄)) e)) $$ Hx
  iapply hc'
  isplitl [Hc]; · iexact Hc
  isplitl [HO Hi Hyo Ht Hcr Ha Hz]
  · isplitl [HO]; · iexact HO
    isplitl [Hi]; · iexact Hi
    isplitl [Hz]; · iexact Hz
    isplitl [Hyo]; · iexact Hyo
    isplitl [Ht]; · iexact Ht
    isplitl [Hcr]; · iexact Hcr
    iexact Ha
  isplitl [Hx]; · iexact Hx
  iexact Hp

/-! ## The own slot copied -/

theorem own_copy {α : Type} {off : Fin 3 → ℕ} (h : off = ![c.val, 0, 0]) {inb : ∀ a, off a + S1x96x384.size a ≤ S16x96x384.size a}
    {hl : (xdM : Memref sig .tc .vmem S16x96x384 .bf16).view.LoadsAt (Rect.unit (s := S16x96x384) off S1x96x384.size inb).toLoadRect}
    {hl' : (xrM : Memref sig .tc .vmem S16x96x384 .bf16).view.LoadsAt (Rect.unit (s := S16x96x384) off S1x96x384.size inb).toLoadRect}
    {hx : ((xrM : Memref sig .tc .vmem S16x96x384 .bf16).access (Rect.unit (s := S16x96x384) off S1x96x384.size inb)).Stores Finset.univ}
    {hm : (Finset.univ : Finset (Rect.unit (s := S16x96x384) off S1x96x384.size inb).shape.Idx) = Finset.univ ∨ ∀ a, (Rect.unit (s := S16x96x384) off S1x96x384.size inb).stride a = 1}
    {pay : Vec F S1x96x384 .bf16 → Vec F S1x96x384 .bf16} (hpay : ∀ v, pay v = v)
    {k : PUnit → Prog (TpuEff nD τ sig (Elt F) Λ₀ .tc) α} {Q : α → sProp 𝕄} (hc : SL0 m K c iprop(ins m c ∗ FE m c) 0 ⊢ WP c (k ⟨⟩) Q) :
    S3 m K c 16 ⊢ WP c (Prog.lift (.load (xdM : Memref sig .tc .vmem S16x96x384 .bf16) (Rect.unit (s := S16x96x384) off S1x96x384.size inb).toLoadRect hl) >>= fun v =>
      Prog.lift (.load (xrM : Memref sig .tc .vmem S16x96x384 .bf16) (Rect.unit (s := S16x96x384) off S1x96x384.size inb).toLoadRect hl') >>= fun _ =>
      Prog.lift (.store (xrM : Memref sig .tc .vmem S16x96x384 .bf16) (Rect.unit (s := S16x96x384) off S1x96x384.size inb) (pay v) Finset.univ hx hm) >>= k) Q := by
  subst h
  have hc' := BIBase.Entails.trans (to_loop m K c) hc
  have h1 := after_dispatch m c
  unfold S3
  rw [stg_end, rem_end]
  change iprop(ctx m K ∗ Ow iprop(ins m c ∗ FC c) ∅ ∅ (rem c 0) c ∗ BS (dspA m c)) ⊢ _
  rw [lift_bind]
  iintro ⟨Hc, HO, HA⟩
  ihave HA := h1 $$ HA
  icases HA with ⟨⟨Hs, ⟨%f, Hd⟩⟩, HE⟩
  ihave Hs := (Entails.of_eq (xdPts_eq c c (XD m c))) $$ Hs
  ihave Hd := (Entails.of_eq (xrPts_eq c c f)) $$ Hd
  iapply (ldX c (xdM : Memref sig .tc .vmem S16x96x384 .bf16) c (S := (rX c).set) (on_xd c) (XD m c)) $$ Hs
  iintro Hs
  rw [lift_bind]
  iapply (ldX c (xrM : Memref sig .tc .vmem S16x96x384 .bf16) c (S := (rX c).set) (on_xr c) f) $$ Hd
  iintro Hd
  rw [hpay, lift_bind]
  iapply (wp_store 𝒱₀ (c : Thread nD τ) none Set.univ (m := (xrM : Memref sig .tc .vmem S16x96x384 .bf16)) (r := rX c) (Mk := Finset.univ) (by rw [View.setOn_univ, acc_set_xr])) $$ Hd
  iintro Hd
  ihave Hd := (Entails.of_eq (write_xr m c f rfl)) $$ Hd
  iapply hc'
  isplitl [Hc]; · iexact Hc
  isplitl [HO]; · iexact HO
  isplitl [Hs Hd]
  · isplitl [Hs]; · rw [xdPts_eq]; iexact Hs
    iexact Hd
  iexact HE

set_option maxHeartbeats 4000000 in
theorem part1_spec :
    S1 m K c 0 ⊢ WP c (k0_part1 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) xdM (Memref.isWhole_whole _) xrM (Memref.isWhole_whole _) ysM (Memref.isWhole_whole _) yrM (Memref.isWhole_whole _) cc0_scratch4 cc0_scratch5 cc0_scratch6 cc0_scratch7)
      (fun r => iprop(⌜r = ⟨c, vme c, SemArray.scalar (sig.barrier 0 rfl)⟩⌝ ∗ S1 m K c 8)) := by
  rw [k0_part1_eq_skeleton]; unfold k0_part1_skel
  refine wp_dev ?_
  change S1 m K c (0 : Fin 16).val ⊢ _
  refine signal_step m K c (FA m c) 0 ((by decide +kernel : ∀ c : Dev nD, k0_cond1 c = 1#1 ↔ (0 : Fin 16) ≠ c) c) (by decide) ?_
  change S1 m K c (1 : Fin 16).val ⊢ _
  refine signal_step m K c (FA m c) 1 ((by decide +kernel : ∀ c : Dev nD, k0_cond2 c = 1#1 ↔ (1 : Fin 16) ≠ c) c) (by decide) ?_
  change S1 m K c (2 : Fin 16).val ⊢ _
  refine signal_step m K c (FA m c) 2 ((by decide +kernel : ∀ c : Dev nD, k0_cond3 c = 1#1 ↔ (2 : Fin 16) ≠ c) c) (by decide) ?_
  change S1 m K c (3 : Fin 16).val ⊢ _
  refine signal_step m K c (FA m c) 3 ((by decide +kernel : ∀ c : Dev nD, k0_cond4 c = 1#1 ↔ (3 : Fin 16) ≠ c) c) (by decide) ?_
  change S1 m K c (4 : Fin 16).val ⊢ _
  refine signal_step m K c (FA m c) 4 ((by decide +kernel : ∀ c : Dev nD, k0_cond5 c = 1#1 ↔ (4 : Fin 16) ≠ c) c) (by decide) ?_
  change S1 m K c (5 : Fin 16).val ⊢ _
  refine signal_step m K c (FA m c) 5 ((by decide +kernel : ∀ c : Dev nD, k0_cond6 c = 1#1 ↔ (5 : Fin 16) ≠ c) c) (by decide) ?_
  change S1 m K c (6 : Fin 16).val ⊢ _
  refine signal_step m K c (FA m c) 6 ((by decide +kernel : ∀ c : Dev nD, k0_cond7 c = 1#1 ↔ (6 : Fin 16) ≠ c) c) (by decide) ?_
  change S1 m K c (7 : Fin 16).val ⊢ _
  refine signal_step m K c (FA m c) 7 ((by decide +kernel : ∀ c : Dev nD, k0_cond8 c = 1#1 ↔ (7 : Fin 16) ≠ c) c) (by decide) ?_
  change S1 m K c (8 : Fin 16).val ⊢ _
  exact ret_eq c

set_option maxHeartbeats 4000000 in
theorem part2_spec :
    S1 m K c 8 ⊢ WP c (k0_part2 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) xdM (Memref.isWhole_whole _) xrM (Memref.isWhole_whole _) ysM (Memref.isWhole_whole _) yrM (Memref.isWhole_whole _) cc0_scratch4 cc0_scratch5 cc0_scratch6 cc0_scratch7 c (vme c) (SemArray.scalar (sig.barrier 0 rfl)))
      (fun r => iprop(⌜r = ⟨k0_pay1 (gin m c), 4#32, k0_pay2 (gin m c), k0_pay3 (gin m c), k0_pay4 (gin m c)⟩⌝ ∗ S2 m K c)) := by
  rw [k0_part2_eq_skeleton]; unfold k0_part2_skel
  change S1 m K c (8 : Fin 16).val ⊢ _
  refine signal_step m K c (FA m c) 8 ((by decide +kernel : ∀ c : Dev nD, k0_cond9 c = 1#1 ↔ (8 : Fin 16) ≠ c) c) (by decide) ?_
  change S1 m K c (9 : Fin 16).val ⊢ _
  refine signal_step m K c (FA m c) 9 ((by decide +kernel : ∀ c : Dev nD, k0_cond10 c = 1#1 ↔ (9 : Fin 16) ≠ c) c) (by decide) ?_
  change S1 m K c (10 : Fin 16).val ⊢ _
  refine signal_step m K c (FA m c) 10 ((by decide +kernel : ∀ c : Dev nD, k0_cond11 c = 1#1 ↔ (10 : Fin 16) ≠ c) c) (by decide) ?_
  change S1 m K c (11 : Fin 16).val ⊢ _
  refine signal_step m K c (FA m c) 11 ((by decide +kernel : ∀ c : Dev nD, k0_cond12 c = 1#1 ↔ (11 : Fin 16) ≠ c) c) (by decide) ?_
  change S1 m K c (12 : Fin 16).val ⊢ _
  refine signal_step m K c (FA m c) 12 ((by decide +kernel : ∀ c : Dev nD, k0_cond13 c = 1#1 ↔ (12 : Fin 16) ≠ c) c) (by decide) ?_
  change S1 m K c (13 : Fin 16).val ⊢ _
  refine signal_step m K c (FA m c) 13 ((by decide +kernel : ∀ c : Dev nD, k0_cond14 c = 1#1 ↔ (13 : Fin 16) ≠ c) c) (by decide) ?_
  change S1 m K c (14 : Fin 16).val ⊢ _
  refine signal_step m K c (FA m c) 14 ((by decide +kernel : ∀ c : Dev nD, k0_cond15 c = 1#1 ↔ (14 : Fin 16) ≠ c) c) (by decide) ?_
  change S1 m K c (15 : Fin 16).val ⊢ _
  refine signal_step m K c (FA m c) 15 ((by decide +kernel : ∀ c : Dev nD, k0_cond16 c = 1#1 ↔ (15 : Fin 16) ≠ c) c) (by decide) ?_
  change S1 m K c 16 ⊢ _
  refine bar_step m K c ?_
  refine ld_in2 m K c (FB c) _ ?_
  exact ret_eq c

set_option maxHeartbeats 4000000 in
theorem part3_spec :
    S2 m K c ⊢ WP c (k0_part3 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) xdM (Memref.isWhole_whole _) xrM (Memref.isWhole_whole _) ysM (Memref.isWhole_whole _) yrM (Memref.isWhole_whole _) cc0_scratch4 cc0_scratch5 cc0_scratch6 cc0_scratch7 (k0_pay1 (gin m c)) 4#32 (k0_pay2 (gin m c)) (k0_pay3 (gin m c)) (k0_pay4 (gin m c)))
      (fun r => iprop(⌜r = ⟨destOf (gin m c), k0_pay6 (xin m c), (k0_pay7 (k0_pay1 (gin m c)) (xin m c)), ohOf (gin m c), rowI⟩⌝ ∗ S2 m K c)) := by
  rw [k0_part3_eq_skeleton]; unfold k0_part3_skel
  refine ld_in0 m K c (FB c) _ ?_
  exact ret_eq c

set_option maxHeartbeats 4000000 in
theorem part4_spec :
    S2 m K c ⊢ WP c (k0_part4 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) xdM (Memref.isWhole_whole _) xrM (Memref.isWhole_whole _) ysM (Memref.isWhole_whole _) yrM (Memref.isWhole_whole _) cc0_scratch4 cc0_scratch5 cc0_scratch6 cc0_scratch7 c (vme c) (destOf (gin m c)) (k0_pay7 (k0_pay1 (gin m c)) (xin m c)) (ohOf (gin m c)) rowI)
      (fun r => iprop(⌜r = ⟨pOf (gin m c), Scalar.cmpi .ne (vme c) 3#32⟩⌝ ∗ S3 m K c 3)) := by
  rw [k0_part4_eq_skeleton]; unfold k0_part4_skel
  refine xd_step m K c rfl ?_
  change S3 m K c (0 : Fin 16).val ⊢ _
  refine disp_step m K c iprop(ins m c ∗ FC c) 0 ((by decide +kernel : ∀ c : Dev nD, k0_cond17 c = 1#1 ↔ (0 : Fin 16) ≠ c) c) (by decide)
    (fun _ => rfl) (fun _ => slotX_of (k0_off2_eq c)) (fun _ => rfl) (fun _ => slotS_of (k0_off1_eq c)) ?_
  change S3 m K c (1 : Fin 16).val ⊢ _
  refine disp_step m K c iprop(ins m c ∗ FC c) 1 ((by decide +kernel : ∀ c : Dev nD, k0_cond18 c = 1#1 ↔ (1 : Fin 16) ≠ c) c) (by decide)
    (fun _ => rfl) (fun _ => slotX_of (k0_off4_eq c)) (fun _ => rfl) (fun _ => slotS_of (k0_off3_eq c)) ?_
  change S3 m K c (2 : Fin 16).val ⊢ _
  refine disp_step m K c iprop(ins m c ∗ FC c) 2 ((by decide +kernel : ∀ c : Dev nD, k0_cond19 c = 1#1 ↔ (2 : Fin 16) ≠ c) c) (by decide)
    (fun _ => rfl) (fun _ => slotX_of (k0_off6_eq c)) (fun _ => rfl) (fun _ => slotS_of (k0_off5_eq c)) ?_
  change S3 m K c (3 : Fin 16).val ⊢ _
  exact ret_eq c

set_option maxHeartbeats 4000000 in
theorem part5_spec :
    S3 m K c 3 ⊢ WP c (k0_part5 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) xdM (Memref.isWhole_whole _) xrM (Memref.isWhole_whole _) ysM (Memref.isWhole_whole _) yrM (Memref.isWhole_whole _) cc0_scratch4 cc0_scratch5 cc0_scratch6 cc0_scratch7 c (vme c) (Scalar.cmpi .ne (vme c) 3#32))
      (fun r => iprop(⌜r = Scalar.cmpi .ne (vme c) 13#32⌝ ∗ S3 m K c 13)) := by
  rw [k0_part5_eq_skeleton]; unfold k0_part5_skel
  change S3 m K c (3 : Fin 16).val ⊢ _
  refine disp_step m K c iprop(ins m c ∗ FC c) 3 ((by decide +kernel : ∀ c : Dev nD, k0_cond20 c = 1#1 ↔ (3 : Fin 16) ≠ c) c) (by decide)
    (fun _ => rfl) (fun _ => slotX_of (k0_off8_eq c)) (fun _ => rfl) (fun _ => slotS_of (k0_off7_eq c)) ?_
  change S3 m K c (4 : Fin 16).val ⊢ _
  refine disp_step m K c iprop(ins m c ∗ FC c) 4 ((by decide +kernel : ∀ c : Dev nD, k0_cond21 c = 1#1 ↔ (4 : Fin 16) ≠ c) c) (by decide)
    (fun _ => rfl) (fun _ => slotX_of (k0_off10_eq c)) (fun _ => rfl) (fun _ => slotS_of (k0_off9_eq c)) ?_
  change S3 m K c (5 : Fin 16).val ⊢ _
  refine disp_step m K c iprop(ins m c ∗ FC c) 5 ((by decide +kernel : ∀ c : Dev nD, k0_cond22 c = 1#1 ↔ (5 : Fin 16) ≠ c) c) (by decide)
    (fun _ => rfl) (fun _ => slotX_of (k0_off12_eq c)) (fun _ => rfl) (fun _ => slotS_of (k0_off11_eq c)) ?_
  change S3 m K c (6 : Fin 16).val ⊢ _
  refine disp_step m K c iprop(ins m c ∗ FC c) 6 ((by decide +kernel : ∀ c : Dev nD, k0_cond23 c = 1#1 ↔ (6 : Fin 16) ≠ c) c) (by decide)
    (fun _ => rfl) (fun _ => slotX_of (k0_off14_eq c)) (fun _ => rfl) (fun _ => slotS_of (k0_off13_eq c)) ?_
  change S3 m K c (7 : Fin 16).val ⊢ _
  refine disp_step m K c iprop(ins m c ∗ FC c) 7 ((by decide +kernel : ∀ c : Dev nD, k0_cond24 c = 1#1 ↔ (7 : Fin 16) ≠ c) c) (by decide)
    (fun _ => rfl) (fun _ => slotX_of (k0_off16_eq c)) (fun _ => rfl) (fun _ => slotS_of (k0_off15_eq c)) ?_
  change S3 m K c (8 : Fin 16).val ⊢ _
  refine disp_step m K c iprop(ins m c ∗ FC c) 8 ((by decide +kernel : ∀ c : Dev nD, k0_cond25 c = 1#1 ↔ (8 : Fin 16) ≠ c) c) (by decide)
    (fun _ => rfl) (fun _ => slotX_of (k0_off18_eq c)) (fun _ => rfl) (fun _ => slotS_of (k0_off17_eq c)) ?_
  change S3 m K c (9 : Fin 16).val ⊢ _
  refine disp_step m K c iprop(ins m c ∗ FC c) 9 ((by decide +kernel : ∀ c : Dev nD, k0_cond26 c = 1#1 ↔ (9 : Fin 16) ≠ c) c) (by decide)
    (fun _ => rfl) (fun _ => slotX_of (k0_off20_eq c)) (fun _ => rfl) (fun _ => slotS_of (k0_off19_eq c)) ?_
  change S3 m K c (10 : Fin 16).val ⊢ _
  refine disp_step m K c iprop(ins m c ∗ FC c) 10 ((by decide +kernel : ∀ c : Dev nD, k0_cond27 c = 1#1 ↔ (10 : Fin 16) ≠ c) c) (by decide)
    (fun _ => rfl) (fun _ => slotX_of (k0_off22_eq c)) (fun _ => rfl) (fun _ => slotS_of (k0_off21_eq c)) ?_
  change S3 m K c (11 : Fin 16).val ⊢ _
  refine disp_step m K c iprop(ins m c ∗ FC c) 11 ((by decide +kernel : ∀ c : Dev nD, k0_cond28 c = 1#1 ↔ (11 : Fin 16) ≠ c) c) (by decide)
    (fun _ => rfl) (fun _ => slotX_of (k0_off24_eq c)) (fun _ => rfl) (fun _ => slotS_of (k0_off23_eq c)) ?_
  change S3 m K c (12 : Fin 16).val ⊢ _
  refine disp_step m K c iprop(ins m c ∗ FC c) 12 ((by decide +kernel : ∀ c : Dev nD, k0_cond29 c = 1#1 ↔ (12 : Fin 16) ≠ c) c) (by decide)
    (fun _ => rfl) (fun _ => slotX_of (k0_off26_eq c)) (fun _ => rfl) (fun _ => slotS_of (k0_off25_eq c)) ?_
  change S3 m K c (13 : Fin 16).val ⊢ _
  exact ret_eq c

set_option maxHeartbeats 4000000 in
theorem part6_spec :
    S3 m K c 13 ⊢ WP c (k0_part6 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) xdM (Memref.isWhole_whole _) xrM (Memref.isWhole_whole _) ysM (Memref.isWhole_whole _) yrM (Memref.isWhole_whole _) cc0_scratch4 cc0_scratch5 cc0_scratch6 cc0_scratch7 c (vme c) (k0_pay1 (gin m c)) (k0_pay6 (xin m c)) (Scalar.cmpi .ne (vme c) 13#32))
      (fun r => iprop(⌜r = ⟨k0_pay12 (k0_pay6 (xin m c)) (swin m c), k0_pay13 (k0_pay1 (gin m c)) (xin m c) (rwin m c)⟩⌝ ∗ SL0 m K c iprop(ins m c ∗ FE m c) 0)) := by
  rw [k0_part6_eq_skeleton]; unfold k0_part6_skel
  change S3 m K c (13 : Fin 16).val ⊢ _
  refine disp_step m K c iprop(ins m c ∗ FC c) 13 ((by decide +kernel : ∀ c : Dev nD, k0_cond30 c = 1#1 ↔ (13 : Fin 16) ≠ c) c) (by decide)
    (fun _ => rfl) (fun _ => slotX_of (k0_off28_eq c)) (fun _ => rfl) (fun _ => slotS_of (k0_off27_eq c)) ?_
  change S3 m K c (14 : Fin 16).val ⊢ _
  refine disp_step m K c iprop(ins m c ∗ FC c) 14 ((by decide +kernel : ∀ c : Dev nD, k0_cond31 c = 1#1 ↔ (14 : Fin 16) ≠ c) c) (by decide)
    (fun _ => rfl) (fun _ => slotX_of (k0_off30_eq c)) (fun _ => rfl) (fun _ => slotS_of (k0_off29_eq c)) ?_
  change S3 m K c (15 : Fin 16).val ⊢ _
  refine disp_step m K c iprop(ins m c ∗ FC c) 15 ((by decide +kernel : ∀ c : Dev nD, k0_cond32 c = 1#1 ↔ (15 : Fin 16) ≠ c) c) (by decide)
    (fun _ => rfl) (fun _ => slotX_of (k0_off32_eq c)) (fun _ => rfl) (fun _ => slotS_of (k0_off31_eq c)) ?_
  change S3 m K c 16 ⊢ _
  refine own_copy m K c (k0_off33_eq c) (fun v => by unfold k0_pay11; exact shapeCast_self _ _) ?_
  unfold SL0
  refine ld_in4 m K c (FE m c) _ ?_
  refine ld_in0 m K c (FE m c) _ ?_
  refine ld_in1 m K c (FE m c) _ ?_
  exact ret_eq c

set_option maxHeartbeats 4000000 in
theorem part7_spec :
    SL0 m K c iprop(ins m c ∗ FE m c) 0 ⊢ WP c (k0_part7 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) xdM (Memref.isWhole_whole _) xrM (Memref.isWhole_whole _) ysM (Memref.isWhole_whole _) yrM (Memref.isWhole_whole _) cc0_scratch4 cc0_scratch5 cc0_scratch6 cc0_scratch7 (vme c) (k0_pay13 (k0_pay1 (gin m c)) (xin m c) (rwin m c)))
      (fun r => iprop(⌜r = ⟨k0_pay14 (k0_pay13 (k0_pay1 (gin m c)) (xin m c) (rwin m c)), k0_pay15 (ewin m c), k0_pay16 (ewin m c) (rdX (XR m c) 0)⟩⌝ ∗ SL1 m K c iprop(ins m c ∗ FE m c) 0)) := by
  rw [k0_part7_eq_skeleton]; unfold k0_part7_skel
  unfold SL0
  refine ld_in3 m K c (FE m c) _ ?_
  change SL0 m K c iprop(ins m c ∗ FE m c) (0 : Fin 16).val ⊢ _
  refine rcv_step m K c iprop(ins m c ∗ FE m c) 0 ?_ ?_ ?_ ?_
  · exact ne_iff 0 c rfl
  · intro h; rfl
  · intro h; rfl
  refine ldxr_step m K c iprop(ins m c ∗ FE m c) 0 ?_
  exact ret_eq c

end Cert.Moe

end
-- ==== Proof.Tail.lean ====
/-
The body's last parts: the last iteration, the results coming back, the output stored, the sends' ends.
-/
module

public import proofs.«01_k».proof.Proof.Head

@[expose] public section

set_option maxRecDepth 10000

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : CK → ℕ) (c : Dev nD)

abbrev FrE : sProp 𝕄 := iprop(ins m c ∗ FE m c)
abbrev FrG : sProp 𝕄 := iprop(ins m c ∗ FG m c)
abbrev FrH : sProp 𝕄 := iprop(ins m c ∗ FH m c)
abbrev FrI : sProp 𝕄 := iprop(ins m c ∗ FI m c)

/-- The results read whole once all are back. -/
theorem yr_step {α : Type} {hl : (yrM : Memref sig .tc .vmem S16x96x512 .bf16).view.LoadsAt (Rect.unit (s := S16x96x512) ![0, 0, 0] S16x96x512.size inb_S16x96x512_S16x96x512_0_0_0).toLoadRect}
    {k : Vec F S16x96x512 .bf16 → Prog (TpuEff nD τ sig (Elt F) Λ₀ .tc) α} {Q : α → sProp 𝕄} (hc : SS m K c (FrH m c) 0 ⊢ WP c (k (YR m c)) Q) :
    SB m K c (FrG m c) 16 ⊢ WP c (Prog.lift (.load (yrM : Memref sig .tc .vmem S16x96x512 .bf16) (Rect.unit (s := S16x96x512) ![0, 0, 0] S16x96x512.size inb_S16x96x512_S16x96x512_0_0_0).toLoadRect hl) >>= k) Q := by
  rw [lift_bind]
  have h1 := back_whole m c
  unfold SS at hc
  unfold SB
  rw [stg_end]
  rw [stg_zero] at hc
  change iprop(ctx m K ∗ Ow (FrG m c) ∅ ∅ ∅ c ∗ BS (bckA m c)) ⊢ _
  change iprop(ctx m K ∗ Ow (FrH m c) ∅ ∅ ∅ c ∗ BS (sntB m c)) ⊢ _ at hc
  unfold Ow FrG FG
  unfold Ow FrH FH at hc
  have e : (yrM : Memref sig .tc .vmem S16x96x512 .bf16).view.readAt (Elt F) (Rect.unit (s := S16x96x512) ![0, 0, 0] S16x96x512.size inb_S16x96x512_S16x96x512_0_0_0).toLoadRect (YR m c) = YR m c := Memref.readAt_unit_zero (Elt F) cc0_scratch3 hz3 _ _
  have h2 := ld c (yrM : Memref sig .tc .vmem S16x96x512 .bf16) (Rect.unit (s := S16x96x512) ![0, 0, 0] S16x96x512.size inb_S16x96x512_S16x96x512_0_0_0) (hl := hl) (S := Finset.univ) (Finset.subset_univ _) (YR m c) (k := k) (Q := Q)
  rw [e] at h2
  iintro ⟨Hc, ⟨HO, Hi, Hb, HR, Ho, HS⟩, HB⟩
  ihave HB := h1 $$ HB
  icases HB with ⟨Hy, Hz⟩
  ihave Hy := (Entails.of_eq (show yrW c (YR m c) = ((c : Thread nD τ).loc cc0_scratch3 ↦{fullShare} (YR m c) : sProp 𝕄) from rfl)) $$ Hy
  iapply h2 $$ Hy
  iintro Hy
  iapply hc
  isplitl [Hc]; · iexact Hc
  isplitr [HS]
  · isplitl [HO]; · iexact HO
    isplitl [Hi]; · iexact Hi
    isplitl [Ho]; · iexact Ho
    isplitl [Hb]; · iexact Hb
    isplitl [HR]; · iexact HR
    isplitl [Hy]; · unfold yrW; iexact Hy
    iexact Hz
  iexact HS

/-- The output stored. -/
theorem out_step {α : Type} {w : Vec F S512x512 .f32} {hl : (Memref.whole cc0_stg5_0 : Memref sig .tc .vmem S512x512 .f32).view.LoadsAt (Rect.unit (s := S512x512) ![0, 0] S512x512.size inb_S512x512_S512x512_0_0).toLoadRect}
    {hx : ((Memref.whole cc0_stg5_0 : Memref sig .tc .vmem S512x512 .f32).access (Rect.unit (s := S512x512) ![0, 0] S512x512.size inb_S512x512_S512x512_0_0)).Stores Finset.univ}
    {hm : (Finset.univ : Finset (Rect.unit (s := S512x512) ![0, 0] S512x512.size inb_S512x512_S512x512_0_0).shape.Idx) = Finset.univ ∨ ∀ a, (Rect.unit (s := S512x512) ![0, 0] S512x512.size inb_S512x512_S512x512_0_0).stride a = 1} (hw : w = OUT m c)
    {k : PUnit → Prog (TpuEff nD τ sig (Elt F) Λ₀ .tc) α} {Q : α → sProp 𝕄} (hc : SS m K c (FrI m c) 0 ⊢ WP c (k ⟨⟩) Q) :
    SS m K c (FrH m c) 0 ⊢ WP c (Prog.lift (.load (Memref.whole cc0_stg5_0 : Memref sig .tc .vmem S512x512 .f32) (Rect.unit (s := S512x512) ![0, 0] S512x512.size inb_S512x512_S512x512_0_0).toLoadRect hl) >>= fun _ =>
      Prog.lift (.store (Memref.whole cc0_stg5_0 : Memref sig .tc .vmem S512x512 .f32) (Rect.unit (s := S512x512) ![0, 0] S512x512.size inb_S512x512_S512x512_0_0) w Finset.univ hx hm) >>= k) Q := by
  subst hw
  rw [lift_bind]
  unfold SS at hc ⊢
  unfold Ow FrI FI outP at hc
  unfold Ow FrH FH outJ
  iintro ⟨Hc, ⟨HO, Hi, ⟨%f, Ho⟩, HE⟩, HS⟩
  iapply (ld c (Memref.whole cc0_stg5_0 : Memref sig .tc .vmem S512x512 .f32) (Rect.unit (s := S512x512) ![0, 0] S512x512.size inb_S512x512_S512x512_0_0) (hl := hl) (S := Finset.univ) (Finset.subset_univ _) f) $$ Ho
  iintro Ho
  rw [lift_bind]
  iapply (wp_store 𝒱₀ (c : Thread nD τ) none Set.univ (m := (Memref.whole cc0_stg5_0 : Memref sig .tc .vmem S512x512 .f32)) (r := (Rect.unit (s := S512x512) ![0, 0] S512x512.size inb_S512x512_S512x512_0_0)) (Mk := Finset.univ) (S := Finset.univ) (Finset.subset_univ _)) $$ Ho
  iintro Ho
  have e : ((Memref.whole cc0_stg5_0 : Memref sig .tc .vmem S512x512 .f32).access (Rect.unit (s := S512x512) ![0, 0] S512x512.size inb_S512x512_S512x512_0_0)).write (Elt F) f (OUT m c) Finset.univ = OUT m c :=
    Memref.write_access_unit_zero_univ (Elt F) cc0_stg5_0 hz2 _ f (OUT m c)
  ihave Ho := (Entails.of_eq (congrArg (fun g : Buf (Elt F) ((c : Thread nD τ).loc cc0_stg5_0) => ((c : Thread nD τ).loc cc0_stg5_0 ↦{fullShare} g : sProp 𝕄)) e)) $$ Ho
  iapply hc
  isplitl [Hc]; · iexact Hc
  isplitr [HS]
  · isplitl [HO]; · iexact HO
    isplitl [Hi]; · iexact Hi
    isplitl [Ho]; · iexact Ho
    iexact HE
  iexact HS

set_option maxHeartbeats 4000000 in
theorem part25_spec :
    SL1 m K c (FrE m c) 15 ⊢ WP c (k0_part25 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) xdM (Memref.isWhole_whole _) xrM (Memref.isWhole_whole _) ysM (Memref.isWhole_whole _) yrM (Memref.isWhole_whole _) cc0_scratch4 cc0_scratch5 cc0_scratch6 cc0_scratch7 c (vme c) (k0_pay93 (k0_pay15 (ewin m c)) (rdX (XR m c) 15)))
      (fun r => iprop(⌜r = 7#32⌝ ∗ SB m K c (FrG m c) 7)) := by
  rw [k0_part25_eq_skeleton]; unfold k0_part25_skel
  refine ldys_step m K c (FrE m c) 15 fun _ => ?_
  refine stys_step m K c (FrE m c) 15 rfl ?_
  refine ret_step m K c (FrE m c) 15 ((by decide +kernel : ∀ c : Dev nD, k0_cond79 c = 1#1 ↔ (15 : Fin 16) ≠ c) c) (by decide)
    (fun _ => rfl) (fun _ => slotY_of (k0_off65_eq c)) (fun _ => rfl) (fun _ => slotS_of (k0_off64_eq c)) ?_
  refine own_step m K c (FrE m c) 15 (eq_iff 15 c rfl) (fun v => shapeCast_shapeCast _ _ _) ?_
  change SL0 m K c (FrE m c) 16 ⊢ _
  refine BIBase.Entails.trans (from_loop m K c) ?_
  change SB m K c (FrG m c) (0 : Fin 16).val ⊢ _
  refine bck_step m K c (FrG m c) 0 ?_ ?_ ?_ ?_
  · exact ne_iff 0 c rfl
  · intro h; rfl
  · intro h; rfl
  change SB m K c (FrG m c) (1 : Fin 16).val ⊢ _
  refine bck_step m K c (FrG m c) 1 ?_ ?_ ?_ ?_
  · exact ne_iff 1 c rfl
  · intro h; rfl
  · intro h; rfl
  change SB m K c (FrG m c) (2 : Fin 16).val ⊢ _
  refine bck_step m K c (FrG m c) 2 ?_ ?_ ?_ ?_
  · exact ne_iff 2 c rfl
  · intro h; rfl
  · intro h; rfl
  change SB m K c (FrG m c) (3 : Fin 16).val ⊢ _
  refine bck_step m K c (FrG m c) 3 ?_ ?_ ?_ ?_
  · exact ne_iff 3 c rfl
  · intro h; rfl
  · intro h; rfl
  change SB m K c (FrG m c) (4 : Fin 16).val ⊢ _
  refine bck_step m K c (FrG m c) 4 ?_ ?_ ?_ ?_
  · exact ne_iff 4 c rfl
  · intro h; rfl
  · intro h; rfl
  change SB m K c (FrG m c) (5 : Fin 16).val ⊢ _
  refine bck_step m K c (FrG m c) 5 ?_ ?_ ?_ ?_
  · exact ne_iff 5 c rfl
  · intro h; rfl
  · intro h; rfl
  change SB m K c (FrG m c) (6 : Fin 16).val ⊢ _
  refine bck_step m K c (FrG m c) 6 ?_ ?_ ?_ ?_
  · exact ne_iff 6 c rfl
  · intro h; rfl
  · intro h; rfl
  change SB m K c (FrG m c) (7 : Fin 16).val ⊢ _
  exact ret_eq c

set_option maxHeartbeats 4000000 in
theorem part26_spec :
    SB m K c (FrG m c) 7 ⊢ WP c (k0_part26 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) xdM (Memref.isWhole_whole _) xrM (Memref.isWhole_whole _) ysM (Memref.isWhole_whole _) yrM (Memref.isWhole_whole _) cc0_scratch4 cc0_scratch5 cc0_scratch6 cc0_scratch7 (vme c) (pOf (gin m c)) 7#32)
      (fun r => iprop(⌜r = k0_pay96 (pOf (gin m c)) (YR m c)⌝ ∗ SS m K c (FrH m c) 0)) := by
  rw [k0_part26_eq_skeleton]; unfold k0_part26_skel
  change SB m K c (FrG m c) (7 : Fin 16).val ⊢ _
  refine bck_step m K c (FrG m c) 7 ?_ ?_ ?_ ?_
  · exact ne_iff 7 c rfl
  · intro h; rfl
  · intro h; rfl
  change SB m K c (FrG m c) (8 : Fin 16).val ⊢ _
  refine bck_step m K c (FrG m c) 8 ?_ ?_ ?_ ?_
  · exact ne_iff 8 c rfl
  · intro h; rfl
  · intro h; rfl
  change SB m K c (FrG m c) (9 : Fin 16).val ⊢ _
  refine bck_step m K c (FrG m c) 9 ?_ ?_ ?_ ?_
  · exact ne_iff 9 c rfl
  · intro h; rfl
  · intro h; rfl
  change SB m K c (FrG m c) (10 : Fin 16).val ⊢ _
  refine bck_step m K c (FrG m c) 10 ?_ ?_ ?_ ?_
  · exact ne_iff 10 c rfl
  · intro h; rfl
  · intro h; rfl
  change SB m K c (FrG m c) (11 : Fin 16).val ⊢ _
  refine bck_step m K c (FrG m c) 11 ?_ ?_ ?_ ?_
  · exact ne_iff 11 c rfl
  · intro h; rfl
  · intro h; rfl
  change SB m K c (FrG m c) (12 : Fin 16).val ⊢ _
  refine bck_step m K c (FrG m c) 12 ?_ ?_ ?_ ?_
  · exact ne_iff 12 c rfl
  · intro h; rfl
  · intro h; rfl
  change SB m K c (FrG m c) (13 : Fin 16).val ⊢ _
  refine bck_step m K c (FrG m c) 13 ?_ ?_ ?_ ?_
  · exact ne_iff 13 c rfl
  · intro h; rfl
  · intro h; rfl
  change SB m K c (FrG m c) (14 : Fin 16).val ⊢ _
  refine bck_step m K c (FrG m c) 14 ?_ ?_ ?_ ?_
  · exact ne_iff 14 c rfl
  · intro h; rfl
  · intro h; rfl
  change SB m K c (FrG m c) (15 : Fin 16).val ⊢ _
  refine bck_step m K c (FrG m c) 15 ?_ ?_ ?_ ?_
  · exact ne_iff 15 c rfl
  · intro h; rfl
  · intro h; rfl
  change SB m K c (FrG m c) 16 ⊢ _
  refine yr_step m K c ?_
  exact ret_eq c

set_option maxHeartbeats 4000000 in
theorem part27_spec :
    SS m K c (FrH m c) 0 ⊢ WP c (k0_part27 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) xdM (Memref.isWhole_whole _) xrM (Memref.isWhole_whole _) ysM (Memref.isWhole_whole _) yrM (Memref.isWhole_whole _) cc0_scratch4 cc0_scratch5 cc0_scratch6 cc0_scratch7 c (vme c) (k0_pay12 (k0_pay6 (xin m c)) (swin m c)) (k0_pay14 (k0_pay13 (k0_pay1 (gin m c)) (xin m c) (rwin m c))) (k0_pay96 (pOf (gin m c)) (YR m c)))
      (fun r => iprop(⌜r = PUnit.unit⌝ ∗ SS m K c (FrI m c) 8)) := by
  rw [k0_part27_eq_skeleton]; unfold k0_part27_skel
  refine out_step m K c rfl ?_
  change SS m K c (FrI m c) (0 : Fin 16).val ⊢ _
  refine snt_step m K c (FrI m c) 0 ((by decide +kernel : ∀ c : Dev nD, k0_cond97 c = 1#1 ↔ (0 : Fin 16) ≠ c) c) ?_ ?_ ?_ ?_ ?_
  · intro h; rfl
  · intro h; rfl
  · intro h; rfl
  · intro h; rfl
  change SS m K c (FrI m c) (1 : Fin 16).val ⊢ _
  refine snt_step m K c (FrI m c) 1 ((by decide +kernel : ∀ c : Dev nD, k0_cond98 c = 1#1 ↔ (1 : Fin 16) ≠ c) c) ?_ ?_ ?_ ?_ ?_
  · intro h; rfl
  · intro h; rfl
  · intro h; rfl
  · intro h; rfl
  change SS m K c (FrI m c) (2 : Fin 16).val ⊢ _
  refine snt_step m K c (FrI m c) 2 ((by decide +kernel : ∀ c : Dev nD, k0_cond99 c = 1#1 ↔ (2 : Fin 16) ≠ c) c) ?_ ?_ ?_ ?_ ?_
  · intro h; rfl
  · intro h; rfl
  · intro h; rfl
  · intro h; rfl
  change SS m K c (FrI m c) (3 : Fin 16).val ⊢ _
  refine snt_step m K c (FrI m c) 3 ((by decide +kernel : ∀ c : Dev nD, k0_cond100 c = 1#1 ↔ (3 : Fin 16) ≠ c) c) ?_ ?_ ?_ ?_ ?_
  · intro h; rfl
  · intro h; rfl
  · intro h; rfl
  · intro h; rfl
  change SS m K c (FrI m c) (4 : Fin 16).val ⊢ _
  refine snt_step m K c (FrI m c) 4 ((by decide +kernel : ∀ c : Dev nD, k0_cond101 c = 1#1 ↔ (4 : Fin 16) ≠ c) c) ?_ ?_ ?_ ?_ ?_
  · intro h; rfl
  · intro h; rfl
  · intro h; rfl
  · intro h; rfl
  change SS m K c (FrI m c) (5 : Fin 16).val ⊢ _
  refine snt_step m K c (FrI m c) 5 ((by decide +kernel : ∀ c : Dev nD, k0_cond102 c = 1#1 ↔ (5 : Fin 16) ≠ c) c) ?_ ?_ ?_ ?_ ?_
  · intro h; rfl
  · intro h; rfl
  · intro h; rfl
  · intro h; rfl
  change SS m K c (FrI m c) (6 : Fin 16).val ⊢ _
  refine snt_step m K c (FrI m c) 6 ((by decide +kernel : ∀ c : Dev nD, k0_cond103 c = 1#1 ↔ (6 : Fin 16) ≠ c) c) ?_ ?_ ?_ ?_ ?_
  · intro h; rfl
  · intro h; rfl
  · intro h; rfl
  · intro h; rfl
  change SS m K c (FrI m c) (7 : Fin 16).val ⊢ _
  refine snt_step m K c (FrI m c) 7 ((by decide +kernel : ∀ c : Dev nD, k0_cond104 c = 1#1 ↔ (7 : Fin 16) ≠ c) c) ?_ ?_ ?_ ?_ ?_
  · intro h; rfl
  · intro h; rfl
  · intro h; rfl
  · intro h; rfl
  change SS m K c (FrI m c) (8 : Fin 16).val ⊢ _
  exact ret_eq c

end Cert.Moe

end
-- ==== Proof.Iters0.lean ====
/-
The second loop: parts 8 to 10 of the body, from the state before to the state after.
-/
module

public import proofs.«01_k».proof.Proof.Moves

@[expose] public section

set_option maxRecDepth 10000

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : CK → ℕ) (c : Dev nD)

theorem part8_spec (Fr : sProp 𝕄) :
    SL1 m K c Fr 0 ⊢ WP c (k0_part8 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) xdM (Memref.isWhole_whole _) xrM (Memref.isWhole_whole _) ysM (Memref.isWhole_whole _) yrM (Memref.isWhole_whole _) cc0_scratch4 cc0_scratch5 cc0_scratch6 cc0_scratch7 c (vme c) (k0_pay16 (ewin m c) (rdX (XR m c) 0)))
      (fun r => iprop(⌜r = ⟨k0_pay20 (rdX (XR m c) 1), k0_pay22 (rdX (XR m c) 1), k0_pay23 (rdX (XR m c) 1), k0_pay24 (rdX (XR m c) 1), (Scalar.ofBits .bf16 0x0000#16), k0_pay25 (rdX (XR m c) 1)⟩⌝ ∗ SL1 m K c Fr 1)) := by
  rw [k0_part8_eq_skeleton]; unfold k0_part8_skel
  refine ldys_step m K c Fr 0 fun _ => ?_
  refine stys_step m K c Fr 0 rfl ?_
  refine ret_step m K c Fr 0 ((by decide +kernel : ∀ c : Dev nD, k0_cond34 c = 1#1 ↔ (0 : Fin 16) ≠ c) c) (by decide)
    (fun _ => rfl) (fun _ => slotY_of (k0_off35_eq c)) (fun _ => rfl) (fun _ => slotS_of (k0_off34_eq c)) ?_
  refine own_step m K c Fr 0 (eq_iff 0 c rfl) (fun v => shapeCast_shapeCast _ _ _) ?_
  change SL0 m K c Fr (1 : Fin 16).val ⊢ _
  change SL0 m K c Fr (1 : Fin 16).val ⊢ _
  refine rcv_step m K c Fr 1 ?_ ?_ ?_ ?_
  · exact ne_iff 1 c rfl
  · intro h; rfl
  · intro h; rfl
  refine ldxr_step m K c Fr 1 ?_
  exact ret_eq c

theorem part9_spec (Fr : sProp 𝕄) :
    SL1 m K c Fr 1 ⊢ WP c (k0_part9 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) xdM (Memref.isWhole_whole _) xrM (Memref.isWhole_whole _) ysM (Memref.isWhole_whole _) yrM (Memref.isWhole_whole _) cc0_scratch4 cc0_scratch5 cc0_scratch6 cc0_scratch7 c (vme c) (k0_pay15 (ewin m c)) (k0_pay20 (rdX (XR m c) 1)) (k0_pay22 (rdX (XR m c) 1)) (k0_pay23 (rdX (XR m c) 1)) (k0_pay24 (rdX (XR m c) 1)) (Scalar.ofBits .bf16 0x0000#16) (k0_pay25 (rdX (XR m c) 1)))
      (fun r => iprop(⌜r = ⟨k0_pay29 (rdX (XR m c) 2), k0_pay30 (rdX (XR m c) 2), k0_pay31 (rdX (XR m c) 2), k0_pay32 (rdX (XR m c) 2), (Scalar.ofBits .bf16 0x0000#16), k0_pay33 (rdX (XR m c) 2)⟩⌝ ∗ SL1 m K c Fr 2)) := by
  rw [k0_part9_eq_skeleton]; unfold k0_part9_skel
  refine ldys_step m K c Fr 1 fun _ => ?_
  refine stys_step m K c Fr 1 rfl ?_
  refine ret_step m K c Fr 1 ((by decide +kernel : ∀ c : Dev nD, k0_cond37 c = 1#1 ↔ (1 : Fin 16) ≠ c) c) (by decide)
    (fun _ => rfl) (fun _ => slotY_of (k0_off37_eq c)) (fun _ => rfl) (fun _ => slotS_of (k0_off36_eq c)) ?_
  refine own_step m K c Fr 1 (eq_iff 1 c rfl) (fun v => shapeCast_shapeCast _ _ _) ?_
  change SL0 m K c Fr (2 : Fin 16).val ⊢ _
  change SL0 m K c Fr (2 : Fin 16).val ⊢ _
  refine rcv_step m K c Fr 2 ?_ ?_ ?_ ?_
  · exact ne_iff 2 c rfl
  · intro h; rfl
  · intro h; rfl
  refine ldxr_step m K c Fr 2 ?_
  exact ret_eq c

theorem part10_spec (Fr : sProp 𝕄) :
    SL1 m K c Fr 2 ⊢ WP c (k0_part10 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) xdM (Memref.isWhole_whole _) xrM (Memref.isWhole_whole _) ysM (Memref.isWhole_whole _) yrM (Memref.isWhole_whole _) cc0_scratch4 cc0_scratch5 cc0_scratch6 cc0_scratch7 c (vme c) (k0_pay15 (ewin m c)) (k0_pay29 (rdX (XR m c) 2)) (k0_pay30 (rdX (XR m c) 2)) (k0_pay31 (rdX (XR m c) 2)) (k0_pay32 (rdX (XR m c) 2)) (Scalar.ofBits .bf16 0x0000#16) (k0_pay33 (rdX (XR m c) 2)))
      (fun r => iprop(⌜r = ⟨k0_pay37 (rdX (XR m c) 3), k0_pay38 (rdX (XR m c) 3), k0_pay39 (rdX (XR m c) 3), (Scalar.ofBits .bf16 0x0000#16), k0_pay40 (rdX (XR m c) 3)⟩⌝ ∗ SL1 m K c Fr 3)) := by
  rw [k0_part10_eq_skeleton]; unfold k0_part10_skel
  refine ldys_step m K c Fr 2 fun _ => ?_
  refine stys_step m K c Fr 2 rfl ?_
  refine ret_step m K c Fr 2 ((by decide +kernel : ∀ c : Dev nD, k0_cond40 c = 1#1 ↔ (2 : Fin 16) ≠ c) c) (by decide)
    (fun _ => rfl) (fun _ => slotY_of (k0_off39_eq c)) (fun _ => rfl) (fun _ => slotS_of (k0_off38_eq c)) ?_
  refine own_step m K c Fr 2 (eq_iff 2 c rfl) (fun v => shapeCast_shapeCast _ _ _) ?_
  change SL0 m K c Fr (3 : Fin 16).val ⊢ _
  change SL0 m K c Fr (3 : Fin 16).val ⊢ _
  refine rcv_step m K c Fr 3 ?_ ?_ ?_ ?_
  · exact ne_iff 3 c rfl
  · intro h; rfl
  · intro h; rfl
  refine ldxr_step m K c Fr 3 ?_
  exact ret_eq c

end Cert.Moe

end
-- ==== Proof.Iters1.lean ====
/-
The second loop: parts 11 to 14 of the body, from the state before to the state after.
-/
module

public import proofs.«01_k».proof.Proof.Moves

@[expose] public section

set_option maxRecDepth 10000

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : CK → ℕ) (c : Dev nD)

theorem part11_spec (Fr : sProp 𝕄) :
    SL1 m K c Fr 3 ⊢ WP c (k0_part11 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) xdM (Memref.isWhole_whole _) xrM (Memref.isWhole_whole _) ysM (Memref.isWhole_whole _) yrM (Memref.isWhole_whole _) cc0_scratch4 cc0_scratch5 cc0_scratch6 cc0_scratch7 c (vme c) (k0_pay15 (ewin m c)) (k0_pay37 (rdX (XR m c) 3)) (k0_pay38 (rdX (XR m c) 3)) (k0_pay39 (rdX (XR m c) 3)) (Scalar.ofBits .bf16 0x0000#16) (k0_pay40 (rdX (XR m c) 3)))
      (fun r => iprop(⌜r = ⟨k0_pay44 (rdX (XR m c) 4), k0_pay45 (rdX (XR m c) 4), (Scalar.ofBits .bf16 0x0000#16), k0_pay46 (rdX (XR m c) 4)⟩⌝ ∗ SL1 m K c Fr 4)) := by
  rw [k0_part11_eq_skeleton]; unfold k0_part11_skel
  refine ldys_step m K c Fr 3 fun _ => ?_
  refine stys_step m K c Fr 3 rfl ?_
  refine ret_step m K c Fr 3 ((by decide +kernel : ∀ c : Dev nD, k0_cond43 c = 1#1 ↔ (3 : Fin 16) ≠ c) c) (by decide)
    (fun _ => rfl) (fun _ => slotY_of (k0_off41_eq c)) (fun _ => rfl) (fun _ => slotS_of (k0_off40_eq c)) ?_
  refine own_step m K c Fr 3 (eq_iff 3 c rfl) (fun v => shapeCast_shapeCast _ _ _) ?_
  change SL0 m K c Fr (4 : Fin 16).val ⊢ _
  change SL0 m K c Fr (4 : Fin 16).val ⊢ _
  refine rcv_step m K c Fr 4 ?_ ?_ ?_ ?_
  · exact ne_iff 4 c rfl
  · intro h; rfl
  · intro h; rfl
  refine ldxr_step m K c Fr 4 ?_
  exact ret_eq c

theorem part12_spec (Fr : sProp 𝕄) :
    SL1 m K c Fr 4 ⊢ WP c (k0_part12 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) xdM (Memref.isWhole_whole _) xrM (Memref.isWhole_whole _) ysM (Memref.isWhole_whole _) yrM (Memref.isWhole_whole _) cc0_scratch4 cc0_scratch5 cc0_scratch6 cc0_scratch7 c (vme c) (k0_pay15 (ewin m c)) (k0_pay44 (rdX (XR m c) 4)) (k0_pay45 (rdX (XR m c) 4)) (Scalar.ofBits .bf16 0x0000#16) (k0_pay46 (rdX (XR m c) 4)))
      (fun r => iprop(⌜r = (k0_pay49 (rdX (XR m c) 5))⌝ ∗ SL1 m K c Fr 5)) := by
  rw [k0_part12_eq_skeleton]; unfold k0_part12_skel
  refine ldys_step m K c Fr 4 fun _ => ?_
  refine stys_step m K c Fr 4 rfl ?_
  refine ret_step m K c Fr 4 ((by decide +kernel : ∀ c : Dev nD, k0_cond46 c = 1#1 ↔ (4 : Fin 16) ≠ c) c) (by decide)
    (fun _ => rfl) (fun _ => slotY_of (k0_off43_eq c)) (fun _ => rfl) (fun _ => slotS_of (k0_off42_eq c)) ?_
  refine own_step m K c Fr 4 (eq_iff 4 c rfl) (fun v => shapeCast_shapeCast _ _ _) ?_
  change SL0 m K c Fr (5 : Fin 16).val ⊢ _
  change SL0 m K c Fr (5 : Fin 16).val ⊢ _
  refine rcv_step m K c Fr 5 ?_ ?_ ?_ ?_
  · exact ne_iff 5 c rfl
  · intro h; rfl
  · intro h; rfl
  refine ldxr_step m K c Fr 5 ?_
  exact ret_eq c

theorem part13_spec (Fr : sProp 𝕄) :
    SL1 m K c Fr 5 ⊢ WP c (k0_part13 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) xdM (Memref.isWhole_whole _) xrM (Memref.isWhole_whole _) ysM (Memref.isWhole_whole _) yrM (Memref.isWhole_whole _) cc0_scratch4 cc0_scratch5 cc0_scratch6 cc0_scratch7 c (vme c) (k0_pay15 (ewin m c)) (k0_pay49 (rdX (XR m c) 5)))
      (fun r => iprop(⌜r = (Scalar.extui (Scalar.cmpi .ne (vme c) 6#32))⌝ ∗ SL0 m K c Fr 6)) := by
  rw [k0_part13_eq_skeleton]; unfold k0_part13_skel
  refine ldys_step m K c Fr 5 fun _ => ?_
  refine stys_step m K c Fr 5 rfl ?_
  refine ret_step m K c Fr 5 ((by decide +kernel : ∀ c : Dev nD, k0_cond49 c = 1#1 ↔ (5 : Fin 16) ≠ c) c) (by decide)
    (fun _ => rfl) (fun _ => slotY_of (k0_off45_eq c)) (fun _ => rfl) (fun _ => slotS_of (k0_off44_eq c)) ?_
  refine own_step m K c Fr 5 (eq_iff 5 c rfl) (fun v => shapeCast_shapeCast _ _ _) ?_
  change SL0 m K c Fr (6 : Fin 16).val ⊢ _
  exact ret_eq c

theorem part14_spec (Fr : sProp 𝕄) :
    SL0 m K c Fr 6 ⊢ WP c (k0_part14 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) xdM (Memref.isWhole_whole _) xrM (Memref.isWhole_whole _) ysM (Memref.isWhole_whole _) yrM (Memref.isWhole_whole _) cc0_scratch4 cc0_scratch5 cc0_scratch6 cc0_scratch7 c (vme c) (k0_pay15 (ewin m c)) (Scalar.extui (Scalar.cmpi .ne (vme c) 6#32)))
      (fun r => iprop(⌜r = 6#32⌝ ∗ SL3 m K c Fr 6)) := by
  rw [k0_part14_eq_skeleton]; unfold k0_part14_skel
  change SL0 m K c Fr (6 : Fin 16).val ⊢ _
  refine rcv_step m K c Fr 6 ?_ ?_ ?_ ?_
  · exact ne_iff 6 c rfl
  · intro h; rfl
  · intro h; rfl
  refine ldxr_step m K c Fr 6 ?_
  refine ldys_step m K c Fr 6 fun _ => ?_
  refine stys_step m K c Fr 6 rfl ?_
  refine ret_step m K c Fr 6 ((by decide +kernel : ∀ c : Dev nD, k0_cond52 c = 1#1 ↔ (6 : Fin 16) ≠ c) c) (by decide)
    (fun _ => rfl) (fun _ => slotY_of (k0_off47_eq c)) (fun _ => rfl) (fun _ => slotS_of (k0_off46_eq c)) ?_
  exact ret_eq c

end Cert.Moe

end
-- ==== Proof.Iters2.lean ====
/-
The second loop: parts 15 to 17 of the body, from the state before to the state after.
-/
module

public import proofs.«01_k».proof.Proof.Moves

@[expose] public section

set_option maxRecDepth 10000

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : CK → ℕ) (c : Dev nD)

theorem part15_spec (Fr : sProp 𝕄) :
    SL3 m K c Fr 6 ⊢ WP c (k0_part15 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) xdM (Memref.isWhole_whole _) xrM (Memref.isWhole_whole _) ysM (Memref.isWhole_whole _) yrM (Memref.isWhole_whole _) cc0_scratch4 cc0_scratch5 cc0_scratch6 cc0_scratch7 (vme c) (k0_pay15 (ewin m c)) 6#32)
      (fun r => iprop(⌜r = (k0_pay54 (k0_pay15 (ewin m c)) (rdX (XR m c) 7))⌝ ∗ SL1 m K c Fr 7)) := by
  rw [k0_part15_eq_skeleton]; unfold k0_part15_skel
  refine own_step m K c Fr 6 (eq_iff 6 c rfl) (fun v => shapeCast_shapeCast _ _ _) ?_
  change SL0 m K c Fr (7 : Fin 16).val ⊢ _
  change SL0 m K c Fr (7 : Fin 16).val ⊢ _
  refine rcv_step m K c Fr 7 ?_ ?_ ?_ ?_
  · exact ne_iff 7 c rfl
  · intro h; rfl
  · intro h; rfl
  refine ldxr_step m K c Fr 7 ?_
  refine ldys_step m K c Fr 7 fun _ => ?_
  exact ret_eq c

theorem part16_spec (Fr : sProp 𝕄) :
    SL1 m K c Fr 7 ⊢ WP c (k0_part16 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) xdM (Memref.isWhole_whole _) xrM (Memref.isWhole_whole _) ysM (Memref.isWhole_whole _) yrM (Memref.isWhole_whole _) cc0_scratch4 cc0_scratch5 cc0_scratch6 cc0_scratch7 c (vme c) (k0_pay54 (k0_pay15 (ewin m c)) (rdX (XR m c) 7)))
      (fun r => iprop(⌜r = ⟨k0_pay56 (rdX (XR m c) 8), (constant S96x512 .f32 0x00000000#32)⟩⌝ ∗ SL1 m K c Fr 8)) := by
  rw [k0_part16_eq_skeleton]; unfold k0_part16_skel
  refine stys_step m K c Fr 7 rfl ?_
  refine ret_step m K c Fr 7 ((by decide +kernel : ∀ c : Dev nD, k0_cond55 c = 1#1 ↔ (7 : Fin 16) ≠ c) c) (by decide)
    (fun _ => rfl) (fun _ => slotY_of (k0_off49_eq c)) (fun _ => rfl) (fun _ => slotS_of (k0_off48_eq c)) ?_
  refine own_step m K c Fr 7 (eq_iff 7 c rfl) (fun v => shapeCast_shapeCast _ _ _) ?_
  change SL0 m K c Fr (8 : Fin 16).val ⊢ _
  change SL0 m K c Fr (8 : Fin 16).val ⊢ _
  refine rcv_step m K c Fr 8 ?_ ?_ ?_ ?_
  · exact ne_iff 8 c rfl
  · intro h; rfl
  · intro h; rfl
  refine ldxr_step m K c Fr 8 ?_
  exact ret_eq c

theorem part17_spec (Fr : sProp 𝕄) :
    SL1 m K c Fr 8 ⊢ WP c (k0_part17 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) xdM (Memref.isWhole_whole _) xrM (Memref.isWhole_whole _) ysM (Memref.isWhole_whole _) yrM (Memref.isWhole_whole _) cc0_scratch4 cc0_scratch5 cc0_scratch6 cc0_scratch7 c (vme c) (k0_pay15 (ewin m c)) (k0_pay56 (rdX (XR m c) 8)) (constant S96x512 .f32 0x00000000#32))
      (fun r => iprop(⌜r = ⟨k0_pay60 (rdX (XR m c) 9), k0_pay61 (rdX (XR m c) 9), k0_pay62 (rdX (XR m c) 9), k0_pay63 (rdX (XR m c) 9), k0_pay64 (rdX (XR m c) 9), k0_pay65 (F := F)⟩⌝ ∗ SL1 m K c Fr 9)) := by
  rw [k0_part17_eq_skeleton]; unfold k0_part17_skel
  refine ldys_step m K c Fr 8 fun _ => ?_
  refine stys_step m K c Fr 8 rfl ?_
  refine ret_step m K c Fr 8 ((by decide +kernel : ∀ c : Dev nD, k0_cond58 c = 1#1 ↔ (8 : Fin 16) ≠ c) c) (by decide)
    (fun _ => rfl) (fun _ => slotY_of (k0_off51_eq c)) (fun _ => rfl) (fun _ => slotS_of (k0_off50_eq c)) ?_
  refine own_step m K c Fr 8 (eq_iff 8 c rfl) (fun v => shapeCast_shapeCast _ _ _) ?_
  change SL0 m K c Fr (9 : Fin 16).val ⊢ _
  change SL0 m K c Fr (9 : Fin 16).val ⊢ _
  refine rcv_step m K c Fr 9 ?_ ?_ ?_ ?_
  · exact ne_iff 9 c rfl
  · intro h; rfl
  · intro h; rfl
  refine ldxr_step m K c Fr 9 ?_
  exact ret_eq c

end Cert.Moe

end
-- ==== Proof.Iters3.lean ====
/-
The second loop: parts 18 to 20 of the body, from the state before to the state after.
-/
module

public import proofs.«01_k».proof.Proof.Moves

@[expose] public section

set_option maxRecDepth 10000

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : CK → ℕ) (c : Dev nD)

theorem part18_spec (Fr : sProp 𝕄) :
    SL1 m K c Fr 9 ⊢ WP c (k0_part18 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) xdM (Memref.isWhole_whole _) xrM (Memref.isWhole_whole _) ysM (Memref.isWhole_whole _) yrM (Memref.isWhole_whole _) cc0_scratch4 cc0_scratch5 cc0_scratch6 cc0_scratch7 c (vme c) (k0_pay15 (ewin m c)) (k0_pay60 (rdX (XR m c) 9)) (k0_pay61 (rdX (XR m c) 9)) (k0_pay62 (rdX (XR m c) 9)) (k0_pay63 (rdX (XR m c) 9)) (k0_pay64 (rdX (XR m c) 9)) (k0_pay65 (F := F)))
      (fun r => iprop(⌜r = ⟨k0_pay69 (rdX (XR m c) 10), k0_pay70 (rdX (XR m c) 10), k0_pay71 (rdX (XR m c) 10), k0_pay72 (rdX (XR m c) 10), k0_pay73 (F := F)⟩⌝ ∗ SL1 m K c Fr 10)) := by
  rw [k0_part18_eq_skeleton]; unfold k0_part18_skel
  refine ldys_step m K c Fr 9 fun _ => ?_
  refine stys_step m K c Fr 9 rfl ?_
  refine ret_step m K c Fr 9 ((by decide +kernel : ∀ c : Dev nD, k0_cond61 c = 1#1 ↔ (9 : Fin 16) ≠ c) c) (by decide)
    (fun _ => rfl) (fun _ => slotY_of (k0_off53_eq c)) (fun _ => rfl) (fun _ => slotS_of (k0_off52_eq c)) ?_
  refine own_step m K c Fr 9 (eq_iff 9 c rfl) (fun v => shapeCast_shapeCast _ _ _) ?_
  change SL0 m K c Fr (10 : Fin 16).val ⊢ _
  change SL0 m K c Fr (10 : Fin 16).val ⊢ _
  refine rcv_step m K c Fr 10 ?_ ?_ ?_ ?_
  · exact ne_iff 10 c rfl
  · intro h; rfl
  · intro h; rfl
  refine ldxr_step m K c Fr 10 ?_
  exact ret_eq c

theorem part19_spec (Fr : sProp 𝕄) :
    SL1 m K c Fr 10 ⊢ WP c (k0_part19 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) xdM (Memref.isWhole_whole _) xrM (Memref.isWhole_whole _) ysM (Memref.isWhole_whole _) yrM (Memref.isWhole_whole _) cc0_scratch4 cc0_scratch5 cc0_scratch6 cc0_scratch7 c (vme c) (k0_pay15 (ewin m c)) (k0_pay69 (rdX (XR m c) 10)) (k0_pay70 (rdX (XR m c) 10)) (k0_pay71 (rdX (XR m c) 10)) (k0_pay72 (rdX (XR m c) 10)) (k0_pay73 (F := F)))
      (fun r => iprop(⌜r = ⟨k0_pay77 (rdX (XR m c) 11), k0_pay78 (rdX (XR m c) 11), k0_pay79 (rdX (XR m c) 11), k0_pay80 (F := F)⟩⌝ ∗ SL1 m K c Fr 11)) := by
  rw [k0_part19_eq_skeleton]; unfold k0_part19_skel
  refine ldys_step m K c Fr 10 fun _ => ?_
  refine stys_step m K c Fr 10 rfl ?_
  refine ret_step m K c Fr 10 ((by decide +kernel : ∀ c : Dev nD, k0_cond64 c = 1#1 ↔ (10 : Fin 16) ≠ c) c) (by decide)
    (fun _ => rfl) (fun _ => slotY_of (k0_off55_eq c)) (fun _ => rfl) (fun _ => slotS_of (k0_off54_eq c)) ?_
  refine own_step m K c Fr 10 (eq_iff 10 c rfl) (fun v => shapeCast_shapeCast _ _ _) ?_
  change SL0 m K c Fr (11 : Fin 16).val ⊢ _
  change SL0 m K c Fr (11 : Fin 16).val ⊢ _
  refine rcv_step m K c Fr 11 ?_ ?_ ?_ ?_
  · exact ne_iff 11 c rfl
  · intro h; rfl
  · intro h; rfl
  refine ldxr_step m K c Fr 11 ?_
  exact ret_eq c

theorem part20_spec (Fr : sProp 𝕄) :
    SL1 m K c Fr 11 ⊢ WP c (k0_part20 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) xdM (Memref.isWhole_whole _) xrM (Memref.isWhole_whole _) ysM (Memref.isWhole_whole _) yrM (Memref.isWhole_whole _) cc0_scratch4 cc0_scratch5 cc0_scratch6 cc0_scratch7 c (vme c) (k0_pay15 (ewin m c)) (k0_pay77 (rdX (XR m c) 11)) (k0_pay78 (rdX (XR m c) 11)) (k0_pay79 (rdX (XR m c) 11)) (k0_pay80 (F := F)))
      (fun r => iprop(⌜r = ⟨k0_pay84 (rdX (XR m c) 12), k0_pay85 (rdX (XR m c) 12), k0_pay86 (F := F)⟩⌝ ∗ SL1 m K c Fr 12)) := by
  rw [k0_part20_eq_skeleton]; unfold k0_part20_skel
  refine ldys_step m K c Fr 11 fun _ => ?_
  refine stys_step m K c Fr 11 rfl ?_
  refine ret_step m K c Fr 11 ((by decide +kernel : ∀ c : Dev nD, k0_cond67 c = 1#1 ↔ (11 : Fin 16) ≠ c) c) (by decide)
    (fun _ => rfl) (fun _ => slotY_of (k0_off57_eq c)) (fun _ => rfl) (fun _ => slotS_of (k0_off56_eq c)) ?_
  refine own_step m K c Fr 11 (eq_iff 11 c rfl) (fun v => shapeCast_shapeCast _ _ _) ?_
  change SL0 m K c Fr (12 : Fin 16).val ⊢ _
  change SL0 m K c Fr (12 : Fin 16).val ⊢ _
  refine rcv_step m K c Fr 12 ?_ ?_ ?_ ?_
  · exact ne_iff 12 c rfl
  · intro h; rfl
  · intro h; rfl
  refine ldxr_step m K c Fr 12 ?_
  exact ret_eq c

end Cert.Moe

end
-- ==== Proof.Iters4.lean ====
/-
The second loop: parts 21 to 24 of the body, from the state before to the state after.
-/
module

public import proofs.«01_k».proof.Proof.Moves

@[expose] public section

set_option maxRecDepth 10000

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : CK → ℕ) (c : Dev nD)

theorem part21_spec (Fr : sProp 𝕄) :
    SL1 m K c Fr 12 ⊢ WP c (k0_part21 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) xdM (Memref.isWhole_whole _) xrM (Memref.isWhole_whole _) ysM (Memref.isWhole_whole _) yrM (Memref.isWhole_whole _) cc0_scratch4 cc0_scratch5 cc0_scratch6 cc0_scratch7 c (vme c) (k0_pay15 (ewin m c)) (k0_pay84 (rdX (XR m c) 12)) (k0_pay85 (rdX (XR m c) 12)) (k0_pay86 (F := F)))
      (fun r => iprop(⌜r = PUnit.unit⌝ ∗ SL1 m K c Fr 13)) := by
  rw [k0_part21_eq_skeleton]; unfold k0_part21_skel
  refine ldys_step m K c Fr 12 fun _ => ?_
  refine stys_step m K c Fr 12 rfl ?_
  refine ret_step m K c Fr 12 ((by decide +kernel : ∀ c : Dev nD, k0_cond70 c = 1#1 ↔ (12 : Fin 16) ≠ c) c) (by decide)
    (fun _ => rfl) (fun _ => slotY_of (k0_off59_eq c)) (fun _ => rfl) (fun _ => slotS_of (k0_off58_eq c)) ?_
  refine own_step m K c Fr 12 (eq_iff 12 c rfl) (fun v => shapeCast_shapeCast _ _ _) ?_
  change SL0 m K c Fr (13 : Fin 16).val ⊢ _
  change SL0 m K c Fr (13 : Fin 16).val ⊢ _
  refine rcv_step m K c Fr 13 ?_ ?_ ?_ ?_
  · exact ne_iff 13 c rfl
  · intro h; rfl
  · intro h; rfl
  exact ret_eq c

theorem part22_spec (Fr : sProp 𝕄) :
    SL1 m K c Fr 13 ⊢ WP c (k0_part22 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) xdM (Memref.isWhole_whole _) xrM (Memref.isWhole_whole _) ysM (Memref.isWhole_whole _) yrM (Memref.isWhole_whole _) cc0_scratch4 cc0_scratch5 cc0_scratch6 cc0_scratch7 c (vme c) (k0_pay15 (ewin m c)))
      (fun r => iprop(⌜r = (Scalar.cmpi .ne (Scalar.extui (Scalar.cmpi .eq (vme c) 13#32)) 0#32)⌝ ∗ SL3 m K c Fr 13)) := by
  rw [k0_part22_eq_skeleton]; unfold k0_part22_skel
  refine ldxr_step m K c Fr 13 ?_
  refine ldys_step m K c Fr 13 fun _ => ?_
  refine stys_step m K c Fr 13 rfl ?_
  refine ret_step m K c Fr 13 ((by decide +kernel : ∀ c : Dev nD, k0_cond73 c = 1#1 ↔ (13 : Fin 16) ≠ c) c) (by decide)
    (fun _ => rfl) (fun _ => slotY_of (k0_off61_eq c)) (fun _ => rfl) (fun _ => slotS_of (k0_off60_eq c)) ?_
  exact ret_eq c

theorem part23_spec (Fr : sProp 𝕄) :
    SL3 m K c Fr 13 ⊢ WP c (k0_part23 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) xdM (Memref.isWhole_whole _) xrM (Memref.isWhole_whole _) ysM (Memref.isWhole_whole _) yrM (Memref.isWhole_whole _) cc0_scratch4 cc0_scratch5 cc0_scratch6 cc0_scratch7 (vme c) (k0_pay15 (ewin m c)) (Scalar.cmpi .ne (Scalar.extui (Scalar.cmpi .eq (vme c) 13#32)) 0#32))
      (fun r => iprop(⌜r = (Scalar.extui (Scalar.cmpi .ne (vme c) 14#32))⌝ ∗ SL2 m K c Fr 14)) := by
  rw [k0_part23_eq_skeleton]; unfold k0_part23_skel
  refine own_step m K c Fr 13 (eq_iff 13 c rfl) (fun v => shapeCast_shapeCast _ _ _) ?_
  change SL0 m K c Fr (14 : Fin 16).val ⊢ _
  change SL0 m K c Fr (14 : Fin 16).val ⊢ _
  refine rcv_step m K c Fr 14 ?_ ?_ ?_ ?_
  · exact ne_iff 14 c rfl
  · intro h; rfl
  · intro h; rfl
  refine ldxr_step m K c Fr 14 ?_
  refine ldys_step m K c Fr 14 fun _ => ?_
  refine stys_step m K c Fr 14 rfl ?_
  exact ret_eq c

theorem part24_spec (Fr : sProp 𝕄) :
    SL2 m K c Fr 14 ⊢ WP c (k0_part24 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) xdM (Memref.isWhole_whole _) xrM (Memref.isWhole_whole _) ysM (Memref.isWhole_whole _) yrM (Memref.isWhole_whole _) cc0_scratch4 cc0_scratch5 cc0_scratch6 cc0_scratch7 c (vme c) (k0_pay15 (ewin m c)) (Scalar.extui (Scalar.cmpi .ne (vme c) 14#32)))
      (fun r => iprop(⌜r = (k0_pay93 (k0_pay15 (ewin m c)) (rdX (XR m c) 15))⌝ ∗ SL1 m K c Fr 15)) := by
  rw [k0_part24_eq_skeleton]; unfold k0_part24_skel
  refine ret_step m K c Fr 14 ((by decide +kernel : ∀ c : Dev nD, k0_cond76 c = 1#1 ↔ (14 : Fin 16) ≠ c) c) (by decide)
    (fun _ => rfl) (fun _ => slotY_of (k0_off63_eq c)) (fun _ => rfl) (fun _ => slotS_of (k0_off62_eq c)) ?_
  refine own_step m K c Fr 14 (eq_iff 14 c rfl) (fun v => shapeCast_shapeCast _ _ _) ?_
  change SL0 m K c Fr (15 : Fin 16).val ⊢ _
  change SL0 m K c Fr (15 : Fin 16).val ⊢ _
  refine rcv_step m K c Fr 15 ?_ ?_ ?_ ?_
  · exact ne_iff 15 c rfl
  · intro h; rfl
  · intro h; rfl
  refine ldxr_step m K c Fr 15 ?_
  exact ret_eq c

end Cert.Moe

end
-- ==== Proof.Whole.lean ====
/-
The whole body, run once on every device.
-/
module

public import proofs.«01_k».proof.Proof.Tail
public import proofs.«01_k».proof.Proof.Iters0
public import proofs.«01_k».proof.Proof.Iters1
public import proofs.«01_k».proof.Proof.Iters2
public import proofs.«01_k».proof.Proof.Iters3
public import proofs.«01_k».proof.Proof.Iters4

@[expose] public section

set_option maxRecDepth 10000

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : CK → ℕ) (c : Dev nD)

set_option maxHeartbeats 4000000 in
theorem part28_spec :
    S1 m K c 0 ⊢ WP c (k0_part28 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) xdM (Memref.isWhole_whole _) xrM (Memref.isWhole_whole _) ysM (Memref.isWhole_whole _) yrM (Memref.isWhole_whole _) cc0_scratch4 cc0_scratch5 cc0_scratch6 cc0_scratch7)
      (fun r => iprop(⌜r = ⟨c, vme c, Scalar.cmpi .ne (vme c) 14#32⟩⌝ ∗ SS m K c (FrI m c) 14)) := by
  rw [k0_part28_eq_skeleton]; unfold k0_part28_skel
  refine run_then c (part1_spec m K c) ?_
  refine run_then c (part2_spec m K c) ?_
  refine run_then c (part3_spec m K c) ?_
  refine run_then c (part4_spec m K c) ?_
  refine run_then c (part5_spec m K c) ?_
  refine run_then c (part6_spec m K c) ?_
  refine run_then c (part7_spec m K c) ?_
  refine run_then c (part8_spec m K c (FrE m c)) ?_
  refine run_then c (part9_spec m K c (FrE m c)) ?_
  refine run_then c (part10_spec m K c (FrE m c)) ?_
  refine run_then c (part11_spec m K c (FrE m c)) ?_
  refine run_then c (part12_spec m K c (FrE m c)) ?_
  refine run_then c (part13_spec m K c (FrE m c)) ?_
  refine run_then c (part14_spec m K c (FrE m c)) ?_
  refine run_then c (part15_spec m K c (FrE m c)) ?_
  refine run_then c (part16_spec m K c (FrE m c)) ?_
  refine run_then c (part17_spec m K c (FrE m c)) ?_
  refine run_then c (part18_spec m K c (FrE m c)) ?_
  refine run_then c (part19_spec m K c (FrE m c)) ?_
  refine run_then c (part20_spec m K c (FrE m c)) ?_
  refine run_then c (part21_spec m K c (FrE m c)) ?_
  refine run_then c (part22_spec m K c (FrE m c)) ?_
  refine run_then c (part23_spec m K c (FrE m c)) ?_
  refine run_then c (part24_spec m K c (FrE m c)) ?_
  refine run_then c (part25_spec m K c) ?_
  refine run_then c (part26_spec m K c) ?_
  refine run_then c (part27_spec m K c) ?_
  change SS m K c (FrI m c) (8 : Fin 16).val ⊢ _
  refine snt_step m K c (FrI m c) 8 ((by decide +kernel : ∀ c : Dev nD, k0_cond105 c = 1#1 ↔ (8 : Fin 16) ≠ c) c) ?_ ?_ ?_ ?_ ?_
  · intro h; rfl
  · intro h; rfl
  · intro h; rfl
  · intro h; rfl
  change SS m K c (FrI m c) (9 : Fin 16).val ⊢ _
  refine snt_step m K c (FrI m c) 9 ((by decide +kernel : ∀ c : Dev nD, k0_cond106 c = 1#1 ↔ (9 : Fin 16) ≠ c) c) ?_ ?_ ?_ ?_ ?_
  · intro h; rfl
  · intro h; rfl
  · intro h; rfl
  · intro h; rfl
  change SS m K c (FrI m c) (10 : Fin 16).val ⊢ _
  refine snt_step m K c (FrI m c) 10 ((by decide +kernel : ∀ c : Dev nD, k0_cond107 c = 1#1 ↔ (10 : Fin 16) ≠ c) c) ?_ ?_ ?_ ?_ ?_
  · intro h; rfl
  · intro h; rfl
  · intro h; rfl
  · intro h; rfl
  change SS m K c (FrI m c) (11 : Fin 16).val ⊢ _
  refine snt_step m K c (FrI m c) 11 ((by decide +kernel : ∀ c : Dev nD, k0_cond108 c = 1#1 ↔ (11 : Fin 16) ≠ c) c) ?_ ?_ ?_ ?_ ?_
  · intro h; rfl
  · intro h; rfl
  · intro h; rfl
  · intro h; rfl
  change SS m K c (FrI m c) (12 : Fin 16).val ⊢ _
  refine snt_step m K c (FrI m c) 12 ((by decide +kernel : ∀ c : Dev nD, k0_cond109 c = 1#1 ↔ (12 : Fin 16) ≠ c) c) ?_ ?_ ?_ ?_ ?_
  · intro h; rfl
  · intro h; rfl
  · intro h; rfl
  · intro h; rfl
  change SS m K c (FrI m c) (13 : Fin 16).val ⊢ _
  refine snt_step m K c (FrI m c) 13 ((by decide +kernel : ∀ c : Dev nD, k0_cond110 c = 1#1 ↔ (13 : Fin 16) ≠ c) c) ?_ ?_ ?_ ?_ ?_
  · intro h; rfl
  · intro h; rfl
  · intro h; rfl
  · intro h; rfl
  change SS m K c (FrI m c) (14 : Fin 16).val ⊢ _
  exact ret_eq c

set_option maxHeartbeats 4000000 in
/-- The body, from the state at its start to the state at its end. -/
theorem body_spec : S1 m K c 0 ⊢ WP c (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) xdM (Memref.isWhole_whole _) xrM (Memref.isWhole_whole _) ysM (Memref.isWhole_whole _) yrM (Memref.isWhole_whole _) cc0_scratch4 cc0_scratch5 cc0_scratch6 cc0_scratch7) (fun _ => SS m K c (FrI m c) 16) := by
  rw [cc0_body_eq_skeleton]; unfold cc0_body_skel
  refine run_then c (part28_spec m K c) ?_
  change SS m K c (FrI m c) (14 : Fin 16).val ⊢ _
  refine snt_step m K c (FrI m c) 14 ((by decide +kernel : ∀ c : Dev nD, k0_cond111 c = 1#1 ↔ (14 : Fin 16) ≠ c) c) ?_ ?_ ?_ ?_ ?_
  · intro h; rfl
  · intro h; rfl
  · intro h; rfl
  · intro h; rfl
  change SS m K c (FrI m c) (15 : Fin 16).val ⊢ _
  refine snt_step m K c (FrI m c) 15 ((by decide +kernel : ∀ c : Dev nD, k0_cond112 c = 1#1 ↔ (15 : Fin 16) ≠ c) c) ?_ ?_ ?_ ?_ ?_
  · intro h; rfl
  · intro h; rfl
  · intro h; rfl
  · intro h; rfl
  change SS m K c (FrI m c) 16 ⊢ _
  exact wp_pure' BIBase.Entails.rfl

end Cert.Moe

end
-- ==== Proof.Launch.lean ====
/-
The launch: what each device starts with, the exchange's cells opened for all devices at once and their duties dealt to
those who perform them, and the whole run of the program on sixteen devices.
-/
module

public import proofs.«01_k».proof.Proof.Whole
public import Idealize.ShloMosaic.Lib.Pipeline.CollectiveSegs

@[expose] public section

set_option maxRecDepth 10000

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device starts and ends with -/

/-- What a device owes at launch: a unit to every other device's barrier, and every other device's two landings from it. -/
def O₀ (c : Dev nD) : CellTallies nD τ sig Unit := owed (rem c 0) (rem c 0) (rem c 0) c

/-- A device's own positions and the duties it performs. -/
def lin (c : Dev nD) : sProp 𝕄 :=
  iprop((atPos ER (barCell c) 0 ∅ 0 ∗ BS (att c 0) ∗ BS (att c 1) ∗ BS (att c 2) ∗ BS (att c 3))
    ∗ (BS fun j => dutyTok ER (barCell j) 0 c) ∗ BS (tokD c) ∗ BS (tokR c))
/-- Its credits. -/
def creds (c : Dev nD) : sProp 𝕄 := iprop(cred (tallyAt (barCell c) () 15) ∗ BS (crd c 1) ∗ BS (crd c 3))

def start (c : Dev nD) : sProp 𝕄 := iprop((∃ K, ctx m K ∗ lin c) ∗ creds c)

/-- The four exchange buffers at some contents. -/
def bufs (c : Dev nD) : sProp 𝕄 := iprop((∃ f, xdW c f) ∗ (∃ f, xrW c f) ∗ (∃ f, ysW c f) ∗ (∃ f, yrW c f))

def Φ₀ (c : Dev nD) : sProp 𝕄 := iprop(start m c ∗ bufs c)
def Φ₁ (c : Dev nD) : sProp 𝕄 := iprop((semVal (barCell c) 0 ∗ BS (zro c 0) ∗ BS (zro c 1) ∗ BS (zro c 2) ∗ BS (zro c 3)) ∗ bufs (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xin m c
    | ⟨1, _⟩ => rwin m c
    | ⟨2, _⟩ => gin m c
    | ⟨3, _⟩ => ewin m c
    | ⟨4, _⟩ => swin m c
    | ⟨5, _⟩ => OUT m c
  Φ t := match t with
    | ⟨0, _⟩ => Φ₀ m c
    | ⟨_ + 1, _⟩ => Φ₁ c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body obligation -/

abbrev stage (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t0_0.castSucc
    ∗ (∃ d, stage c cc0_stg0_0 ((dats m ρ 0 c).before (0 : Fin 6) t0_0 d))
    ∗ (∃ d, stage c cc0_stg1_0 ((dats m ρ 0 c).before (1 : Fin 6) t0_0 d))
    ∗ (∃ d, stage c cc0_stg2_0 ((dats m ρ 0 c).before (2 : Fin 6) t0_0 d))
    ∗ (∃ d, stage c cc0_stg3_0 ((dats m ρ 0 c).before (3 : Fin 6) t0_0 d))
    ∗ (∃ d, stage c cc0_stg4_0 ((dats m ρ 0 c).before (4 : Fin 6) t0_0 d))
    ∗ (∃ d, stage c cc0_stg5_0 ((dats m ρ 0 c).before (5 : Fin 6) t0_0 d)))

def bodyPost (c : Dev nD) : sProp 𝕄 :=
  iprop(Φ₁ c ∗ (dats m ρ 0 c).owesAt () t0_0.succ
    ∗ stage c cc0_stg0_0 (xin m c) ∗ stage c cc0_stg1_0 (rwin m c) ∗ stage c cc0_stg2_0 (gin m c)
    ∗ stage c cc0_stg3_0 (ewin m c) ∗ stage c cc0_stg4_0 (swin m c) ∗ stage c cc0_stg5_0 (OUT m c))

theorem bef0 (c : Dev nD) (d) : (dats m ρ 0 c).before (0 : Fin 6) t0_0 d = xin m c := by unfold Dat.before; rw [if_pos (fetch0_0 t0_0)]; rfl
theorem bef1 (c : Dev nD) (d) : (dats m ρ 0 c).before (1 : Fin 6) t0_0 d = rwin m c := by unfold Dat.before; rw [if_pos (fetch0_1 t0_0)]; rfl
theorem bef2 (c : Dev nD) (d) : (dats m ρ 0 c).before (2 : Fin 6) t0_0 d = gin m c := by unfold Dat.before; rw [if_pos (fetch0_2 t0_0)]; rfl
theorem bef3 (c : Dev nD) (d) : (dats m ρ 0 c).before (3 : Fin 6) t0_0 d = ewin m c := by unfold Dat.before; rw [if_pos (fetch0_3 t0_0)]; rfl
theorem bef4 (c : Dev nD) (d) : (dats m ρ 0 c).before (4 : Fin 6) t0_0 d = swin m c := by unfold Dat.before; rw [if_pos (fetch0_4 t0_0)]; rfl

theorem sig_intro (c : Dev nD) (f : ContX F) (g : ContY F) :
    iprop((BS fun j => dutyTok ER (barCell j) 0 c) ∗ xrW c f ∗ yrW c g) ⊢ BS (sigB (F := F) c) := by
  have e : BS (sigB (F := F) c) = iprop((BS fun j => dutyTok ER (barCell j) 0 c) ∗ (BS fun j => iprop(∃ f, xrPts c j f)) ∗ (BS fun j => iprop(∃ f, yrPts c j f))) := by
    unfold sigB barPay; rw [bs_sep, bs_sep]
  rw [e, xr_slots, yr_slots]
  iintro ⟨Ht, Hx, Hy⟩
  isplitl [Ht]; · iexact Ht
  isplitl [Hx]
  · iapply (some_slots (fun d f => xrPts c d f) f); iexact Hx
  · iapply (some_slots (fun d f => yrPts c d f) g); iexact Hy

/-- From what the launch gives a device to the state its body starts from. -/
theorem pre_intro (c : Dev nD) : bodyPre m ρ c ⊢ iprop(∃ K, S1 m K c 0) := by
  unfold bodyPre Φ₀ start bufs creds lin
  simp only [bef0, bef1, bef2, bef3, bef4]
  iintro ⟨⟨⟨⟨%K, Hctx, ⟨HaB, Ha⟩, HtB, HtD, HtR⟩, HcB, HcX, HcY⟩, Hxd, ⟨%fx, Hxr⟩, Hys, ⟨%fy, Hyr⟩⟩, Ho,
    ⟨%d0, %g0, %h0, H0⟩, ⟨%d1, %g1, %h1, H1⟩, ⟨%d2, %g2, %h2, H2⟩, ⟨%d3, %g3, %h3, H3⟩, ⟨%d4, %g4, %h4, H4⟩, ⟨%d5, %g5, %h5, H5⟩⟩
  subst h0 h1 h2 h3 h4
  unfold Dat.owesAt Pipeline.owesWithin
  icases Ho with ⟨%W, %hW, HO⟩
  ihave Hs := (sig_intro (F := F) c fx fy) $$ [HtB Hxr Hyr]
  · isplitl [HtB]; · iexact HtB
    isplitl [Hxr] <;> iassumption
  iexists K
  unfold S1 Ow FA F1 ins inP0 inP1 inP2 inP3 inP4 outJ
  rw [stg_zero]
  isplitl [Hctx]; · iexact Hctx
  isplitr [Hs]
  · isplitl [HO]; · iexists W; iexact HO
    isplitl [HcB]; · iexact HcB
    isplitl [HaB]; · iexact HaB
    isplitl [H0 H1 H2 H3 H4]
    · isplitl [H0]; · iexact H0
      isplitl [H1]; · iexact H1
      isplitl [H2]; · iexact H2
      isplitl [H3]; · iexact H3
      iexact H4
    isplitl [Hxd Hys H5]
    · isplitl [Hxd]; · iexact Hxd
      isplitl [Hys]; · iexact Hys
      iexists g5; iexact H5
    isplitl [HtD HtR]
    · isplitl [HtD] <;> iassumption
    isplitl [HcX HcY]
    · isplitl [HcX] <;> iassumption
    iexact Ha
  iexact Hs

/-- From the state at the body's end to what a device hands back. -/
theorem post_intro (K : CK → ℕ) (c : Dev nD) : SS m K c (FrI m c) 16 ⊢ bodyPost m ρ c := by
  have eS : BS (sntA m c) = iprop((xdW c (XD m c) ∗ BS (zro c 0)) ∗ ysW c (YS m c) ∗ BS (zro c 2)) := by
    unfold sntA; rw [bs_sep, bs_sep, bs_sep, xd_slots, ys_slots]
  have eR : BS (rcvA m c) = iprop(xrW c (XR m c) ∗ BS (zro c 1)) := by
    unfold rcvA; rw [bs_sep, xr_slots]
  unfold SS FrI FI
  rw [stg_end]
  change iprop(ctx m K ∗ Ow iprop(ins m c ∗ outP m c ∗ semVal (barCell c) 0 ∗ BS (rcvA m c) ∗ yrW c (YR m c) ∗ BS (zro c 3)) ∅ ∅ ∅ c ∗ BS (sntA m c)) ⊢ _
  rw [eS, eR]
  unfold bodyPost Φ₁ bufs Dat.owesAt Pipeline.owesWithin Ow ins inP0 inP1 inP2 inP3 inP4 outP
  rw [owed_nil]
  rw [show (dats m ρ 0 c).owed t0_0.succ = 0 from rfl]
  iintro ⟨-, ⟨⟨%W, HO⟩, ⟨H0, H1, H2, H3, H4⟩, H5, HB, ⟨Hxr, Hz1⟩, Hyr, Hz3⟩, ⟨Hxd, Hz0⟩, Hys, Hz2⟩
  isplitl [HB Hz0 Hz1 Hz2 Hz3 Hxr Hyr Hxd Hys]
  · isplitl [HB Hz0 Hz1 Hz2 Hz3]
    · isplitl [HB]; · iexact HB
      isplitl [Hz0]; · iexact Hz0
      isplitl [Hz1]; · iexact Hz1
      isplitl [Hz2]; · iexact Hz2
      iexact Hz3
    isplitl [Hxd]; · iexists _; iexact Hxd
    isplitl [Hxr]; · iexists _; iexact Hxr
    isplitl [Hys]; · iexists _; iexact Hys
    iexists _; iexact Hyr
  isplitl [HO]
  · iexists W
    isplitr; · ipureintro; exact fun _ _ => Or.inl trivial
    iexact HO
  isplitl [H0]; · iexists _; isplitr; · (ipureintro; rfl)
                  iexact H0
  isplitl [H1]; · iexists _; isplitr; · (ipureintro; rfl)
                  iexact H1
  isplitl [H2]; · iexists _; isplitr; · (ipureintro; rfl)
                  iexact H2
  isplitl [H3]; · iexists _; isplitr; · (ipureintro; rfl)
                  iexact H3
  isplitl [H4]; · iexists _; isplitr; · (ipureintro; rfl)
                  iexact H4
  iexists _; isplitr; · (ipureintro; rfl)
  iexact H5

set_option maxHeartbeats 2000000 in
/-- The library's body obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ WP c (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) xdM (Memref.isWhole_whole _) xrM (Memref.isWhole_whole _) ysM (Memref.isWhole_whole _) yrM (Memref.isWhole_whole _) cc0_scratch4 cc0_scratch5 cc0_scratch6 cc0_scratch7) (fun _ => bodyPost m ρ c)
  refine BIBase.Entails.trans (pre_intro m ρ c) ?_
  iintro ⟨%K, H⟩
  iapply wp_wand $$ [H]
  · iapply (body_spec m K c); iexact H
  iintro %r H
  iapply (post_intro m ρ K c); iexact H

/-! ## The launch -/

theorem ownSemFacts : Pipeline.OwnSemFacts cfg0.spec osem :=
  ⟨by decide +kernel, osem_inj, by decide +kernel⟩

theorem share_eq (c : Dev nD) (w : Fin cfg0.W) : (dats m ρ 0 c).share w = fullShare := by unfold Dat.share; split <;> rfl

theorem csem_inj : Function.Injective csem := by
  rintro (_ | p) (_ | q) h
  · rfl
  · exact absurd (congrArg cls h) (by show cls (.reg barS) ≠ cls (osem q); rw [cls_bar, cls_osem]; exact fun h => nomatch h)
  · exact absurd (congrArg cls h) (by show cls (osem p) ≠ cls (.reg barS); rw [cls_bar, cls_osem]; exact fun h => nomatch h)
  · exact congrArg some (osem_inj h)

theorem kcell_inj : Function.Injective (kcell : CK → GSem nD τ sig) := by
  rintro ⟨c, k⟩ ⟨c', k'⟩ h
  have h1 : c = c' := congrArg (fun g : GSem nD τ sig => g.1.1) h
  have h2 : k = k' := csem_inj (congrArg Prod.snd h)
  rw [h1, h2]

def exCells : Finset (GSem nD τ sig) := Finset.univ.map ⟨kcell, kcell_inj⟩

/-- A duty of a device's own cell: of the barrier or of an array, and whose. -/
abbrev tokOf (x : Dev nD × Option (Fin 4) × Fin 16) : GSem nD τ sig × ℕ × Fin 16 :=
  (kcell (x.1, x.2.1.map fun k => (k, x.2.2)), 0, x.2.2)
theorem tokOf_inj : Function.Injective tokOf := by
  rintro ⟨c, o, e⟩ ⟨c', o', e'⟩ h
  have he : e = e' := congrArg (fun x : GSem nD τ sig × ℕ × Fin 16 => x.2.2) h
  have hk := kcell_inj (congrArg Prod.fst h)
  have hc : c = c' := congrArg Prod.fst hk
  have ho : (o.map fun k => (k, e)) = o'.map fun k => (k, e') := congrArg Prod.snd hk
  subst he hc
  cases o <;> cases o'
  · rfl
  · exact nomatch ho
  · exact nomatch ho
  · have := congrArg Prod.fst (Option.some.inj ho)
    exact congrArg (fun v => (c, some v, e)) this
def exToks : Finset (GSem nD τ sig × ℕ × Fin 16) := Finset.univ.map ⟨tokOf, tokOf_inj⟩

def u₀ : UU :=
  (initOf (Pipeline.cells cfgs cellOf_inj) (Pipeline.launchToks cfgs cellOf_inj), initOf exCells exToks)

/-- The duty tokens of device `c`'s own cells. -/
def toks (c : Dev nD) : sProp 𝕄 :=
  iprop((BS fun d => dutyTok ER (barCell c) 0 d) ∗ (BS fun e => dutyTok ER (cell 0 c e) 0 e) ∗ (BS fun e => dutyTok ER (cell 1 c e) 0 e)
    ∗ (BS fun e => dutyTok ER (cell 2 c e) 0 e) ∗ (BS fun e => dutyTok ER (cell 3 c e) 0 e))

abbrev KO : Type := Option (Fin 4 × Fin 16)

/-- What the launch element deals device `c`; what the exchange's opening makes of it. -/
def G (c : Dev nD) : sProp 𝕄 :=
  iprop((bigSep Finset.univ fun k : KO => roundState ER (sched m) (kcell (c, k)) 0)
    ∗ (bigSep Finset.univ fun k : KO => iprop(atPos ER (kcell (c, k)) 0 ∅ 0 ∗ reached ER (kcell (c, k)) 0)) ∗ toks c)

def recs (K : CK → ℕ) : sProp 𝕄 :=
  iprop((bigSep Finset.univ fun ck : CK => cellInv ER (sched m) (K ck) (kcell ck))
    ∗ bigSep Finset.univ fun ck : CK => reached ER (kcell ck) 0)
instance recs_persistent (K : CK → ℕ) : BI.Persistent (recs m K) := by unfold recs; infer_instance

def G' (c : Dev nD) : sProp 𝕄 := iprop(∃ K, recs m K ∗ lin c)

omit [FloatOps F] in
theorem bigSep_o4 (Φ : Option (Fin 4) → sProp 𝕄) : bigSep Finset.univ Φ = iprop(Φ none ∗ Φ (some 0) ∗ Φ (some 1) ∗ Φ (some 2) ∗ Φ (some 3)) :=
  bigSep_univ_eq_bigSepL [none, some 0, some 1, some 2, some 3] (by decide) (by decide) Φ
omit [FloatOps F] in
theorem bigSep_f4 (Φ : Fin 4 → sProp 𝕄) : bigSep Finset.univ Φ = iprop(Φ 0 ∗ Φ 1 ∗ Φ 2 ∗ Φ 3) :=
  bigSep_univ_eq_bigSepL [0, 1, 2, 3] (by decide) (by decide) Φ
omit [FloatOps F] in
/-- A device's cells: the barrier and the four arrays. -/
theorem bigSep_ko (Φ : KO → sProp 𝕄) : bigSep Finset.univ Φ
    = iprop(Φ none ∗ (BS fun e => Φ (some (0, e))) ∗ (BS fun e => Φ (some (1, e))) ∗ (BS fun e => Φ (some (2, e))) ∗ (BS fun e => Φ (some (3, e)))) := by
  have h : (Finset.univ : Finset KO).erase none = Finset.univ.map Function.Embedding.some := by
    ext x; cases x <;> simp
  rw [bigSep_univ_split (none : KO), h, BI.bigSep_map, bigSep_univ_prod (fun p : Fin 4 × Fin 16 => Φ (Function.Embedding.some p)), bigSep_f4]
  rfl

theorem fund_ex : BI.own (ER (initOf exCells exToks)) ⊢ (|==> bigSep Finset.univ (G m) : sProp 𝕄) := by
  have hX (Φ : GSem nD τ sig → sProp 𝕄) : bigSep exCells Φ = bigSep Finset.univ fun c : Dev nD => bigSep Finset.univ fun k : KO => Φ (kcell (c, k)) := by
    unfold exCells; rw [BI.bigSep_map, bigSep_univ_prod]; rfl
  have hT : bigSep exToks (fun x => (dutyTok ER x.1 x.2.1 x.2.2 : sProp 𝕄)) = bigSep Finset.univ fun c : Dev nD => toks c := by
    unfold exToks; rw [BI.bigSep_map, bigSep_univ_prod]
    exact bigSep_congr fun c _ => by unfold toks; rw [bigSep_univ_prod, bigSep_o4]; rfl
  iintro HX
  imod (Rounds.fund ER (sched m) exCells exToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄)
    = iprop(BS (zro c 0) ∗ BS (zro c 1) ∗ BS (zro c 2) ∗ BS (zro c 3)) := by
  unfold Pipeline.ownSems0
  rw [bigSep_univ_prod (fun p : Fin 4 × Fin 16 => (semVal ((c.tc : Thread nD τ), osem p) 0 : sProp 𝕄)), bigSep_f4]
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : KO => semVal (kcell (c, k)) 0 : sProp 𝕄) := by
  rw [ownSems0_eq, unscopedSems0_eq, bigSep_ko]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : KO => semVal (kcell (c, k)) 0) ∗ bigSep Finset.univ fun k : KO => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The duties of device `c`'s peers' cells that `c` performs, and of its own. -/
def payToks (c : Dev nD) : sProp 𝕄 := iprop((BS fun j => dutyTok ER (barCell j) 0 c) ∗ BS (tokD c) ∗ BS (tokR c))

/-- The duties dealt to those who perform them. -/
theorem toks_dealt : (bigSep Finset.univ fun c : Dev nD => (toks c : sProp 𝕄)) ⊢ bigSep Finset.univ fun c : Dev nD => payToks c := by
  have e : ∀ c : Dev nD, (payToks c : sProp 𝕄) = iprop((BS fun j => dutyTok ER (barCell j) 0 c)
      ∗ ((BS fun j => dutyTok ER (cell 1 j c) 0 c) ∗ (BS fun j => dutyTok ER (cell 0 c j) 0 j))
      ∗ ((BS fun j => dutyTok ER (cell 3 j c) 0 c) ∗ (BS fun j => dutyTok ER (cell 2 c j) 0 j))) := fun c => by
    unfold payToks; rw [bs_sep, bs_sep]
  rw [bigSep_congr fun c _ => e c]
  unfold toks
  rw [bigSep_sep', bigSep_sep', bigSep_sep', bigSep_sep', bigSep_sep', bigSep_sep', bigSep_sep', bigSep_sep']
  have h0 := Pipeline.bigSep_univ_comm (fun (c : Dev nD) (d : Fin 16) => (dutyTok ER (barCell c) 0 d : sProp 𝕄))
  have h1 := Pipeline.bigSep_univ_comm (fun (c : Dev nD) (d : Fin 16) => (dutyTok ER (cell 1 c d) 0 d : sProp 𝕄))
  have h3 := Pipeline.bigSep_univ_comm (fun (c : Dev nD) (d : Fin 16) => (dutyTok ER (cell 3 c d) 0 d : sProp 𝕄))
  iintro ⟨HB, H0, H1, H2, H3⟩
  ihave HB := (Entails.of_eq h0) $$ HB
  ihave H1 := (Entails.of_eq h1) $$ H1
  ihave H3 := (Entails.of_eq h3) $$ H3
  isplitl [HB]; · iexact HB
  isplitl [H0 H1]
  · isplitl [H1] <;> iassumption
  isplitl [H3] <;> iassumption

omit [FloatOps F] in
theorem bigSep_with_persistent {I : Type} [DecidableEq I] {S : Finset I} {R : sProp 𝕄} [BI.Persistent R] {A B : I → sProp 𝕄}
    (h : ∀ i ∈ S, iprop(R ∗ A i) ⊢ B i) : iprop(R ∗ bigSep S A) ⊢ bigSep S B :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : CK => iprop(∃ κ : ℕ, cellInv ER (sched m) κ (kcell ck))),
    bigSep_congr (s := Finset.univ) (fun (c : Dev nD) _ => bigSep_sep' Finset.univ (fun k : KO => (atPos ER (kcell (c, k)) 0 ∅ 0 : sProp 𝕄)) (fun k => reached ER (kcell (c, k)) 0)),
    bigSep_sep', ← bigSep_univ_prod (fun ck : CK => (reached ER (kcell ck) 0 : sProp 𝕄))]
  iintro ⟨HI, ⟨Hat, #HR⟩, Htok⟩
  ihave HK := (BI.bigSep_exists_pi Finset.univ (fun (ck : CK) (κ : ℕ) => (cellInv ER (sched m) κ (kcell ck) : sProp 𝕄))) $$ HI
  icases HK with ⟨%K, #HI⟩
  ihave Htk := (toks_dealt (F := F)) $$ Htok
  iapply (bigSep_with_persistent (R := recs m K) (A := lin) fun c _ => show iprop(recs m K ∗ lin c) ⊢ G' m c from some_of (fun K => iprop(recs m K ∗ lin c)) K)
  isplitr
  · unfold recs; isplitl; · iexact HI
    iexact HR
  · iapply ((Entails.of_eq (bigSep_sep' Finset.univ (fun c : Dev nD => bigSep Finset.univ fun k : KO => (atPos ER (kcell (c, k)) 0 ∅ 0 : sProp 𝕄)) payToks).symm).trans
      (bigSep_mono fun c _ => show _ ⊢ lin c from Entails.of_eq (by unfold lin payToks; rw [bigSep_ko])))
    isplitl [Hat]; · iexact Hat
    iexact Htk

/-- All devices' semaphores opened at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem tally_sum {S : Finset (Fin 16)} (f : Fin 16 → GSem nD τ sig) (n : ℕ) (g : GSem nD τ sig) :
    (∑ d ∈ S, tallyAt (f d) () n : CellTallies nD τ sig Unit) g () = ∑ d ∈ S, if g = f d then n else 0 := by
  rw [Finset.sum_apply, Finsupp.finset_sum_apply]
  refine Finset.sum_congr rfl fun d _ => ?_
  rw [tallyAt_apply]
  by_cases h : g = f d
  · rw [if_pos ⟨h, rfl⟩, if_pos h]
  · rw [if_neg fun h' => h h'.1, if_neg h]

theorem cell_eq {k k' : Fin 4} {c c' : Dev nD} {e e' : Fin 16} (h : cell k c e = cell k' c' e') : k = k' ∧ c = c' ∧ e = e' := by
  have h1 : c = c' := congrArg (fun g : GSem nD τ sig => g.1.1) h
  have h2 := osem_inj (congrArg Prod.snd h)
  exact ⟨congrArg Prod.fst h2, h1, congrArg Prod.snd h2⟩
theorem bar_ne_cell {k : Fin 4} {c c' : Dev nD} {e : Fin 16} : barCell c ≠ cell k c' e := fun h =>
  nomatch (kcell_inj (a₁ := (c, none)) (a₂ := (c', some (k, e))) h)

theorem owed_at_bar (d c : Dev nD) : O₀ d (barCell c) () = if d ≠ c then 1 else 0 := by
  unfold O₀ owed
  rw [Pi.add_apply, Finsupp.add_apply, Pi.add_apply, Finsupp.add_apply, tally_sum, tally_sum, tally_sum,
    Finset.sum_eq_zero fun x _ => if_neg bar_ne_cell, Finset.sum_eq_zero fun x _ => if_neg bar_ne_cell, zero_add, zero_add]
  by_cases h : d = c
  · rw [if_neg (fun h' => h' h)]
    refine Finset.sum_eq_zero fun x hx => if_neg fun h' => ?_
    have hx' : x ≠ d := (Finset.mem_filter.mp hx).2.2
    have : c = x := congrArg (fun g : GSem nD τ sig => g.1.1) h'
    exact hx' (this.symm.trans h.symm)
  · have hm : (c : Fin 16) ∈ rem d 0 := Finset.mem_filter.mpr ⟨Finset.mem_univ _, Nat.zero_le _, fun h' => h h'.symm⟩
    rw [if_pos h, Finset.sum_eq_single_of_mem (c : Fin 16) hm
      (fun x _ hx => if_neg fun h' => hx (congrArg (fun g : GSem nD τ sig => g.1.1) h').symm), if_pos rfl]

theorem owed_at_cell (d c : Dev nD) (e : Fin 16) (k : Fin 4) (hk : k = 1 ∨ k = 3) :
    O₀ d (cell k c e) () = if d = e then (if e = c then 0 else NK k) else 0 := by
  have key : ∀ n : ℕ, (∑ x ∈ rem d 0, if cell k c e = cell k x d then n else 0) = if d = e then (if e = c then 0 else n) else 0 := fun n => by
    by_cases h : d = e
    · rw [if_pos h]
      by_cases h2 : e = c
      · rw [if_pos h2]
        refine Finset.sum_eq_zero fun x hx => if_neg fun h' => ?_
        exact (Finset.mem_filter.mp hx).2.2 ((cell_eq h').2.1.symm.trans (h2.symm.trans h.symm))
      · have hm : (c : Fin 16) ∈ rem d 0 := Finset.mem_filter.mpr ⟨Finset.mem_univ _, Nat.zero_le _, fun h' => h2 (h.symm.trans h'.symm)⟩
        rw [if_neg h2, Finset.sum_eq_single_of_mem (c : Fin 16) hm
          (fun x _ hx => if_neg fun h' => hx (cell_eq h').2.1.symm), if_pos (by rw [h])]
    · rw [if_neg h]
      exact Finset.sum_eq_zero fun x _ => if_neg fun h' => h (cell_eq h').2.2.symm
  unfold O₀ owed
  rw [Pi.add_apply, Finsupp.add_apply, Pi.add_apply, Finsupp.add_apply, tally_sum, tally_sum, tally_sum,
    Finset.sum_eq_zero (s := rem d 0) (f := fun x => if cell k c e = barCell x then 1 else 0) fun x _ => if_neg fun h => bar_ne_cell h.symm, add_zero]
  rcases hk with rfl | rfl
  · rw [Finset.sum_eq_zero (f := fun x => if cell 1 c e = cell 3 x d then NY else 0) fun x _ => if_neg fun h => absurd (cell_eq h).1 (by decide), zero_add, key]
    rfl
  · rw [Finset.sum_eq_zero (f := fun x => if cell 3 c e = cell 1 x d then NX else 0) fun x _ => if_neg fun h => absurd (cell_eq h).1 (by decide), add_zero, key]
    rfl

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_at_bar d c]
  revert c; decide

theorem launch_cell (c : Dev nD) (e : Fin 16) (k : Fin 4) (hk : k = 1 ∨ k = 3) (h : e ≠ c) :
    tallyOn (cell k c e) (launchCredit (Pipeline.owing O₀) 0 (cell k c e)) = (tallyAt (cell k c e) () (NK k) : CellTallies nD τ sig Unit) := by
  unfold tallyAt; refine congrArg _ (Finsupp.ext fun u => ?_); cases u
  rw [Pipeline.launchCredit_owing, Finsupp.single_eq_same, Finset.sum_congr rfl fun d _ => owed_at_cell d c e k hk,
    Finset.sum_ite_eq' Finset.univ (e : Dev nD) fun _ => if e = c then 0 else NK k, if_pos (Finset.mem_univ _), if_neg h]

omit [FloatOps F] in
theorem drop_all (P : sProp 𝕄) : P ⊢ iprop(emp) := by iintro -; iempintro

omit [FloatOps F] in
theorem crd_intro (c : Dev nD) (k : Fin 4) (hk : k = 1 ∨ k = 3) :
    (BS fun e => (cred (tallyOn (cell k c e) (launchCredit (Pipeline.owing O₀) 0 (cell k c e))) : sProp 𝕄)) ⊢ BS (crd c k) :=
  bigSep_mono fun e _ => show (cred (tallyOn (cell k c e) (launchCredit (Pipeline.owing O₀) 0 (cell k c e))) : sProp 𝕄) ⊢ crd c k e from by
    unfold crd
    by_cases h : e = c
    · rw [if_pos h]; iintro -; iempintro
    · rw [if_neg h, launch_cell c e k hk h]

omit [FloatOps F] in
theorem creds_intro (c : Dev nD) : (Pipeline.launchCred O₀ c : sProp 𝕄) ⊢ creds c := by
  unfold Pipeline.launchCred
  refine BIBase.Entails.trans (Idealize.SL.BI.bigSep_subset (Finset.subset_univ (Finset.univ.map ⟨csem, csem_inj⟩))) ?_
  rw [BI.bigSep_map, bigSep_ko]
  unfold creds
  rw [← launch_bar]
  iintro ⟨HB, -, H1, -, H3⟩
  isplitl [HB]; · iexact HB
  isplitl [H1]; · iapply (crd_intro (F := F) c 1 (Or.inl rfl)); iexact H1
  iapply (crd_intro (F := F) c 3 (Or.inr rfl)); iexact H3

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold G' recs
  iintro ⟨-, Hlev, Hcr, -, ⟨%K, ⟨HI, HR⟩, HG⟩⟩
  ihave Hc := (creds_intro (F := F) c) $$ Hcr
  imodintro
  unfold start ctx
  isplitl
  · isplitr [Hc]
    · iexists K
      isplitr [HG]
      · isplitl [HI]; · iexact HI
        isplitl [HR]; · iexact HR
        iexact Hlev
      iexact HG
    iexact Hc
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ bufs xdW xrW ysW yrW
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ bufs xdW xrW ysW yrW
  iintro ⟨⟨HB, HS⟩, Hr⟩
  isplitl [HB]; · iexact HB
  isplitl [HS]; · iexact HS
  iexact Hr

theorem lv_stage (c : Dev nD) (w : Fin cfg0.W) (s : Fin (cfg0.win w).nbuf) : lv ((c : Thread nD τ), .dma ((cfg0.win w).sem s)) () ≤ 0 := by
  have h : cls (.dma ((cfg0.win w).sem s)) = none := by revert w; decide
  unfold lv; rw [h]

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_of (rem c 0) (rem c 0) (rem c 0) c _ 0 (lv_stage c w s) (Or.inr (by decide)) (Or.inr (by decide)) (Or.inr (by decide))
    · have h := mayWait_of (F := F) ∅ ∅ ∅ c _ 0 (lv_stage c w s) (Or.inl rfl) (Or.inl rfl) (Or.inl rfl)
      rw [owed_nil] at h
      exact h

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- On sixteen devices, for any float values, from any memory with zero counters: every weakly fair run of the program
    ends, with each device's six arrays at the contents computed and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ex m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Moe

end
-- ==== Proof.Result.lean ====
/-
What the run of the program leaves: its arguments as they were, its counters at zero, and its result.
-/
module

public import proofs.«01_k».proof.Defs
public import proofs.«01_k».proof.Proof.Launch
public import Idealize.ShloMosaic.Lib.Pipeline.ValueKit

@[expose] public section

set_option maxRecDepth 16384

noncomputable section

namespace Cert.Moe

open Idealize.ShloMosaic Idealize.ShloMosaic.TcCoe Idealize.SL.Sem
open Cert.KernelIdeal Cert.KernelIdeal.Gen

variable {F : FTy → Type} [FloatOps F] (m : (ℓ : Loc nD τ sig) → Buf (Elt F) ℓ) (ρ : Dev nD → PrngReg)

/-- The result array at the end: the block written back is the whole array. -/
theorem final_out (c : Dev nD) : finalA m ρ c 5 = OUT m c := by
  unfold finalA
  refine (dats m ρ 0 c).arrAt_eq_of_after_last 5 t0_0 (by decide +kernel) _ fun j => ?_
  blk_simp
  rfl

/-- The program's arguments end as they started and its result array at `OUT`. -/
theorem run_full : θ_run defs (onTc (τ := τ) (main (F := F))) ⟨m, fun _ => 0, ρ⟩ (fun r => (∀ c : Dev nD,
      r.2.mem ((c.tc : Thread nD τ).loc main_v1) = OUT m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
      ⟨(h.1 c 5).trans (final_out m ρ c),
        (h.1 c 0).trans ((dats m ρ 0 c).arrAt_in 0 rfl _),
        (h.1 c 1).trans ((dats m ρ 0 c).arrAt_in 1 rfl _),
        (h.1 c 2).trans ((dats m ρ 0 c).arrAt_in 2 rfl _),
        (h.1 c 3).trans ((dats m ρ 0 c).arrAt_in 3 rfl _),
        (h.1 c 4).trans ((dats m ρ 0 c).arrAt_in 4 rfl _)⟩, h.2⟩) (run_main m ρ)

/-- The frame of the program over extended reals. -/
theorem frame_ideal : Cert.quiescent_KernelIdeal := fun m ρ _ =>
  (θ_run Cert.KernelIdeal.defs _ _).mono (fun r h => ⟨fun c => (h.1 c).2, h.2⟩) (run_full (F := Ideal) m ρ)

end Cert.Moe

end
-- ==== Proof.FrameBits.lean ====
/-
The frame of the program over bits: its text is the text of the program over extended reals, so the one run serves both.
-/
module

public import proofs.«01_k».proof.Proof.Result
public import proofs.«01_k».proof.Proof.Gen.Kernel

@[expose] public section

set_option maxRecDepth 16384

noncomputable section

namespace Cert.Moe

open Idealize.ShloMosaic Idealize.ShloMosaic.TcCoe Idealize.SL.Sem

theorem main_same : Cert.Kernel.main (F := Bits) = Cert.KernelIdeal.main (F := Bits) := by sl_kernel_rfl
theorem defs_same : Cert.Kernel.defs (F := Bits) = Cert.KernelIdeal.defs (F := Bits) := by sl_kernel_rfl

/-- The frame of the program over bits. -/
theorem frame_kernel : Cert.quiescent_Kernel := fun m ρ _ => by
  rw [main_same, defs_same]
  exact (θ_run Cert.KernelIdeal.defs _ _).mono (fun r h => ⟨fun c => (h.1 c).2, h.2⟩) (run_full (F := Bits) m ρ)

end Cert.Moe

end
-- ==== Proof.RefFrame.lean ====
/-
The frame of the reference: a program of host operations, which declares no semaphore.
-/
module

public import proofs.«01_k».proof.Defs
public import proofs.«01_k».proof.Proof.Gen.ReferenceIdeal.Run
public import Idealize.ShloMosaic.Lib.Quiescent

@[expose] public section

noncomputable section

namespace Cert.Moe

open Idealize.ShloMosaic Idealize.ShloMosaic.TcCoe Idealize.SL.Sem

/-- The frame of the reference. -/
theorem frame_ref : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

end Cert.Moe

end
-- ==== Proof.KVal.lean ====
/-
Where the kernel puts each row, over extended reals: the chosen device, the row's place among the rows for that device, and the 0/1 matrix that moves
rows to their slots.
-/
module

public import proofs.«01_k».proof.Proof.Protocol
public import Idealize.ShloMosaic.Lib.Pointwise

@[expose] public section

set_option maxRecDepth 16384

noncomputable section

namespace Cert.Moe

open Idealize.ShloMosaic Idealize.SL.Sem
open Cert.KernelIdeal Cert.KernelIdeal.Gen

section Places
variable (N : Fin 512 → Fin 64)

/-- The device that holds row `t`'s expert, and the expert's number there. -/
def devOf (t : Fin 512) : Fin 16 := ⟨(N t).val / 4, by have := (N t).isLt; omega⟩
def numOf (t : Fin 512) : Fin 4 := ⟨(N t).val % 4, by omega⟩
/-- How many earlier rows go to the same device. -/
def rankOf (t : Fin 512) : Nat := (Finset.univ.filter fun s : Fin 512 => s < t ∧ devOf N s = devOf N t).card
/-- No device is sent more rows than it has slots for. -/
def Fits : Prop := ∀ d : Fin 16, (Finset.univ.filter fun s : Fin 512 => devOf N s = d).card ≤ 96

variable {N}

/-- A row's rank is below the number of slots when the rows fit. -/
theorem rank_lt (hf : Fits N) (t : Fin 512) : rankOf N t < 96 := by
  refine lt_of_lt_of_le (Finset.card_lt_card ?_) (hf (devOf N t))
  refine (Finset.ssubset_iff_of_subset fun s hs => ?_).2 ⟨t, by simp, by simp⟩
  have := (Finset.mem_filter.1 hs).2.2
  simpa using this

/-- Ranks grow along the rows of one device. -/
theorem rank_mono {s t : Fin 512} (hst : s < t) (hd : devOf N s = devOf N t) : rankOf N s < rankOf N t := by
  refine Finset.card_lt_card ((Finset.ssubset_iff_of_subset fun r hr => ?_).2 ⟨s, ?_, ?_⟩)
  · have h := (Finset.mem_filter.1 hr).2
    exact Finset.mem_filter.2 ⟨Finset.mem_univ _, h.1.trans hst, h.2.trans hd⟩
  · exact Finset.mem_filter.2 ⟨Finset.mem_univ _, hst, hd⟩
  · simp

/-- The slot of row `t`: the device's block of 96 slots, the rank inside it. -/
def slotOf (hf : Fits N) (t : Fin 512) : Fin 1536 := ⟨(devOf N t).val * 96 + rankOf N t, by have := rank_lt hf t; have := (devOf N t).isLt; omega⟩

/-- Two rows never share a slot. -/
theorem slot_inj (hf : Fits N) {s t : Fin 512} (h : slotOf hf s = slotOf hf t) : s = t := by
  have hv : (devOf N s).val * 96 + rankOf N s = (devOf N t).val * 96 + rankOf N t := congrArg Fin.val h
  have h1 := rank_lt hf s
  have h2 := rank_lt hf t
  have hd : devOf N s = devOf N t := Fin.ext (by omega)
  have hr : rankOf N s = rankOf N t := by rw [hd] at hv; omega
  rcases lt_trichotomy s t with hlt | heq | hlt
  · have := rank_mono hlt hd; omega
  · exact heq
  · have := rank_mono hlt hd.symm; omega

end Places

/-- Dividing an expert's number by four, rounding down, is the device that holds it. -/
theorem quot_word : ∀ n : Fin 64, Scalar.select (IntOp.andi
      (IntOp.cmpi .ne (IntOp.subi (BitVec.setWidth 32 (IntOp.cmpi .sgt (BitVec.ofNat 32 n.val) 0#32)) (BitVec.setWidth 32 (IntOp.cmpi .slt (BitVec.ofNat 32 n.val) 0#32))) (Scalar.subi (Scalar.extui (Scalar.cmpi .sgt 4#32 0#32)) (Scalar.extui (Scalar.cmpi .slt 4#32 0#32))))
      (IntOp.cmpi .ne (IntOp.remsi ArithUnit.vector (BitVec.ofNat 32 n.val) 4#32) 0#32))
      (IntOp.subi (IntOp.divsi ArithUnit.vector (BitVec.ofNat 32 n.val) 4#32) 1#32) (IntOp.divsi ArithUnit.vector (BitVec.ofNat 32 n.val) 4#32) = BitVec.ofNat 32 (n.val / 4) := by
  decide

/-- A choice by a bit that is one. -/
theorem sel_one {α : Type} {c : BitVec 1} (h : c = 1#1) (a b : α) : Scalar.select c a b = a := if_pos h
/-- A choice by a bit that is not one. -/
theorem sel_not {α : Type} {c : BitVec 1} (h : ¬ c = 1#1) (a b : α) : Scalar.select c a b = b := if_neg h

/-- The bit of an equality of words is one just when they are equal. -/
theorem cmpi_eq_one {a b : BitVec 32} : IntOp.cmpi .eq a b = 1#1 ↔ a = b := by
  simp only [IntOp.cmpi]
  by_cases h : a = b
  · simp [h]
  · rw [beq_eq_false_iff_ne.2 h]
    exact ⟨fun hc => absurd hc (by decide), fun hc => absurd hc h⟩
/-- One row index is signed above another just when it is above it. -/
theorem cmpi_gt_one {s t : Fin 512} : IntOp.cmpi .sgt (BitVec.ofNat 32 t.val) (BitVec.ofNat 32 s.val) = 1#1 ↔ s < t := by
  have h (a : Fin 512) : (BitVec.ofNat 32 a.val).toInt = a.val := by
    rw [BitVec.toInt_eq_toNat_of_lt] <;> simp only [BitVec.toNat_ofNat] <;> omega
  simp only [IntOp.cmpi, BitVec.slt, h, Fin.lt_def]
  by_cases hst : s.val < t.val <;> simp [hst]

variable {N : Fin 512 → Fin 64} {g : Vec Ideal S512x1 .i32}

/-- The device column reads the device of each row. -/
theorem dest_apply (hg : ∀ t : Fin 512, g (ix2 t 0) = BitVec.ofNat 32 (N t).val) (t : Fin 512) :
    destOf (F := Ideal) g (ix2 t 0) = BitVec.ofNat 32 (devOf N t).val := by
  pointwise [destOf, k0_pay5, k0_pay1, k0_pay2, k0_pay3, k0_pay4]
  rw [hg t]
  exact quot_word (N t)

/-- The 0/1 table of row by device. -/
theorem oh_apply (hg : ∀ t : Fin 512, g (ix2 t 0) = BitVec.ofNat 32 (N t).val) (t : Fin 512) (d : Fin 16) :
    ohOf (F := Ideal) g (ix2 t d) = if devOf N t = d then 1 else 0 := by
  have h := dest_apply hg t
  rw [destOf] at h
  pointwise [ohOf, k0_pay8]
  rw [h]
  by_cases hd : devOf N t = d
  · rw [if_pos hd, sel_one (cmpi_eq_one.2 (by rw [hd]))]
  · rw [if_neg hd, sel_not]
    intro hc
    have := congrArg BitVec.toNat (cmpi_eq_one.1 hc)
    simp only [BitVec.toNat_ofNat] at this
    exact hd (Fin.ext (by have := d.isLt; have := (devOf N t).isLt; omega))

/-- Row `t`'s count of the earlier rows for its device, as the sum the kernel takes. -/
theorem rank_sum (hg : ∀ t : Fin 512, g (ix2 t 0) = BitVec.ofNat 32 (N t).val) (t : Fin 512) :
    ∑ d : Fin 16, ohOf (F := Ideal) g (ix2 t d) * ∑ s : Fin 512, Scalar.select (IntOp.cmpi .sgt (BitVec.ofNat 32 t.val) (BitVec.ofNat 32 s.val)) (ohOf (F := Ideal) g (ix2 s d)) 0
      = ((rankOf N t : ℝ) : EReal) := by
  rw [Finset.sum_eq_single (devOf N t)]
  · rw [oh_apply hg, if_pos rfl, one_mul]
    have : ∀ s : Fin 512, Scalar.select (IntOp.cmpi .sgt (BitVec.ofNat 32 t.val) (BitVec.ofNat 32 s.val)) (ohOf (F := Ideal) g (ix2 s (devOf N t))) 0
        = if s < t ∧ devOf N s = devOf N t then (1 : EReal) else 0 := by
      intro s
      rw [oh_apply hg]
      by_cases hst : s < t
      · rw [sel_one (cmpi_gt_one.2 hst)]; simp [hst]
      · rw [sel_not (fun hc => hst (cmpi_gt_one.1 hc))]; simp [hst]
    rw [Finset.sum_congr rfl fun s _ => this s, ← Finset.sum_filter, Finset.sum_const, EReal.nsmul_eq_mul, mul_one, rankOf]
    norm_cast
  · intro d _ hd
    rw [oh_apply hg, if_neg (Ne.symm hd), zero_mul]
  · intro h; exact absurd (Finset.mem_univ _) h

/-- A small natural number turned into a word and back is itself. -/
theorem word_of_nat (r : Nat) (hr : r < 2 ^ 31) : Ideal.fptosi 32 ((r : ℝ) : EReal) = BitVec.ofNat 32 r := by
  rw [Ideal.fptosi, Ideal.toIntClamped_coe, if_pos (Nat.cast_nonneg r), Int.floor_natCast]
  have h : max (-((2 ^ (32 - 1) : Nat) : Int)) (min (((2 ^ (32 - 1) : Nat) : Int) - 1) (r : Int)) = (r : Int) := by
    have : (r : Int) < 2 ^ 31 := by exact_mod_cast hr
    omega
  rw [h, BitVec.ofInt_natCast]

/-- The moving matrix: row `t` meets slot `q` with a one just when `q` is its slot. -/
theorem p_apply (hg : ∀ t : Fin 512, g (ix2 t 0) = BitVec.ofNat 32 (N t).val) (hf : Fits N) (t : Fin 512) (q : Fin 1536) :
    pOf (F := Ideal) g (ix2 t q) = if q = slotOf hf t then 1 else 0 := by
  have hd := dest_apply hg t
  have hr := rank_sum hg t
  generalize hoh : ohOf (F := Ideal) g = oh at hr
  pointwise [pOf, k0_pay9, rowI]
  rw [hoh, hd]
  rw [hr]
  have hk := rank_lt hf t
  have hw : IntOp.addi (IntOp.muli (BitVec.ofNat 32 (devOf N t).val) 96#32) (FloatOps.fptosi (F := Ideal) (φ := .f32) 32 ((rankOf N t : ℝ) : EReal)) = BitVec.ofNat 32 (slotOf hf t).val := by
    refine (congrArg _ (word_of_nat _ (by omega))).trans (BitVec.eq_of_toNat_eq ?_)
    have := (devOf N t).isLt
    simp only [IntOp.addi, IntOp.muli, BitVec.toNat_add, BitVec.toNat_mul, BitVec.toNat_ofNat, slotOf]
    omega
  rw [hw]
  by_cases hq : q = slotOf hf t
  · rw [if_pos hq, sel_one (cmpi_eq_one.2 (by rw [hq]))]
  · rw [if_neg hq, sel_not]
    intro hc
    have := congrArg BitVec.toNat (cmpi_eq_one.1 hc)
    simp only [BitVec.toNat_ofNat] at this
    exact hq (Fin.ext (by have := q.isLt; have := (slotOf hf t).isLt; omega))

end Cert.Moe

end
-- ==== Proof.Capacity.lean ====
/-
What the precondition says of a device's choices of expert: each is one of the 64, and no device is chosen by more than 96 of the 512 rows.
-/
module

public import proofs.«01_k».proof.Proof.KVal
public import proofs.«01_k».proof.Proof.Gen.Pre_within_capacity_KernelIdeal
public import Idealize.ShloMosaic.Lib.StableHlo.Predicate

@[expose] public section

set_option maxRecDepth 16384

noncomputable section

namespace Cert.Moe

open Idealize.ShloMosaic Idealize.SL.Sem
open Cert.Pre_within_capacity_KernelIdeal Cert.Pre_within_capacity_KernelIdeal.Gen

/-- The precondition's quotient of a choice by four, rounding down. -/
def quotBy4 (w : BitVec 32) : BitVec 32 :=
  Scalar.select (IntOp.andi
      (IntOp.cmpi .ne (if w = 0 then 0 else if w.msb = true then -1 else 1) (if 4#32 = 0 then 0 else if (4#32).msb = true then -1 else 1 : BitVec 32))
      (IntOp.cmpi .ne (IntOp.remsi ArithUnit.host w 4#32) 0#32))
    (IntOp.subi (IntOp.divsi ArithUnit.host w 4#32) 1#32) (IntOp.divsi ArithUnit.host w 4#32)

/-- On an expert's number it is the number of the device that holds the expert. -/
theorem quotBy4_word : ∀ n : Fin 64, quotBy4 (BitVec.ofNat 32 n.val) = BitVec.ofNat 32 (n.val / 4) := by
  unfold quotBy4
  decide

variable (x : FVec Ideal S512x256 .bf16) (rw : FVec Ideal S256x64 .bf16) (g : IVec S512x1 32) (ew : FVec Ideal S4x256x512 .bf16) (sw : FVec Ideal S256x512 .bf16)

/-- The precondition's bit for row `t` and device `d`: the choice is in range, and the rows for `d` are at most 96. -/
theorem bit_apply (t : Fin 512) (d : Fin 16) : fn (F := Ideal) x rw g ew sw (ix2 t d)
    = IntOp.andi (IntOp.andi (IntOp.cmpi .sge (g (ix2 t 0)) 0#32) (IntOp.cmpi .slt (g (ix2 t 0)) 64#32))
        (IntOp.cmpi .sle (Finset.fold IntOp.addi (0#32) (fun s : Fin 512 => BitVec.setWidth 32 (IntOp.cmpi .eq (quotBy4 (g (ix2 s 0))) (BitVec.ofNat 32 d.val))) Finset.univ) 96#32) := by
  simp only [fn, fn_floor_divide, fn_where]
  pointwise []
  rfl

/-- A conjunction of bits that is one has both bits one. -/
theorem and_one : ∀ a b : BitVec 1, IntOp.andi a b = 1#1 → a = 1#1 ∧ b = 1#1 := by decide

/-- A word that is at least 0 and below 64, signed, is below 64. -/
theorem word_range {w : BitVec 32} (h0 : IntOp.cmpi .sge w 0#32 = 1#1) (h1 : IntOp.cmpi .slt w 64#32 = 1#1) : w.toNat < 64 := by
  simp only [IntOp.cmpi, StableHlo.Predicate.ofBool_eq_one_iff, BitVec.sle, BitVec.slt, decide_eq_true_eq] at h0 h1
  have e0 : (0#32).toInt = 0 := by decide
  have e1 : (64#32).toInt = 64 := by decide
  rw [e0] at h0
  rw [e1] at h1
  have hw := BitVec.toInt_eq_toNat_cond w
  have := w.isLt
  split at hw <;> omega

/-- Under the precondition the choices are experts, and no device gets more rows than it has slots for. -/
theorem choices (h : fn (F := Ideal) x rw g ew sw = fun _ => 1#1) :
    ∃ N : Fin 512 → Fin 64, (∀ t : Fin 512, g (ix2 t 0) = BitVec.ofNat 32 (N t).val) ∧ Fits N := by
  have hb (t : Fin 512) (d : Fin 16) := and_one _ _ ((bit_apply x rw g ew sw t d).symm.trans (congrFun h (ix2 t d)))
  have hr (t : Fin 512) := and_one _ _ (hb t 0).1
  refine ⟨fun t => ⟨(g (ix2 t 0)).toNat, word_range (hr t).1 (hr t).2⟩, fun t => by simp, fun d => ?_⟩
  have hc := (hb 0 d).2
  have hbit (s : Fin 512) : (BitVec.setWidth 32 (IntOp.cmpi .eq (quotBy4 (g (ix2 s 0))) (BitVec.ofNat 32 d.val))).toNat
      = if (g (ix2 s 0)).toNat / 4 = d.val then 1 else 0 := by
    have hs := word_range (hr s).1 (hr s).2
    have hq := quotBy4_word ⟨(g (ix2 s 0)).toNat, hs⟩
    rw [show BitVec.ofNat 32 (Fin.val ⟨(g (ix2 s 0)).toNat, hs⟩) = g (ix2 s 0) by simp] at hq
    rw [hq, StableHlo.Predicate.toNat_setWidth_bit]
    refine if_congr (cmpi_eq_one.trans ⟨fun e => ?_, fun e => ?_⟩) rfl rfl
    · have := congrArg BitVec.toNat e
      simp only [BitVec.toNat_ofNat] at this
      have := d.isLt
      omega
    · rw [← e]
  have hsum : ∑ s : Fin 512, (BitVec.setWidth 32 (IntOp.cmpi .eq (quotBy4 (g (ix2 s 0))) (BitVec.ofNat 32 d.val))).toNat
      = (Finset.univ.filter fun s : Fin 512 => (g (ix2 s 0)).toNat / 4 = d.val).card := by
    rw [Finset.card_filter]; exact Finset.sum_congr rfl fun s _ => hbit s
  have hle : (Finset.univ.filter fun s : Fin 512 => (g (ix2 s 0)).toNat / 4 = d.val).card ≤ 512 := (Finset.card_le_univ _).trans (by simp)
  have hf := StableHlo.Predicate.toNat_fold_addi Finset.univ (fun s : Fin 512 => BitVec.setWidth 32 (IntOp.cmpi .eq (quotBy4 (g (ix2 s 0))) (BitVec.ofNat 32 d.val))) (by rw [hsum]; omega)
  rw [hsum] at hf
  have h96 := (StableHlo.Predicate.sle_iff_toNat (by rw [hf]; omega) (by decide)).1 hc
  rw [hf] at h96
  refine le_trans (le_of_eq (congrArg Finset.card (Finset.filter_congr fun s _ => ?_))) h96
  exact Fin.ext_iff

end Cert.Moe

end
-- ==== Proof.RVal.lean ====
/-
The reference's result at an index, over extended reals.
-/
module

public import proofs.«01_k».proof.Proof.Gen.ReferenceIdeal.Run
public import Idealize.ShloMosaic.Lib.Pointwise

@[expose] public section

set_option maxRecDepth 16384

noncomputable section

namespace Cert.Moe

open Idealize.ShloMosaic Idealize.SL.Sem
open Cert.ReferenceIdeal Cert.ReferenceIdeal.Gen

section Terms
variable (X : FVec Ideal S8192x256 .bf16) (RW : FVec Ideal S256x64 .bf16) (G : IVec S8192x1 32) (W : FVec Ideal S64x256x512 .bf16) (SW : FVec Ideal S256x512 .bf16)

/-- The router's scores, the softmax of each row, the choice of expert as the column and as the vector that index with it. -/
def refScores : FVec Ideal S8192x64 .f32 :=
  Host.dotGeneral dot_S8192x256_S256x64_S8192x64_1_0_0_1_n_n none (extf .f32 X bitsLt_bf16_f32) (extf .f32 RW bitsLt_bf16_f32)
def refExp : FVec Ideal S8192x64 .f32 :=
  Host.exp (subf (refScores X RW) (broadcastInDim S8192x64 ![0, 1] bcast_S8192x1_S8192x64_0_1 (broadcastInDim S8192x1 ![0] bcast_S8192_S8192x1_0
    (Host.reduce FloatOps.maximumf (refScores X RW) (constant S_ .f32 0xFF800000#32) reducesTo_S8192x64_S8192_d1 h_S_))))
def refProbs : FVec Ideal S8192x64 .f32 :=
  Host.divf (refExp X RW) (broadcastInDim S8192x64 ![0, 1] bcast_S8192x1_S8192x64_0_1 (broadcastInDim S8192x1 ![0] bcast_S8192_S8192x1_0
    (Host.reduceAdd (refExp X RW) (constant S_ .f32 0x00000000#32) reducesTo_S8192x64_S8192_d1 h_S_)))
def refCol : IVec S8192x1x1 32 :=
  shapeCast _ (select (cmpi .slt G (broadcastInDim S8192x1 ![] bcast_S_S8192x1 (constantI S_ 32 0#32)))
    (addi G (broadcastInDim S8192x1 ![] bcast_S_S8192x1 (constantI S_ 32 64#32))) G) shapeCasts_S8192x1_S8192x1x1
def refVec : IVec S8192x1 32 :=
  broadcastInDim S8192x1 ![0] bcast_S8192_S8192x1_0 (select (cmpi .slt (shapeCast _ G shapeCasts_S8192x1_S8192) (broadcastInDim S8192 ![] bcast_S_S8192 (constantI S_ 32 0#32)))
    (addi (shapeCast _ G shapeCasts_S8192x1_S8192) (broadcastInDim S8192 ![] bcast_S_S8192 (constantI S_ 32 64#32))) (shapeCast _ G shapeCasts_S8192x1_S8192))
/-- Whether the chosen column is one of the 64; the softmax there; the chosen expert's matrix; the sum. -/
def refOk : IVec S8192x1 1 :=
  Host.reduce IntOp.andi (andi (cmpi .sge (refCol G) (broadcastInDim S8192x1x1 ![] bcast_S_S8192x1x1 (constantI S_ 32 0#32)))
    (cmpi .sle (refCol G) (broadcastInDim S8192x1x1 ![0, 1, 2] bcast_S1x1x1_S8192x1x1_0_1_2 (broadcastInDim S1x1x1 ![2] bcast_S1_S1x1x1_2 (constantI S1 32 63#32)))))
    (constantI S_ 1 1#1) reducesTo_S8192x1x1_S8192x1_d2 h_S_
def refGate : FVec Ideal S8192x1 .f32 := Host.gather gather_S8192x64_S8192x1x1_S8192x1_n_1_0_0_1_2_11 (refProbs X RW) (refCol G)
def refMat : FVec Ideal S8192x256x512 .bf16 := Host.gather gather_S64x256x512_S8192x1_S8192x256x512_12_0_n_n_0_1_1256512 W (refVec G)
def refOf : FVec Ideal S8192x512 .f32 :=
  addf (Host.dotGeneral dot_S8192x256_S256x512_S8192x512_1_0_0_1_n_n none (extf .f32 X bitsLt_bf16_f32) (extf .f32 SW bitsLt_bf16_f32))
    (mulf (broadcastInDim S8192x512 ![0, 1] bcast_S8192x1_S8192x512_0_1
        (select (refOk G) (refGate X RW G) (broadcastInDim S8192x1 ![] bcast_S_S8192x1 (constant S_ .f32 0x7FC00000#32))))
      (Host.dotGeneral dot_S8192x256_S8192x256x512_S8192x512_1_1_n_2_0_0 none (extf .f32 X bitsLt_bf16_f32) (extf .f32 (refMat G W) bitsLt_bf16_f32)))
end Terms

section Run
open Idealize.ShloMosaic.TcCoe
/-- The reference's run: its result at `refOf` of its arguments, its arguments unchanged. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v27)
          = refOf (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Cert.ReferenceIdeal.Value.run (F := Ideal) m ρ
end Run

/-- The softmax of a row of 64 scores at one of them. -/
def rowProb (s : Fin 64 → EReal) (e : Fin 64) : EReal :=
  Ideal.div (Ideal.exp (s e - Finset.fold max (Ideal.ofBits FTy.f32 0xFF800000#32) s Finset.univ))
    (∑ k, Ideal.exp (s k - Finset.fold max (Ideal.ofBits FTy.f32 0xFF800000#32) s Finset.univ))

section Reads
variable (X : FVec Ideal S8192x256 .bf16) (RW : FVec Ideal S256x64 .bf16) (G : IVec S8192x1 32) (W : FVec Ideal S64x256x512 .bf16) (SW : FVec Ideal S256x512 .bf16)

/-- An expert's number is not negative, so it is not wrapped. -/
theorem wrap_word : ∀ n : Fin 64, Scalar.select (IntOp.cmpi CmpIPredicate.slt (BitVec.ofNat 32 n.val) 0#32)
    (IntOp.addi (BitVec.ofNat 32 n.val) 64#32) (BitVec.ofNat 32 n.val) = BitVec.ofNat 32 n.val := by decide
/-- An expert's number is between 0 and 63. -/
theorem range_word : ∀ n : Fin 64, IntOp.andi (IntOp.andi (IntOp.cmpi CmpIPredicate.sge (BitVec.ofNat 32 n.val) 0#32)
    (IntOp.cmpi CmpIPredicate.sle (BitVec.ofNat 32 n.val) 63#32)) 1#1 = 1#1 := by decide
/-- An expert's number clamped to 63 is itself. -/
theorem clamp_word : ∀ n : Fin 64, min (BitVec.ofNat 32 n.val).toInt.toNat 63 = n.val := by decide

/-- The reference's softmax at a row and a column. -/
theorem refProbs_apply (t : Fin 8192) (e : Fin 64) :
    refProbs X RW (ix2 t e) = rowProb (fun k => ∑ j, X (ix2 t j) * RW (ix2 j k)) e := by
  pointwise [refProbs, refExp, refScores]
  rfl

variable {G} {t : Fin 8192} {n : Fin 64} (hG : G (ix2 t 0) = BitVec.ofNat 32 n.val)
include hG

/-- The index column reads the row's expert. -/
theorem refCol_apply : refCol G (ix3 t 0 0) = BitVec.ofNat 32 n.val := by
  pointwise [refCol]; rw [hG]; exact wrap_word n
/-- The index vector reads the row's expert. -/
theorem refVec_apply : refVec G (ix2 t 0) = BitVec.ofNat 32 n.val := by
  pointwise [refVec]; rw [hG]; exact wrap_word n
/-- The choice passes the reference's range test. -/
theorem refOk_apply : refOk G (ix2 t 0) = 1#1 := by
  have h := refCol_apply hG
  pointwise [refOk]
  rw [Finset.univ_unique, Finset.fold_singleton]
  show IntOp.andi (IntOp.andi (IntOp.cmpi CmpIPredicate.sge (refCol G (ix3 t 0 0)) 0#32)
          (IntOp.cmpi CmpIPredicate.sle (refCol G (ix3 t 0 0)) 63#32)) 1#1 = 1#1
  rw [h]; exact range_word n

/-- The gathered matrix of a row is its expert's. -/
theorem refMat_apply (j : Fin 256) (h : Fin 512) : refMat G W (ix3 t j h) = W (ix3 n j h) := by
  have hv := refVec_apply hG
  unfold refMat Host.gather
  refine congrArg W ?_
  funext a
  refine Fin.ext ?_
  match a with
  | ⟨0, _⟩ =>
    have hi : gather_S64x256x512_S8192x1_S8192x256x512_12_0_n_n_0_1_1256512.siIdx (ix3 t j h) ⟨0, Nat.zero_lt_one⟩ = ix2 t 0 := by
      funext b; refine Fin.ext ?_
      match b with
      | ⟨0, _⟩ => rfl
      | ⟨1, _⟩ => rfl
    show min (refVec G (gather_S64x256x512_S8192x1_S8192x256x512_12_0_n_n_0_1_1256512.siIdx (ix3 t j h) ⟨0, Nat.zero_lt_one⟩)).toInt.toNat 63 + 0 + 0 = n.val
    rw [hi, hv]; exact clamp_word n
  | ⟨1, _⟩ => exact (Nat.zero_add j.val)
  | ⟨2, _⟩ => exact (Nat.zero_add h.val)

/-- The gate of a row is the softmax at its expert. -/
theorem refGate_apply : refGate X RW G (ix2 t 0) = rowProb (fun k => ∑ j, X (ix2 t j) * RW (ix2 j k)) n := by
  have hv := refCol_apply hG
  rw [← refProbs_apply]
  unfold refGate Host.gather
  refine congrArg (refProbs X RW) ?_
  funext a
  refine Fin.ext ?_
  match a with
  | ⟨0, _⟩ => exact (Nat.zero_add t.val)
  | ⟨1, _⟩ =>
    have hi : gather_S8192x64_S8192x1x1_S8192x1_n_1_0_0_1_2_11.siIdx (ix2 t 0) ⟨0, Nat.zero_lt_one⟩ = ix3 t 0 0 := by
      funext b; refine Fin.ext ?_
      match b with
      | ⟨0, _⟩ => rfl
      | ⟨1, _⟩ => rfl
      | ⟨2, _⟩ => rfl
    show min (refCol G (gather_S8192x64_S8192x1x1_S8192x1_n_1_0_0_1_2_11.siIdx (ix2 t 0) ⟨0, Nat.zero_lt_one⟩)).toInt.toNat 63 + 0 + 0 = n.val
    rw [hi, hv]; exact clamp_word n

/-- A row of the reference: the shared product plus the softmax of the chosen expert times the product with its matrix. -/
theorem refOf_apply (h : Fin 512) : refOf X RW G W SW (ix2 t h)
    = ∑ j, X (ix2 t j) * SW (ix2 j h) + rowProb (fun k => ∑ j, X (ix2 t j) * RW (ix2 j k)) n * ∑ j, X (ix2 t j) * W (ix3 n j h) := by
  pointwise [refOf]
  rw [refOk_apply hG, refGate_apply X RW hG]
  simp only [refMat_apply W hG]
  rfl
end Reads

end Cert.Moe

end
-- ==== Proof.KOut.lean ====
/-
What the kernel sends, multiplies and adds up, at an index over extended reals.
-/
module

public import proofs.«01_k».proof.Proof.KVal
public import proofs.«01_k».proof.Proof.RVal

@[expose] public section

set_option maxRecDepth 16384

noncomputable section

namespace Cert.Moe

open Idealize.ShloMosaic Idealize.SL.Sem
open Cert.KernelIdeal Cert.KernelIdeal.Gen

variable {N : Fin 512 → Fin 64} {g : Vec Ideal S512x1 .i32}

/-- The remainder of an expert's number by four, taking the divisor's sign, is its number on the device. -/
theorem rem_word : ∀ n : Fin 64, Scalar.select (IntOp.andi
      (IntOp.xori (IntOp.cmpi .slt (IntOp.remsi ArithUnit.vector (BitVec.ofNat 32 n.val) (Scalar.select (Scalar.cmpi CmpIPredicate.eq 4#32 0#32) 1#32 4#32)) 0#32) (Scalar.cmpi .slt (Scalar.select (Scalar.cmpi CmpIPredicate.eq 4#32 0#32) 1#32 4#32) 0#32))
      (IntOp.cmpi .ne (IntOp.remsi ArithUnit.vector (BitVec.ofNat 32 n.val) (Scalar.select (Scalar.cmpi CmpIPredicate.eq 4#32 0#32) 1#32 4#32)) 0#32))
    (IntOp.addi (IntOp.remsi ArithUnit.vector (BitVec.ofNat 32 n.val) (Scalar.select (Scalar.cmpi CmpIPredicate.eq 4#32 0#32) 1#32 4#32)) (Scalar.select (Scalar.cmpi CmpIPredicate.eq 4#32 0#32) 1#32 4#32))
    (IntOp.remsi ArithUnit.vector (BitVec.ofNat 32 n.val) (Scalar.select (Scalar.cmpi CmpIPredicate.eq 4#32 0#32) 1#32 4#32)) = BitVec.ofNat 32 (n.val % 4) := by
  decide

/-- A small word read as a number. -/
theorem nat_of_word (r : Nat) (hr : r < 4) : FloatOps.sitofp (F := Ideal) .bf16 (BitVec.ofNat 32 r) = ((r : ℝ) : EReal) := by
  have : (BitVec.ofNat 32 r).toInt = (r : Int) := by
    rw [BitVec.toInt_eq_toNat_of_lt] <;> simp only [BitVec.toNat_ofNat] <;> omega
  show (((BitVec.ofNat 32 r).toInt : ℝ) : EReal) = _
  rw [this, Int.cast_natCast]

/-- The row sent for a token: its entries first, then its expert's number on the device. -/
theorem payload_x (x : Vec Ideal S512x256 .bf16) (t : Fin 512) (j : Fin 256) :
    k0_pay7 (k0_pay1 (F := Ideal) g) x (ix2 t (⟨j.val, by omega⟩ : Fin 384)) = x (ix2 t j) := by
  pointwise [k0_pay7, k0_pay6, k0_pay1]

/-- The entry after the token's holds its expert's number on the device. -/
theorem payload_num (hg : ∀ t : Fin 512, g (ix2 t 0) = BitVec.ofNat 32 (N t).val) (x : Vec Ideal S512x256 .bf16) (t : Fin 512) :
    k0_pay7 (k0_pay1 (F := Ideal) g) x (ix2 t (256 : Fin 384)) = (((numOf N t).val : ℝ) : EReal) := by
  pointwise [k0_pay7, k0_pay6, k0_pay1]
  rw [hg t, rem_word (N t)]
  exact nat_of_word _ (by omega)

/-- The slot of a token on its device holds that token's row. -/
theorem xd_apply (hg : ∀ t : Fin 512, g (ix2 t 0) = BitVec.ofNat 32 (N t).val) (hf : Fits N) (x : Vec Ideal S512x256 .bf16) (t : Fin 512) (j : Fin 384) :
    xdOf (F := Ideal) x g (ix3 (devOf N t) (⟨rankOf N t, rank_lt hf t⟩ : Fin 96) j) = k0_pay7 (k0_pay1 (F := Ideal) g) x (ix2 t j) := by
  have hp := fun s q => p_apply (g := g) hg hf s q
  generalize hP : pOf (F := Ideal) g = P at hp
  rw [pOf] at hP
  generalize hpl : k0_pay7 (k0_pay1 (F := Ideal) g) x = pl
  pointwise [xdOf, k0_pay10]
  rw [hP, hpl, Finset.sum_eq_single t]
  · refine (congrArg (· * _) ((hp t _).trans (if_pos (Fin.ext rfl)))).trans (one_mul _)
  · intro s _ hs
    rw [hp, if_neg, zero_mul]
    intro hq
    exact hs (slot_inj hf (Fin.ext (congrArg Fin.val hq).symm))
  · intro h; exact absurd (Finset.mem_univ _) h

/-- The bf16 pattern the kernel compares with for its third expert is two. -/
theorem bf16_two : Ideal.ofBits .bf16 16384#16 = ((2 : ℝ) : EReal) := by
  simp [Ideal.ofBits, Ideal.ieee, -EReal.coe_mul]; norm_num
/-- And for its fourth expert, three. -/
theorem bf16_three : Ideal.ofBits .bf16 16448#16 = ((3 : ℝ) : EReal) := by
  simp [Ideal.ofBits, Ideal.ieee, -EReal.coe_mul]; norm_num

/-- The four experts' matrices stacked: row `256 n + j` is row `j` of expert `n`. -/
theorem stack_apply (ew : Vec Ideal S4x256x512 .bf16) (n : Fin 4) (j : Fin 256) (h : Fin 512) :
    k0_pay15 (F := Ideal) ew (ix2 (⟨n.val * 256 + j.val, by omega⟩ : Fin 1024) h) = ew (ix3 n j h) := by
  pointwise [k0_pay15]

/-- A sum over 1024 terms as four sums over 256. -/
theorem sum_stack (f : Fin 1024 → EReal) : ∑ x, f x = ∑ n : Fin 4, ∑ j : Fin 256, f (⟨n.val * 256 + j.val, by omega⟩ : Fin 1024) := by
  rw [← Fintype.sum_prod_type' (fun (n : Fin 4) (j : Fin 256) => f (⟨n.val * 256 + j.val, by omega⟩ : Fin 1024))]
  refine (Fintype.sum_equiv (finProdFinEquiv (m := 4) (n := 256)) (fun p : Fin 4 × Fin 256 => f (⟨p.1.val * 256 + p.2.val, by omega⟩ : Fin 1024)) f fun p => congrArg f (Fin.ext ?_)).symm
  show p.1.val * 256 + p.2.val = p.2.val + 256 * p.1.val
  omega

/-- Natural numbers are told apart as extended reals. -/
theorem num_eq (n m : Nat) : (((n : ℝ) : EReal) = ((m : ℝ) : EReal)) ↔ n = m := by rw [EReal.coe_eq_coe_iff, Nat.cast_inj]

/-- A row that names expert `n` is multiplied by that expert's matrix only. -/
theorem y_apply (w : FVec Ideal S1024x512 .bf16) (xg : Vec Ideal S1x96x384 .bf16) (k : Fin 96) (h : Fin 512) (n : Fin 4)
    (hn : xg (ix3 0 k (256 : Fin 384)) = ((n.val : ℝ) : EReal)) :
    yOf (F := Ideal) w xg (ix3 0 k h) = ∑ j : Fin 256, xg (ix3 0 k (⟨j.val, by omega⟩ : Fin 384)) * w (ix2 (⟨n.val * 256 + j.val, by omega⟩ : Fin 1024) h) := by
  have e0 : xg (ix3 0 k (256 : Fin 384)) = 0 ↔ n = 0 := by
    have h0 := num_eq n.val 0
    rw [Nat.cast_zero, EReal.coe_zero] at h0
    rw [hn, Fin.ext_iff]; exact h0
  have e1 : xg (ix3 0 k (256 : Fin 384)) = 1 ↔ n = 1 := by
    have h1 := num_eq n.val 1
    rw [Nat.cast_one, EReal.coe_one] at h1
    rw [hn, Fin.ext_iff]; exact h1
  have e2 : xg (ix3 0 k (256 : Fin 384)) = Ideal.ofBits .bf16 16384#16 ↔ n = 2 := by
    rw [hn, Fin.ext_iff, bf16_two]; exact num_eq n.val 2
  have e3 : xg (ix3 0 k (256 : Fin 384)) = Ideal.ofBits .bf16 16448#16 ↔ n = 3 := by
    rw [hn, Fin.ext_iff, bf16_three]; exact num_eq n.val 3
  pointwise [yOf, k0_pay52]
  simp only [e0, e1, e2, e3]
  rw [sum_stack, Finset.sum_eq_single n]
  · refine Finset.sum_congr rfl fun j _ => congrArg (· * _) ?_
    fin_cases n <;> simp
    all_goals split_ifs <;> first | omega | exact congrArg (fun q => xg (ix3 0 k q)) (Fin.ext (by simp only []; omega))
  · intro p _ hp
    refine Finset.sum_eq_zero fun j _ => ?_
    rw [mul_eq_zero]
    left
    fin_cases n <;> fin_cases p <;> simp at hp ⊢
    all_goals intros; omega
  · intro h; exact absurd (Finset.mem_univ _) h

/-- The shared expert's part of the result. -/
theorem shared_apply (x : Vec Ideal S512x256 .bf16) (sw : Vec Ideal S256x512 .bf16) (t h : Fin 512) :
    k0_pay12 (F := Ideal) (k0_pay6 x) sw (ix2 t h) = ∑ j, x (ix2 t j) * sw (ix2 j h) := by
  pointwise [k0_pay12, k0_pay6]

/-- The gate: the softmax of the router's scores at the chosen expert. -/
theorem gate_apply (hg : ∀ t : Fin 512, g (ix2 t 0) = BitVec.ofNat 32 (N t).val) (x : Vec Ideal S512x256 .bf16) (rw : Vec Ideal S256x64 .bf16) (t : Fin 512) :
    k0_pay14 (k0_pay13 (k0_pay1 (F := Ideal) g) x rw) (ix2 t 0) = rowProb (fun k => ∑ j, x (ix2 t j) * rw (ix2 j k)) (N t) := by
  pointwise [k0_pay14, k0_pay13, k0_pay1]
  rw [hg, Finset.sum_eq_single (N t)]
  · rw [sel_one (cmpi_eq_one.2 rfl)]; rfl
  · intro e _ he
    rw [sel_not]
    intro hc
    have := congrArg BitVec.toNat (cmpi_eq_one.1 hc)
    simp only [BitVec.toNat_ofNat] at this
    exact he (Fin.ext (by have := e.isLt; have := (N t).isLt; omega))
  · intro h; exact absurd (Finset.mem_univ _) h

/-- The result: the shared part plus the gate times the row that came back for the token. -/
theorem back_apply (hg : ∀ t : Fin 512, g (ix2 t 0) = BitVec.ofNat 32 (N t).val) (hf : Fits N) (a : FVec Ideal S512x512 .f32) (b : FVec Ideal S512x1 .f32)
    (yr : Vec Ideal S16x96x512 .bf16) (t h : Fin 512) :
    k0_pay97 (F := Ideal) a b (k0_pay96 (pOf (F := Ideal) g) yr) (ix2 t h)
      = a (ix2 t h) + b (ix2 t 0) * yr (ix3 (devOf N t) (⟨rankOf N t, rank_lt hf t⟩ : Fin 96) h) := by
  have hp := fun q => p_apply (g := g) hg hf t q
  generalize pOf (F := Ideal) g = P at hp
  have hk := rank_lt hf t
  pointwise [k0_pay97, k0_pay96]
  rw [Finset.sum_eq_single (slotOf hf t)]
  · rw [hp, if_pos rfl, one_mul]
    have h1 : (slotOf hf t).val / 96 = (devOf N t).val := by simp only [slotOf]; omega
    have h2 : (slotOf hf t).val % 96 = rankOf N t := by simp only [slotOf]; omega
    simp only [h1, h2]
  · intro q _ hq
    rw [hp, if_neg hq, zero_mul]
  · intro h; exact absurd (Finset.mem_univ _) h

end Cert.Moe

end
-- ==== Proof.Value.lean ====
/-
The value claim: under the precondition each device's result is its block of the reference's.
-/
module

public import proofs.«01_k».proof.Proof.Capacity
public import proofs.«01_k».proof.Proof.KOut
public import proofs.«01_k».proof.Proof.Result
public import proofs.«01_k».proof.Proof.Gen.Pre_within_capacity_ReferenceIdeal
public import Idealize.ShloMosaic.Lib.LayoutAt

@[expose] public section

set_option maxRecDepth 16384

noncomputable section

namespace Cert.Moe

open Idealize.ShloMosaic Idealize.SL.Sem
open Cert.KernelIdeal Cert.KernelIdeal.Gen

section Kernel
variable (m : (ℓ : Loc nD τ sig) → Buf (Elt Ideal) ℓ)

/-- The tokens the kernel sees are the whole first argument. -/
theorem xin_eq (c : Dev nD) : xin m c = m ((c.tc : Thread nD τ).loc main_arg0) :=
  funext fun y => congrArg (m ((c.tc : Thread nD τ).loc main_arg0)) (funext fun a => Fin.ext (Pipeline.Window.rect_emb_val_of_index_zero (cfg0.win 0) t0_0 a (by fin_cases a <;> rfl) y))
/-- The router's matrix is the whole second argument. -/
theorem rwin_eq (c : Dev nD) : rwin m c = m ((c.tc : Thread nD τ).loc main_arg1) :=
  funext fun y => congrArg (m ((c.tc : Thread nD τ).loc main_arg1)) (funext fun a => Fin.ext (Pipeline.Window.rect_emb_val_of_index_zero (cfg0.win 1) t0_0 a (by fin_cases a <;> rfl) y))
/-- The choices of expert are the whole third argument. -/
theorem gin_eq (c : Dev nD) : gin m c = m ((c.tc : Thread nD τ).loc main_arg2) :=
  funext fun y => congrArg (m ((c.tc : Thread nD τ).loc main_arg2)) (funext fun a => Fin.ext (Pipeline.Window.rect_emb_val_of_index_zero (cfg0.win 2) t0_0 a (by fin_cases a <;> rfl) y))
/-- The experts' matrices are the whole fourth argument. -/
theorem ewin_eq (c : Dev nD) : ewin m c = m ((c.tc : Thread nD τ).loc main_arg3) :=
  funext fun y => congrArg (m ((c.tc : Thread nD τ).loc main_arg3)) (funext fun a => Fin.ext (Pipeline.Window.rect_emb_val_of_index_zero (cfg0.win 3) t0_0 a (by fin_cases a <;> rfl) y))
/-- The shared expert's matrix is the whole fifth argument. -/
theorem swin_eq (c : Dev nD) : swin m c = m ((c.tc : Thread nD τ).loc main_arg4) :=
  funext fun y => congrArg (m ((c.tc : Thread nD τ).loc main_arg4)) (funext fun a => Fin.ext (Pipeline.Window.rect_emb_val_of_index_zero (cfg0.win 4) t0_0 a (by fin_cases a <;> rfl) y))

/-- Slot `s` read out of an array of slots. -/
theorem rdX_apply (f : ContX Ideal) (s : Fin 16) (k : Fin 96) (j : Fin 384) : rdX f s (ix3 (0 : Fin 1) k j) = f (ix3 s k j) := by
  refine congrArg f (funext fun a => ?_)
  fin_cases a
  · exact Fin.ext (by show s.val + 1 * 0 = s.val; omega)
  · exact Fin.ext (by show 0 + 1 * k.val = k.val; omega)
  · exact Fin.ext (by show 0 + 1 * j.val = j.val; omega)

variable {m} {c : Dev nD} {N : Fin 512 → Fin 64}

/-- The row that comes back for token `t`: the token's entries times its expert's matrix. -/
theorem back_row (hg : ∀ t : Fin 512, gin m c (ix2 t 0) = BitVec.ofNat 32 (N t).val) (hf : Fits N) (t h : Fin 512) :
    YR m c (ix3 (devOf N t) (⟨rankOf N t, rank_lt hf t⟩ : Fin 96) h)
      = ∑ j : Fin 256, xin m c (ix2 t j) * ewin m (devOf N t) (ix3 (numOf N t) j h) := by
  have hrow (j : Fin 384) : rdX (XR m (devOf N t)) c (ix3 (0 : Fin 1) (⟨rankOf N t, rank_lt hf t⟩ : Fin 96) j) = k0_pay7 (k0_pay1 (F := Ideal) (gin m c)) (xin m c) (ix2 t j) := by
    rw [rdX_apply]
    refine Eq.trans ?_ (xd_apply hg hf (xin m c) t j)
    show xdOf (xin m c) (gin m c) (atX (devOf N t) _) = _
    refine congrArg _ (funext fun a => ?_)
    fin_cases a <;> rfl
  have hy : YR m c (ix3 (devOf N t) (⟨rankOf N t, rank_lt hf t⟩ : Fin 96) h)
      = yOf (F := Ideal) (k0_pay15 (ewin m (devOf N t))) (rdX (XR m (devOf N t)) c) (ix3 (0 : Fin 1) (⟨rankOf N t, rank_lt hf t⟩ : Fin 96) h) := by
    show yOf (F := Ideal) (k0_pay15 (ewin m (devOf N t))) (rdX (XR m (devOf N t)) c) (lowY _) = _
    refine congrArg _ (funext fun a => ?_)
    fin_cases a <;> rfl
  rw [hy, y_apply _ _ _ h (numOf N t) ((hrow 256).trans (payload_num hg _ t))]
  refine Finset.sum_congr rfl fun j _ => ?_
  rw [stack_apply]
  exact congrArg (· * _) ((hrow _).trans (payload_x _ t j))

/-- The kernel's result at a row and a column. -/
theorem out_apply (hg : ∀ t : Fin 512, gin m c (ix2 t 0) = BitVec.ofNat 32 (N t).val) (hf : Fits N) (t h : Fin 512) :
    OUT m c (ix2 t h) = ∑ j, xin m c (ix2 t j) * swin m c (ix2 j h)
      + rowProb (fun k => ∑ j, xin m c (ix2 t j) * rwin m c (ix2 j k)) (N t) * ∑ j : Fin 256, xin m c (ix2 t j) * ewin m (devOf N t) (ix3 (numOf N t) j h) := by
  rw [← back_row hg hf t h, ← shared_apply, ← gate_apply hg]
  exact back_apply hg hf _ _ _ t h

end Kernel

section Blocks
variable {α : Type}

/-- Block `c` of an array cut along its rows, at an index. -/
theorem rows_apply {b : Nat} (c : Fin 16) (f : (⟨2, ![8192, b]⟩ : Shape).Idx → α) (hT : Layout.Tiles ⟨2, ![512, b]⟩ ⟨2, ![8192, b]⟩ 0 16) (t : Fin 512) (j : Fin b) :
    Layout.block ⟨2, ![512, b]⟩ ⟨2, ![8192, b]⟩ 0 16 c f hT (ix2 t j) = f (ix2 (⟨c.val * 512 + t.val, by omega⟩ : Fin 8192) j) := by
  refine congrArg f (funext fun a => ?_)
  fin_cases a <;> exact Fin.ext rfl
/-- Block `c` of the experts' matrices, at an index. -/
theorem experts_apply (c : Fin 16) (f : (⟨3, ![64, 256, 512]⟩ : Shape).Idx → α) (hT : Layout.Tiles ⟨3, ![4, 256, 512]⟩ ⟨3, ![64, 256, 512]⟩ 0 16) (q : Fin 4) (j : Fin 256) (h : Fin 512) :
    Layout.block ⟨3, ![4, 256, 512]⟩ ⟨3, ![64, 256, 512]⟩ 0 16 c f hT (ix3 q j h) = f (ix3 (⟨c.val * 4 + q.val, by omega⟩ : Fin 64) j h) := by
  refine congrArg f (funext fun a => ?_)
  fin_cases a <;> exact Fin.ext rfl

end Blocks

section Equal
variable (m : (ℓ : Loc nD τ sig) → Buf (Elt Ideal) ℓ) (X : FVec Ideal Cert.ReferenceIdeal.S8192x256 .bf16) (RW : FVec Ideal Cert.ReferenceIdeal.S256x64 .bf16)
  (G : IVec Cert.ReferenceIdeal.S8192x1 32) (W : FVec Ideal Cert.ReferenceIdeal.S64x256x512 .bf16) (SW : FVec Ideal Cert.ReferenceIdeal.S256x512 .bf16)

/-- Each device's result is its block of rows of the reference's result. -/
theorem out_eq (hx : ∀ c : Dev nD, m ((c.tc : Thread nD τ).loc main_arg0) = Layout.block ⟨2, ![512, 256]⟩ ⟨2, ![8192, 256]⟩ 0 16 c X)
    (hrw : ∀ c : Dev nD, m ((c.tc : Thread nD τ).loc main_arg1) = RW)
    (hgr : ∀ c : Dev nD, m ((c.tc : Thread nD τ).loc main_arg2) = Layout.block ⟨2, ![512, 1]⟩ ⟨2, ![8192, 1]⟩ 0 16 c G)
    (hew : ∀ c : Dev nD, m ((c.tc : Thread nD τ).loc main_arg3) = Layout.block ⟨3, ![4, 256, 512]⟩ ⟨3, ![64, 256, 512]⟩ 0 16 c W)
    (hsw : ∀ c : Dev nD, m ((c.tc : Thread nD τ).loc main_arg4) = SW)
    (hpre : Cert.Pre_KernelIdeal_within_capacity_KernelIdeal m) (c : Dev nD) :
    OUT m c = Layout.block ⟨2, ![512, 512]⟩ ⟨2, ![8192, 512]⟩ 0 16 c (refOf X RW G W SW) := by
  obtain ⟨N, hg, hf⟩ := choices _ _ _ _ _ (hpre c)
  rw [← gin_eq m c] at hg
  funext i
  obtain ⟨t, h, rfl⟩ : ∃ (t h : Fin 512), i = ix2 t h := ⟨i 0, i 1, (ix2_eta i).symm⟩
  have hc : c.val < 16 := c.isLt
  rw [out_apply hg hf, rows_apply]
  have hG : G (ix2 (⟨c.val * 512 + t.val, by omega⟩ : Fin 8192) 0) = BitVec.ofNat 32 (N t).val := by
    rw [← hg t, gin_eq, hgr, rows_apply]
  rw [refOf_apply X RW W SW hG h, xin_eq, rwin_eq, ewin_eq, swin_eq, hx, hrw, hew, hsw]
  simp only [rows_apply, experts_apply]
  have hN : (⟨(devOf N t).val * 4 + (numOf N t).val, by omega⟩ : Fin 64) = N t := Fin.ext (by simp only [devOf, numOf]; omega)
  rw [hN]

end Equal

/-- Under the precondition, the kernel's result on every device is its block of the reference's result; both programs end with their arguments as
they were. -/
theorem algebraic : Cert.algebraic_KernelIdeal_ReferenceIdeal_pre_within_capacity_KernelIdeal := by
  intro m g m' g' hpre hag
  refine ⟨refOf (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3))
    (m' (((0 : Dev Cert.ReferenceIdeal.nD).tc : Thread Cert.ReferenceIdeal.nD Cert.ReferenceIdeal.τ).loc Cert.ReferenceIdeal.main_arg4)),
    (θ_run _ _ _).mono (fun r h c => ?_) (run_full (F := Ideal) m g),
    (θ_run _ _ _).mono (fun r h => ?_) (ref_run m' g')⟩
  · have := h.1 c
    exact ⟨this.1.trans (out_eq m _ _ _ _ _ (fun c => (hag c).1) (fun c => (hag c).2.1) (fun c => (hag c).2.2.1) (fun c => (hag c).2.2.2.1) (fun c => (hag c).2.2.2.2) hpre c), this.2⟩
  · exact h 0

end Cert.Moe

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.FrameBits
public import proofs.«01_k».proof.Proof.RefFrame
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.Pre_within_capacity_KernelIdeal.Gen.facts, Cert.Pre_within_capacity_ReferenceIdeal.Gen.facts,
    Cert.Moe.frame_kernel, Cert.Moe.frame_ideal, fun m ρ _ => Cert.Moe.frame_ideal m ρ trivial, Cert.Moe.frame_ref,
    fun m ρ _ => Cert.Moe.frame_ref m ρ trivial, trivial, Cert.Moe.algebraic⟩

end Cert.Proof

end
